-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2))
      ∧ r.2.sem = fun _ => 0)

def preserves_Kernel_KernelIdeal : Prop :=
  IdealRules.named_const.Statement Cert.KernelIdeal.κ "gelu_a" .f32 0xBDD2D3E8#32 (((12003091 / 268435456) * (-((2 * (6693141 / 8388608)) * (Real.log 2)⁻¹)) : ℝ) : EReal)
  ∧ IdealRules.named_const.Statement Cert.KernelIdeal.κ "gelu_b" .f32 0xC0135761#32 ((-((2 * (6693141 / 8388608)) * (Real.log 2)⁻¹) : ℝ) : EReal)
  ∧ IdealRules.named_const.Statement Cert.KernelIdeal.κ "neg_log2e" .f32 0xBFB8AA3B#32 ((-((Real.log 2)⁻¹) : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Qkv_QkvIdeal : Prop :=
  IdealRules.named_const.Statement Cert.QkvIdeal.κ "logit_scale" .f32 0x3E38AA3B#32 (((1 / 8) * (Real.log 2)⁻¹ : ℝ) : EReal)

def algebraic_QkvIdeal_QkvReferenceIdeal [hQkvIdeal : Cert.QkvIdeal.Facts] [hQkvReferenceIdeal : Cert.QkvReferenceIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)
      ∧ m' ((c.tc : Thread Cert.QkvReferenceIdeal.nD Cert.QkvReferenceIdeal.τ).loc Cert.QkvReferenceIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v1_0)) (v1 : (c : Dev Cert.QkvIdeal.nD) → Buf (Elt Ideal) ((c.tc : Thread Cert.QkvIdeal.nD Cert.QkvIdeal.τ).loc Cert.QkvIdeal.main_v1_1)) (v2 : (c : Dev Cert.QkvIdeal.nD) → Buf (Elt Ideal) ((c.tc : Thread Cert.QkvIdeal.nD Cert.QkvIdeal.τ).loc Cert.QkvIdeal.main_v1_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v1_0) = v0 c
          ∧ r.2.mem ((c.tc : Thread Cert.QkvIdeal.nD Cert.QkvIdeal.τ).loc Cert.QkvIdeal.main_v1_1) = v1 c
          ∧ r.2.mem ((c.tc : Thread Cert.QkvIdeal.nD Cert.QkvIdeal.τ).loc Cert.QkvIdeal.main_v1_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v40) = v0 c
          ∧ r.2.mem ((c.tc : Thread Cert.QkvReferenceIdeal.nD Cert.QkvReferenceIdeal.τ).loc Cert.QkvReferenceIdeal.main_v59) = v1 c
          ∧ r.2.mem ((c.tc : Thread Cert.QkvReferenceIdeal.nD Cert.QkvReferenceIdeal.τ).loc Cert.QkvReferenceIdeal.main_v78) = v2 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2))

def Claim : Prop :=
  ∃ (hKernel : Cert.Kernel.Facts) (hKernelIdeal : Cert.KernelIdeal.Facts) (hReferenceIdeal : Cert.ReferenceIdeal.Facts) (hQkv : Cert.Qkv.Facts) (hQkvIdeal : Cert.QkvIdeal.Facts) (hQkvReferenceIdeal : Cert.QkvReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Qkv (hQkv := hQkv)
    ∧ quiescent_QkvIdeal (hQkvIdeal := hQkvIdeal)
    ∧ quiescent_QkvReferenceIdeal (hQkvReferenceIdeal := hQkvReferenceIdeal)
    ∧ preserves_Kernel_KernelIdeal
    ∧ algebraic_KernelIdeal_ReferenceIdeal (hKernelIdeal := hKernelIdeal) (hReferenceIdeal := hReferenceIdeal)
    ∧ preserves_Qkv_QkvIdeal
    ∧ algebraic_QkvIdeal_QkvReferenceIdeal (hQkvIdeal := hQkvIdeal) (hQkvReferenceIdeal := hQkvReferenceIdeal)
-- ==== Kernel.lean ====
abbrev S2x8192x1024 : Shape := ⟨3, ![2, 8192, 1024]⟩
abbrev S2x1024 : Shape := ⟨2, ![2, 1024]⟩
abbrev S1x1024x6144 : Shape := ⟨3, ![1, 1024, 6144]⟩
abbrev S1x16x128x128 : Shape := ⟨4, ![1, 16, 128, 128]⟩
abbrev S1x16x128 : Shape := ⟨3, ![1, 16, 128]⟩
abbrev S1x2048 : Shape := ⟨2, ![1, 2048]⟩
abbrev S1x2048x1024 : Shape := ⟨3, ![1, 2048, 1024]⟩
abbrev S16x128 : Shape := ⟨2, ![16, 128]⟩
abbrev S16x128x1 : Shape := ⟨3, ![16, 128, 1]⟩
abbrev S16x128x128 : Shape := ⟨3, ![16, 128, 128]⟩
abbrev S16384x1024 : Shape := ⟨2, ![16384, 1024]⟩
abbrev S1x1024 : Shape := ⟨2, ![1, 1024]⟩
abbrev S512x1024 : Shape := ⟨2, ![512, 1024]⟩
abbrev S1024x6144 : Shape := ⟨2, ![1024, 6144]⟩
abbrev S2048x1024 : Shape := ⟨2, ![2048, 1024]⟩
abbrev S4x32x6144 : Shape := ⟨3, ![4, 32, 6144]⟩
abbrev S4x256x1024 : Shape := ⟨3, ![4, 256, 1024]⟩
abbrev S4 : Shape := ⟨1, ![4]⟩
abbrev S512x2048 : Shape := ⟨2, ![512, 2048]⟩
abbrev S1 : Shape := ⟨1, ![1]⟩
abbrev S_ : Shape := ⟨0, ![]⟩
abbrev S1x32x6144 : Shape := ⟨3, ![1, 32, 6144]⟩
abbrev S32x6144 : Shape := ⟨2, ![32, 6144]⟩
abbrev S1x32x2048 : Shape := ⟨3, ![1, 32, 2048]⟩
abbrev S32x2048 : Shape := ⟨2, ![32, 2048]⟩
abbrev S1x32x256 : Shape := ⟨3, ![1, 32, 256]⟩
abbrev S32x256 : Shape := ⟨2, ![32, 256]⟩
abbrev S1x256x1024 : Shape := ⟨3, ![1, 256, 1024]⟩
abbrev S256x1024 : Shape := ⟨2, ![256, 1024]⟩
abbrev S512 : Shape := ⟨1, ![512]⟩
abbrev S512x1 : Shape := ⟨2, ![512, 1]⟩
abbrev S1024x2048 : Shape := ⟨2, ![1024, 2048]⟩
abbrev S1024x512 : Shape := ⟨2, ![1024, 512]⟩
abbrev S512x512 : Shape := ⟨2, ![512, 512]⟩
abbrev S512x256 : Shape := ⟨2, ![512, 256]⟩
abbrev S128x128 : Shape := ⟨2, ![128, 128]⟩
abbrev S128x512 : Shape := ⟨2, ![128, 512]⟩
abbrev S1x128x128 : Shape := ⟨3, ![1, 128, 128]⟩

abbrev nBuf : Space → Nat
  | .hbm => 17
  | .vmem => 17
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S2x1024, .f32⟩
  | .hbm, ⟨3, _⟩ => ⟨S1x1024x6144, .f32⟩
  | .hbm, ⟨4, _⟩ => ⟨S1x16x128x128, .f32⟩
  | .hbm, ⟨5, _⟩ => ⟨S1x16x128, .f32⟩
  | .hbm, ⟨6, _⟩ => ⟨S1x2048, .f32⟩
  | .hbm, ⟨7, _⟩ => ⟨S1x2048, .f32⟩
  | .hbm, ⟨8, _⟩ => ⟨S1x2048x1024, .f32⟩
  | .hbm, ⟨9, _⟩ => ⟨S16x128, .f32⟩
  | .hbm, ⟨10, _⟩ => ⟨S16x128x1, .f32⟩
  | .hbm, ⟨11, _⟩ => ⟨S16x128x128, .f32⟩
  | .hbm, ⟨12, _⟩ => ⟨S16384x1024, .f32⟩
  | .hbm, ⟨13, _⟩ => ⟨S1x1024, .f32⟩
  | .hbm, ⟨14, _⟩ => ⟨S1x1024, .f32⟩
  | .hbm, ⟨15, _⟩ => ⟨S16x128x128, .f32⟩
  | .hbm, ⟨16, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S16x128x128, .f32⟩
  | .local _ .vmem, ⟨5, _⟩ => ⟨S16x128x128, .f32⟩
  | .local _ .vmem, ⟨6, _⟩ => ⟨S1x2048, .f32⟩
  | .local _ .vmem, ⟨7, _⟩ => ⟨S1x2048, .f32⟩
  | .local _ .vmem, ⟨8, _⟩ => ⟨S512x1024, .f32⟩
  | .local _ .vmem, ⟨9, _⟩ => ⟨S512x1024, .f32⟩
  | .local _ .vmem, ⟨10, _⟩ => ⟨S1024x6144, .bf16⟩
  | .local _ .vmem, ⟨11, _⟩ => ⟨S2048x1024, .bf16⟩
  | .local _ .vmem, ⟨12, _⟩ => ⟨S4x32x6144, .f32⟩
  | .local _ .vmem, ⟨13, _⟩ => ⟨S4x256x1024, .f32⟩
  | .local _ .vmem, ⟨14, _⟩ => ⟨S512x2048, .bf16⟩
  | .local _ .vmem, ⟨15, _⟩ => ⟨S512x2048, .f32⟩
  | .local _ .vmem, ⟨16, _⟩ => ⟨S512x2048, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch6 : Ref sig .tc := ⟨.vmem, 14, rfl⟩
abbrev cc0_scratch7 : Ref sig .tc := ⟨.vmem, 15, rfl⟩
abbrev cc0_scratch8 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "gelu_a" => some (((12003091 / 268435456) * (-((2 * (6693141 / 8388608)) * (Real.log 2)⁻¹)) : ℝ) : EReal)
  | "gelu_b" => some ((-((2 * (6693141 / 8388608)) * (Real.log 2)⁻¹) : ℝ) : EReal)
  | "neg_log2e" => some ((-((Real.log 2)⁻¹) : ℝ) : EReal)
  | _ => none
-- ==== ReferenceIdeal.lean ====
abbrev S2x8192x1024 : Shape := ⟨3, ![2, 8192, 1024]⟩
abbrev S2x1024 : Shape := ⟨2, ![2, 1024]⟩
abbrev S1x1024x6144 : Shape := ⟨3, ![1, 1024, 6144]⟩
abbrev S1x16x128x128 : Shape := ⟨4, ![1, 16, 128, 128]⟩
abbrev S1x16x128 : Shape := ⟨3, ![1, 16, 128]⟩
abbrev S1x2048 : Shape := ⟨2, ![1, 2048]⟩
abbrev S1x2048x1024 : Shape := ⟨3, ![1, 2048, 1024]⟩
abbrev S1x1024 : Shape := ⟨2, ![1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x6144 : Shape := ⟨2, ![1024, 6144]⟩
abbrev S16x128x128 : Shape := ⟨3, ![16, 128, 128]⟩
abbrev S16x128 : Shape := ⟨2, ![16, 128]⟩
abbrev S2048 : Shape := ⟨1, ![2048]⟩
abbrev S2048x1024 : Shape := ⟨2, ![2048, 1024]⟩
abbrev S2x8192x6144 : Shape := ⟨3, ![2, 8192, 6144]⟩
abbrev S2x8192x2048 : Shape := ⟨3, ![2, 8192, 2048]⟩
abbrev S1x1x2048 : Shape := ⟨3, ![1, 1, 2048]⟩
abbrev S2x64x128x16x128 : Shape := ⟨5, ![2, 64, 128, 16, 128]⟩
abbrev S16x2x64x128x128 : Shape := ⟨5, ![16, 2, 64, 128, 128]⟩
abbrev S128x16 : Shape := ⟨2, ![128, 16]⟩
abbrev S1x1x128x16x1 : Shape := ⟨5, ![1, 1, 128, 16, 1]⟩
abbrev S16384x1024 : Shape := ⟨2, ![16384, 1024]⟩

abbrev nBuf : Space → Nat
  | .hbm => 138
  | .vmem => 0
  | .smem => 0
  | _ => 0

abbrev hbmTy0_0 (i : Nat) : BufTy := match i % 128 with
  | 0 => ⟨S2x8192x1024, .f32⟩
  | 1 => ⟨S2x1024, .f32⟩
  | 2 => ⟨S2x1024, .f32⟩
  | 3 => ⟨S1x1024x6144, .f32⟩
  | 4 => ⟨S1x16x128x128, .f32⟩
  | 5 => ⟨S1x16x128, .f32⟩
  | 6 => ⟨S1x2048, .f32⟩
  | 7 => ⟨S1x2048, .f32⟩
  | 8 => ⟨S1x2048x1024, .f32⟩
  | 9 => ⟨S1x1024, .f32⟩
  | 10 => ⟨S1024, .f32⟩
  | 11 => ⟨S2x8192x1024, .f32⟩
  | 12 => ⟨S_, .f32⟩
  | 13 => ⟨S2x8192, .f32⟩
  | 14 => ⟨S2x8192x1, .f32⟩
  | 15 => ⟨S_, .f32⟩
  | 16 => ⟨S2x8192x1, .f32⟩
  | 17 => ⟨S2x8192x1, .f32⟩
  | 18 => ⟨S_, .f32⟩
  | 19 => ⟨S2x8192x1, .f32⟩
  | 20 => ⟨S2x8192x1, .f32⟩
  | 21 => ⟨S2x8192x1, .f32⟩
  | 22 => ⟨S2x8192x1024, .f32⟩
  | 23 => ⟨S2x8192x1024, .f32⟩
  | 24 => ⟨S1x1x1024, .f32⟩
  | 25 => ⟨S2x8192x1024, .f32⟩
  | 26 => ⟨S2x8192x1024, .f32⟩
  | 27 => ⟨S1024x6144, .f32⟩
  | 28 => ⟨S16x128x128, .f32⟩
  | 29 => ⟨S16x128, .f32⟩
  | 30 => ⟨S2048, .f32⟩
  | 31 => ⟨S2048, .f32⟩
  | 32 => ⟨S2048x1024, .f32⟩
  | 33 => ⟨S2x8192x6144, .f32⟩
  | 34 => ⟨S2x8192x2048, .f32⟩
  | 35 => ⟨S2x8192x2048, .f32⟩
  | 36 => ⟨S2x8192x2048, .f32⟩
  | 37 => ⟨S2x8192x2048, .f32⟩
  | 38 => ⟨S2x8192x2048, .f32⟩
  | 39 => ⟨S_, .f32⟩
  | 40 => ⟨S2x8192x2048, .f32⟩
  | 41 => ⟨S2x8192x2048, .f32⟩
  | 42 => ⟨S2x8192x2048, .f32⟩
  | 43 => ⟨S_, .f32⟩
  | 44 => ⟨S2x8192x2048, .f32⟩
  | 45 => ⟨S2x8192x2048, .f32⟩
  | 46 => ⟨S2x8192x2048, .f32⟩
  | 47 => ⟨S_, .f32⟩
  | 48 => ⟨S2x8192x2048, .f32⟩
  | 49 => ⟨S2x8192x2048, .f32⟩
  | 50 => ⟨S_, .f32⟩
  | 51 => ⟨S2x8192x2048, .f32⟩
  | 52 => ⟨S2x8192x2048, .f32⟩
  | 53 => ⟨S2x8192x2048, .f32⟩
  | 54 => ⟨S2x8192x2048, .f32⟩
  | 55 => ⟨S2x8192x2048, .f32⟩
  | 56 => ⟨S_, .f32⟩
  | 57 => ⟨S2x8192x2048, .f32⟩
  | 58 => ⟨S2x8192x2048, .f32⟩
  | 59 => ⟨S2x8192x2048, .f32⟩
  | 60 => ⟨S_, .f32⟩
  | 61 => ⟨S2x8192x2048, .f32⟩
  | 62 => ⟨S2x8192x2048, .f32⟩
  | 63 => ⟨S2x8192x2048, .f32⟩
  | 64 => ⟨S_, .f32⟩
  | 65 => ⟨S2x8192x2048, .f32⟩
  | 66 => ⟨S2x8192x2048, .f32⟩
  | 67 => ⟨S_, .f32⟩
  | 68 => ⟨S2x8192x2048, .f32⟩
  | 69 => ⟨S2x8192x2048, .f32⟩
  | 70 => ⟨S2x8192x2048, .f32⟩
  | 71 => ⟨S_, .f32⟩
  | 72 => ⟨S2x8192, .f32⟩
  | 73 => ⟨S2x8192x1, .f32⟩
  | 74 => ⟨S_, .f32⟩
  | 75 => ⟨S2x8192x1, .f32⟩
  | 76 => ⟨S2x8192x1, .f32⟩
  | 77 => ⟨S2x8192x2048, .f32⟩
  | 78 => ⟨S2x8192x2048, .f32⟩
  | 79 => ⟨S2x8192x2048, .f32⟩
  | 80 => ⟨S_, .f32⟩
  | 81 => ⟨S2x8192, .f32⟩
  | 82 => ⟨S2x8192x1, .f32⟩
  | 83 => ⟨S_, .f32⟩
  | 84 => ⟨S2x8192x1, .f32⟩
  | 85 => ⟨S2x8192x1, .f32⟩
  | 86 => ⟨S_, .f32⟩
  | 87 => ⟨S2x8192x1, .f32⟩
  | 88 => ⟨S2x8192x1, .f32⟩
  | 89 => ⟨S2x8192x1, .f32⟩
  | 90 => ⟨S2x8192x2048, .f32⟩
  | 91 => ⟨S2x8192x2048, .f32⟩
  | 92 => ⟨S1x1x2048, .f32⟩
  | 93 => ⟨S2x8192x2048, .f32⟩
  | 94 => ⟨S2x8192x2048, .f32⟩
  | 95 => ⟨S1x1x2048, .f32⟩
  | 96 => ⟨S2x8192x2048, .f32⟩
  | 97 => ⟨S2x8192x2048, .f32⟩
  | 98 => ⟨S2x64x128x16x128, .f32⟩
  | 99 => ⟨S16x2x64x128x128, .f32⟩
  | 100 => ⟨S2x64x128x16x128, .f32⟩
  | 101 => ⟨S128x16, .f32⟩
  | 102 => ⟨S1x1x128x16x1, .f32⟩
  | 103 => ⟨S2x64x128x16x128, .f32⟩
  | 104 => ⟨S2x64x128x16x128, .f32⟩
  | 105 => ⟨S2x8192x2048, .f32⟩
  | 106 => ⟨S2x8192x2048, .f32⟩
  | 107 => ⟨S2x8192x2048, .f32⟩
  | 108 => ⟨S2x8192x2048, .f32⟩
  | 109 => ⟨S_, .f32⟩
  | 110 => ⟨S2x8192x2048, .f32⟩
  | 111 => ⟨S2x8192x2048, .f32⟩
  | 112 => ⟨S_, .f32⟩
  | 113 => ⟨S2x8192x2048, .f32⟩
  | 114 => ⟨S2x8192x2048, .f32⟩
  | 115 => ⟨S2x8192x2048, .f32⟩
  | 116 => ⟨S2x8192x2048, .f32⟩
  | 117 => ⟨S2x8192x1024, .f32⟩
  | 118 => ⟨S1x1024, .f32⟩
  | 119 => ⟨S1024, .f32⟩
  | 120 => ⟨S2x8192x1024, .f32⟩
  | 121 => ⟨S_, .f32⟩
  | 122 => ⟨S2x8192, .f32⟩
  | 123 => ⟨S2x8192x1, .f32⟩
  | 124 => ⟨S_, .f32⟩
  | 125 => ⟨S2x8192x1, .f32⟩
  | 126 => ⟨S2x8192x1, .f32⟩
  | 127 => ⟨S_, .f32⟩
  | _ => ⟨S2x8192x1024, .f32⟩

abbrev hbmTy0_1 (i : Nat) : BufTy := match i % 128 with
  | 0 => ⟨S2x8192x1, .f32⟩
  | 1 => ⟨S2x8192x1, .f32⟩
  | 2 => ⟨S2x8192x1, .f32⟩
  | 3 => ⟨S2x8192x1024, .f32⟩
  | 4 => ⟨S2x8192x1024, .f32⟩
  | 5 => ⟨S1x1x1024, .f32⟩
  | 6 => ⟨S2x8192x1024, .f32⟩
  | 7 => ⟨S2x8192x1024, .f32⟩
  | 8 => ⟨S2x8192x1024, .f32⟩
  | 9 => ⟨S16384x1024, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_cst_9 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_10 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_cst_13 : Ref sig .tc := ⟨.hbm, 83, rfl⟩
abbrev main_v60 : Ref sig .tc := ⟨.hbm, 84, rfl⟩
abbrev main_v61 : Ref sig .tc := ⟨.hbm, 85, rfl⟩
abbrev main_cst_14 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_call0_v0 : Ref sig .tc := ⟨.hbm, 107, rfl⟩
abbrev main_call0_v1 : Ref sig .tc := ⟨.hbm, 108, rfl⟩
abbrev main_call0_cst : Ref sig .tc := ⟨.hbm, 109, rfl⟩
abbrev main_call0_v2 : Ref sig .tc := ⟨.hbm, 110, rfl⟩
abbrev main_call0_v3 : Ref sig .tc := ⟨.hbm, 111, rfl⟩
abbrev main_call0_cst_0 : Ref sig .tc := ⟨.hbm, 112, rfl⟩
abbrev main_call0_v4 : Ref sig .tc := ⟨.hbm, 113, rfl⟩
abbrev main_call0_v5 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_15 : Ref sig .tc := ⟨.hbm, 121, rfl⟩
abbrev main_v88 : Ref sig .tc := ⟨.hbm, 122, rfl⟩
abbrev main_v89 : Ref sig .tc := ⟨.hbm, 123, rfl⟩
abbrev main_cst_16 : Ref sig .tc := ⟨.hbm, 124, rfl⟩
abbrev main_v90 : Ref sig .tc := ⟨.hbm, 125, rfl⟩
abbrev main_v91 : Ref sig .tc := ⟨.hbm, 126, rfl⟩
abbrev main_cst_17 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩

abbrev nD : Nat := 1
abbrev τ : Topo := Topo.v7x

variable {F : FTy → Type} [FloatOps F]
-- ==== Qkv.lean ====
abbrev S2x8192x1024 : Shape := ⟨3, ![2, 8192, 1024]⟩
abbrev S2x1024 : Shape := ⟨2, ![2, 1024]⟩
abbrev S1x1024x10240 : Shape := ⟨3, ![1, 1024, 10240]⟩
abbrev S1x1024 : Shape := ⟨2, ![1, 1024]⟩
abbrev S2x1x8192x3072 : Shape := ⟨4, ![2, 1, 8192, 3072]⟩
abbrev S2x4x2048x3072 : Shape := ⟨4, ![2, 4, 2048, 3072]⟩
abbrev S2x16x512x3072 : Shape := ⟨4, ![2, 16, 512, 3072]⟩
abbrev S1x512x1024 : Shape := ⟨3, ![1, 512, 1024]⟩
abbrev S1x1x512x3072 : Shape := ⟨4, ![1, 1, 512, 3072]⟩
abbrev S1x4x128x3072 : Shape := ⟨4, ![1, 4, 128, 3072]⟩
abbrev S1x16x32x3072 : Shape := ⟨4, ![1, 16, 32, 3072]⟩
abbrev S8x512x128 : Shape := ⟨3, ![8, 512, 128]⟩
abbrev S1024x9216 : Shape := ⟨2, ![1024, 9216]⟩
abbrev S4x32x9216 : Shape := ⟨3, ![4, 32, 9216]⟩
abbrev S4 : Shape := ⟨1, ![4]⟩
abbrev S1 : Shape := ⟨1, ![1]⟩
abbrev S_ : Shape := ⟨0, ![]⟩
abbrev S1x32x9216 : Shape := ⟨3, ![1, 32, 9216]⟩
abbrev S32x9216 : Shape := ⟨2, ![32, 9216]⟩
abbrev S1x1024x9216 : Shape := ⟨3, ![1, 1024, 9216]⟩
abbrev S512x1024 : Shape := ⟨2, ![512, 1024]⟩
abbrev S512 : Shape := ⟨1, ![512]⟩
abbrev S512x1 : Shape := ⟨2, ![512, 1]⟩
abbrev S512x128 : Shape := ⟨2, ![512, 128]⟩
abbrev S1x512x128 : Shape := ⟨3, ![1, 512, 128]⟩
abbrev S1x32x128 : Shape := ⟨3, ![1, 32, 128]⟩
abbrev S32x128 : Shape := ⟨2, ![32, 128]⟩
abbrev S1024x512 : Shape := ⟨2, ![1024, 512]⟩
abbrev S512x512 : Shape := ⟨2, ![512, 512]⟩
abbrev S1x512x512 : Shape := ⟨3, ![1, 512, 512]⟩
abbrev S1x1x512x512 : Shape := ⟨4, ![1, 1, 512, 512]⟩
abbrev S1x128x128 : Shape := ⟨3, ![1, 128, 128]⟩
abbrev S128x128 : Shape := ⟨2, ![128, 128]⟩
abbrev S4x128x512 : Shape := ⟨3, ![4, 128, 512]⟩
abbrev S1x4x128x512 : Shape := ⟨4, ![1, 4, 128, 512]⟩
abbrev S16x32x512 : Shape := ⟨3, ![16, 32, 512]⟩
abbrev S1x16x32x512 : Shape := ⟨4, ![1, 16, 32, 512]⟩

abbrev nBuf : Space → Nat
  | .hbm => 7
  | .vmem => 12
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S1x1024x10240, .f32⟩
  | .hbm, ⟨3, _⟩ => ⟨S1x1024, .f32⟩
  | .hbm, ⟨4, _⟩ => ⟨S2x1x8192x3072, .bf16⟩
  | .hbm, ⟨5, _⟩ => ⟨S2x4x2048x3072, .bf16⟩
  | .hbm, ⟨6, _⟩ => ⟨S2x16x512x3072, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x512x3072, .bf16⟩
  | .local _ .vmem, ⟨4, _⟩ => ⟨S1x1x512x3072, .bf16⟩
  | .local _ .vmem, ⟨5, _⟩ => ⟨S1x4x128x3072, .bf16⟩
  | .local _ .vmem, ⟨6, _⟩ => ⟨S1x4x128x3072, .bf16⟩
  | .local _ .vmem, ⟨7, _⟩ => ⟨S1x16x32x3072, .bf16⟩
  | .local _ .vmem, ⟨8, _⟩ => ⟨S1x16x32x3072, .bf16⟩
  | .local _ .vmem, ⟨9, _⟩ => ⟨S8x512x128, .f32⟩
  | .local _ .vmem, ⟨10, _⟩ => ⟨S1024x9216, .bf16⟩
  | .local _ .vmem, ⟨11, _⟩ => ⟨S4x32x9216, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x128x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x32x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== QkvIdeal.lean ====
variable {F : FTy → Type} [FloatOps F] [Named F]
def κ : String → Option EReal := fun
  | "logit_scale" => some (((1 / 8) * (Real.log 2)⁻¹ : ℝ) : EReal)
  | _ => none
-- ==== QkvReferenceIdeal.lean ====
abbrev S2x8192x1024 : Shape := ⟨3, ![2, 8192, 1024]⟩
abbrev S2x1024 : Shape := ⟨2, ![2, 1024]⟩
abbrev S1x1024x10240 : Shape := ⟨3, ![1, 1024, 10240]⟩
abbrev S1x1024 : Shape := ⟨2, ![1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x10240 : Shape := ⟨2, ![1024, 10240]⟩
abbrev S2x8192x10240 : Shape := ⟨3, ![2, 8192, 10240]⟩
abbrev S2x8192x9216 : Shape := ⟨3, ![2, 8192, 9216]⟩
abbrev S2x8192x3x3x1024 : Shape := ⟨5, ![2, 8192, 3, 3, 1024]⟩
abbrev S2x8192x1x1x1024 : Shape := ⟨5, ![2, 8192, 1, 1, 1024]⟩
abbrev S2x8192x1x1024 : Shape := ⟨4, ![2, 8192, 1, 1024]⟩
abbrev S2x1x8192x1024 : Shape := ⟨4, ![2, 1, 8192, 1024]⟩
abbrev S2x64x32x4x1024 : Shape := ⟨5, ![2, 64, 32, 4, 1024]⟩
abbrev S2x64x4x32x1024 : Shape := ⟨5, ![2, 64, 4, 32, 1024]⟩
abbrev S2x1x8192x3072 : Shape := ⟨4, ![2, 1, 8192, 3072]⟩
abbrev S2x2048x4x1024 : Shape := ⟨4, ![2, 2048, 4, 1024]⟩
abbrev S2x4x2048x1024 : Shape := ⟨4, ![2, 4, 2048, 1024]⟩
abbrev S2x4x2048x3072 : Shape := ⟨4, ![2, 4, 2048, 3072]⟩
abbrev S2x512x16x1024 : Shape := ⟨4, ![2, 512, 16, 1024]⟩
abbrev S2x16x512x1024 : Shape := ⟨4, ![2, 16, 512, 1024]⟩
abbrev S2x16x512x3072 : Shape := ⟨4, ![2, 16, 512, 3072]⟩

abbrev nBuf : Space → Nat
  | .hbm => 91
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S1x1024x10240, .f32⟩
  | .hbm, ⟨3, _⟩ => ⟨S1x1024, .f32⟩
  | .hbm, ⟨4, _⟩ => ⟨S1024, .f32⟩
  | .hbm, ⟨5, _⟩ => ⟨S2x8192x1024, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x1024, .f32⟩
  | .hbm, ⟨17, _⟩ => ⟨S2x8192x1024, .f32⟩
  | .hbm, ⟨18, _⟩ => ⟨S1x1x1024, .f32⟩
  | .hbm, ⟨19, _⟩ => ⟨S2x8192x1024, .f32⟩
  | .hbm, ⟨20, _⟩ => ⟨S2x8192x1024, .f32⟩
  | .hbm, ⟨21, _⟩ => ⟨S1024x10240, .f32⟩
  | .hbm, ⟨22, _⟩ => ⟨S2x8192x10240, .f32⟩
  | .hbm, ⟨23, _⟩ => ⟨S2x8192x9216, .f32⟩
  | .hbm, ⟨24, _⟩ => ⟨S2x8192x3x3x1024, .f32⟩
  | .hbm, ⟨25, _⟩ => ⟨S2x8192x1x1x1024, .f32⟩
  | .hbm, ⟨26, _⟩ => ⟨S2x8192x1024, .f32⟩
  | .hbm, ⟨27, _⟩ => ⟨S2x8192x1x1024, .f32⟩
  | .hbm, ⟨28, _⟩ => ⟨S2x1x8192x1024, .f32⟩
  | .hbm, ⟨29, _⟩ => ⟨S_, .f32⟩
  | .hbm, ⟨30, _⟩ => ⟨S2x1x8192x1024, .f32⟩
  | .hbm, ⟨31, _⟩ => ⟨S2x1x8192x1024, .f32⟩
  | .hbm, ⟨32, _⟩ => ⟨S_, .f32⟩
  | .hbm, ⟨33, _⟩ => ⟨S_, .f32⟩
  | .hbm, ⟨34, _⟩ => ⟨S2x1x8192x1024, .f32⟩
  | .hbm, ⟨35, _⟩ => ⟨S2x1x8192x1024, .f32⟩
  | .hbm, ⟨36, _⟩ => ⟨S2x64x32x4x1024, .f32⟩
  | .hbm, ⟨37, _⟩ => ⟨S2x64x4x32x1024, .f32⟩
  | .hbm, ⟨38, _⟩ => ⟨S2x1x8192x1024, .f32⟩
  | .hbm, ⟨39, _⟩ => ⟨S2x8192x1x1x1024, .f32⟩
  | .hbm, ⟨40, _⟩ => ⟨S2x8192x1024, .f32⟩
  | .hbm, ⟨41, _⟩ => ⟨S2x8192x1x1024, .f32⟩
  | .hbm, ⟨42, _⟩ => ⟨S2x1x8192x1024, .f32⟩
  | .hbm, ⟨43, _⟩ => ⟨S2x8192x1x1x1024, .f32⟩
  | .hbm, ⟨44, _⟩ => ⟨S2x8192x1024, .f32⟩
  | .hbm, ⟨45, _⟩ => ⟨S2x8192x1x1024, .f32⟩
  | .hbm, ⟨46, _⟩ => ⟨S2x1x8192x1024, .f32⟩
  | .hbm, ⟨47, _⟩ => ⟨S2x1x8192x3072, .f32⟩
  | .hbm, ⟨48, _⟩ => ⟨S2x1x8192x3072, .bf16⟩
  | .hbm, ⟨49, _⟩ => ⟨S2x8192x1x1x1024, .f32⟩
  | .hbm, ⟨50, _⟩ => ⟨S2x8192x1024, .f32⟩
  | .hbm, ⟨51, _⟩ => ⟨S2x2048x4x1024, .f32⟩
  | .hbm, ⟨52, _⟩ => ⟨S2x4x2048x1024, .f32⟩
  | .hbm, ⟨53, _⟩ => ⟨S_, .f32⟩
  | .hbm, ⟨54, _⟩ => ⟨S2x4x2048x1024, .f32⟩
  | .hbm, ⟨55, _⟩ => ⟨S2x4x2048x1024, .f32⟩
  | .hbm, ⟨56, _⟩ => ⟨S_, .f32⟩
  | .hbm, ⟨57, _⟩ => ⟨S_, .f32⟩
  | .hbm, ⟨58, _⟩ => ⟨S2x4x2048x1024, .f32⟩
  | .hbm, ⟨59, _⟩ => ⟨S2x4x2048x1024, .f32⟩
  | .hbm, ⟨60, _⟩ => ⟨S2x8192x1x1x1024, .f32⟩
  | .hbm, ⟨61, _⟩ => ⟨S2x8192x1024, .f32⟩
  | .hbm, ⟨62, _⟩ => ⟨S2x2048x4x1024, .f32⟩
  | .hbm, ⟨63, _⟩ => ⟨S2x4x2048x1024, .f32⟩
  | .hbm, ⟨64, _⟩ => ⟨S2x8192x1x1x1024, .f32⟩
  | .hbm, ⟨65, _⟩ => ⟨S2x8192x1024, .f32⟩
  | .hbm, ⟨66, _⟩ => ⟨S2x2048x4x1024, .f32⟩
  | .hbm, ⟨67, _⟩ => ⟨S2x4x2048x1024, .f32⟩
  | .hbm, ⟨68, _⟩ => ⟨S2x4x2048x3072, .f32⟩
  | .hbm, ⟨69, _⟩ => ⟨S2x4x2048x3072, .bf16⟩
  | .hbm, ⟨70, _⟩ => ⟨S2x8192x1x1x1024, .f32⟩
  | .hbm, ⟨71, _⟩ => ⟨S2x8192x1024, .f32⟩
  | .hbm, ⟨72, _⟩ => ⟨S2x512x16x1024, .f32⟩
  | .hbm, ⟨73, _⟩ => ⟨S2x16x512x1024, .f32⟩
  | .hbm, ⟨74, _⟩ => ⟨S_, .f32⟩
  | .hbm, ⟨75, _⟩ => ⟨S2x16x512x1024, .f32⟩
  | .hbm, ⟨76, _⟩ => ⟨S2x16x512x1024, .f32⟩
  | .hbm, ⟨77, _⟩ => ⟨S_, .f32⟩
  | .hbm, ⟨78, _⟩ => ⟨S_, .f32⟩
  | .hbm, ⟨79, _⟩ => ⟨S2x16x512x1024, .f32⟩
  | .hbm, ⟨80, _⟩ => ⟨S2x16x512x1024, .f32⟩
  | .hbm, ⟨81, _⟩ => ⟨S2x8192x1x1x1024, .f32⟩
  | .hbm, ⟨82, _⟩ => ⟨S2x8192x1024, .f32⟩
  | .hbm, ⟨83, _⟩ => ⟨S2x512x16x1024, .f32⟩
  | .hbm, ⟨84, _⟩ => ⟨S2x16x512x1024, .f32⟩
  | .hbm, ⟨85, _⟩ => ⟨S2x8192x1x1x1024, .f32⟩
  | .hbm, ⟨86, _⟩ => ⟨S2x8192x1024, .f32⟩
  | .hbm, ⟨87, _⟩ => ⟨S2x512x16x1024, .f32⟩
  | .hbm, ⟨88, _⟩ => ⟨S2x16x512x1024, .f32⟩
  | .hbm, ⟨89, _⟩ => ⟨S2x16x512x3072, .f32⟩
  | .hbm, ⟨90, _⟩ => ⟨S2x16x512x3072, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_4 : Ref sig .tc := ⟨.hbm, 53, rfl⟩
abbrev main_v45 : Ref sig .tc := ⟨.hbm, 54, rfl⟩
abbrev main_v46 : Ref sig .tc := ⟨.hbm, 55, rfl⟩
abbrev main_cst_5 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_cst_6 : Ref sig .tc := ⟨.hbm, 74, rfl⟩
abbrev main_v64 : Ref sig .tc := ⟨.hbm, 75, rfl⟩
abbrev main_v65 : Ref sig .tc := ⟨.hbm, 76, rfl⟩
abbrev main_cst_7 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩

abbrev nD : Nat := 1
abbrev τ : Topo := Topo.v7x

variable {F : FTy → Type} [FloatOps F]
-- ==== Proof.Form.lean ====
/-
  The kernel's body written once more, with its unrolled copies, column chunks and heads as uses of one definition
  each, and the equation between the printed body and this form.
-/
module

public import proofs.«01_k».proof.Proof.Gen.KernelIdeal
public import Idealize.ShloMosaic.Lib.Tactic.ProgEq

@[expose] public section

set_option maxRecDepth 16384

noncomputable section

namespace Cert.KernelIdeal.Form

open Cert.KernelIdeal
open Idealize.ShloMosaic Idealize.SL.Sem
open Shapes2.Facts₀ Shapes1.Facts₀

variable {F : FTy → Type} [FloatOps F] [Named F]
variable [Facts]

/-! ## Bounds of the rectangles, at any offset -/

theorem inb4 {s : ℕ} (hs : s < 4) : ∀ a, (![s] : Fin 1 → ℕ) a + S1.size a ≤ S4.size a := by
  intro a; fin_cases a; simp; omega

theorem inb13 {s c w : ℕ} (hs : s < 4) (hc : c + w ≤ 6144) :
    ∀ a, (![s, 0, c] : Fin 3 → ℕ) a + (![1, 32, w] : Fin 3 → ℕ) a ≤ S4x32x6144.size a := by
  intro a; fin_cases a <;> simp <;> omega

theorem inb14 {s : ℕ} (hs : s < 4) :
    ∀ a, (![s, 0, 0] : Fin 3 → ℕ) a + S1x256x1024.size a ≤ S4x256x1024.size a := by
  intro a; fin_cases a <;> simp; omega

theorem inb2 {n m h w r d : ℕ} (hr : r + h ≤ n) (hd : d + w ≤ m) :
    ∀ a, (![r, d] : Fin 2 → ℕ) a + (![h, w] : Fin 2 → ℕ) a ≤ (![n, m] : Fin 2 → ℕ) a := by
  intro a; fin_cases a <;> simp <;> omega

theorem inb16 {k : ℕ} (hk : k < 16) :
    ∀ a, (![k, 0, 0] : Fin 3 → ℕ) a + S1x128x128.size a ≤ S16x128x128.size a := by
  intro a; fin_cases a <;> simp; omega

/-- A block whose first row and whose height are even fills whole packed words of a two-byte array. -/
theorem packed2 {n m h w r d : ℕ} (hb) (hr : 2 ∣ r) (hh : 2 ∣ h) :
    (Rect.unit (s := ⟨2, ![n, m]⟩) ![r, d] ![h, w] hb).PackedRows (EltTy.packing .bf16) :=
  Or.inr ⟨le_refl 2, rfl, Or.inl ⟨hr, hh⟩⟩

/-! ## The weights' copies and their casts -/

/-- Rows `r … r+31` of the input projection's weight, in memory off the core. -/
abbrev srcIn (arg4 : Memref sig .tc .hbm S1x1024x6144 .f32) (r : ℕ) (hr : r + 32 ≤ 1024) : Memref sig .tc .hbm S32x6144 .f32 :=
  ((arg4.slice (Rect.unit (s := S1x1024x6144) ![0, 0, 0] S1x1024x6144.size inb_S1x1024x6144_S1x1024x6144_0_0_0) (fun _ => rfl)).squeeze
    S1024x6144 squeezes_S1x1024x6144_S1024x6144).slice (Rect.unit (s := S1024x6144) ![r, 0] S32x6144.size (inb2 hr (by decide))) (fun _ => rfl)

/-- Slot `s` of the input weight's staging buffer. -/
abbrev dstIn (arg13 : Memref sig .tc .vmem S4x32x6144 .f32) (s : ℕ) (hs : s < 4) : Memref sig .tc .vmem S32x6144 .f32 :=
  (arg13.slice (Rect.unit (s := S4x32x6144) ![s, 0, 0] S1x32x6144.size (inb13 hs (by decide))) (fun _ => rfl)).squeeze S32x6144 squeezes_S1x32x6144_S32x6144

/-- The semaphore of slot `s`. -/
abbrev semAt (arg15 : DmaSems sig S4) (s : ℕ) (hs : s < 4) : DmaSem sig :=
  ((arg15.slice (Rect.unit (s := S4) ![s] S1.size (inb4 hs))).squeeze S_ squeezes_S1_S_).sem

/-- Start the copy of rows `r … r+31` into slot `s`. -/
def startIn (arg4 : Memref sig .tc .hbm S1x1024x6144 .f32) (arg13 : Memref sig .tc .vmem S4x32x6144 .f32) (arg15 : DmaSems sig S4)
    (r s : ℕ) (hr : r + 32 ≤ 1024) (hs : s < 4) : Prog (TpuEff nD τ sig (Elt F) Λ₀ .tc) PUnit := do
  let s0 : DmaSems sig S1 := arg15.slice (Rect.unit (s := S4) ![s] S1.size (inb4 hs))
  let s1 : DmaSems sig S_ := s0.squeeze S_ squeezes_S1_S_
  let b0 : Memref sig .tc .vmem S1x32x6144 .f32 := arg13.slice (Rect.unit (s := S4x32x6144) ![s, 0, 0] S1x32x6144.size (inb13 hs (by decide))) (fun _ => rfl)
  let b1 : Memref sig .tc .vmem S32x6144 .f32 := b0.squeeze S32x6144 squeezes_S1x32x6144_S32x6144
  let w0 : Memref sig .tc .hbm S1x1024x6144 .f32 := arg4.slice (Rect.unit (s := S1x1024x6144) ![0, 0, 0] S1x1024x6144.size inb_S1x1024x6144_S1x1024x6144_0_0_0) (fun _ => rfl)
  let w1 : Memref sig .tc .hbm S1024x6144 .f32 := w0.squeeze S1024x6144 squeezes_S1x1024x6144_S1024x6144
  let w2 : Memref sig .tc .hbm S32x6144 .f32 := w1.slice (Rect.unit (s := S1024x6144) ![r, 0] S32x6144.size (inb2 hr (by decide))) (fun _ => rfl)
  Prog.lift (.enqueueDma w2 (.here b1) (.dma s1.sem) (View.wordExact_bits rfl) ((View.wordExact_bits rfl).reshape _ _) ⟨Or.inl rfl, trivial⟩)

/-- Wait for the copy of rows `r … r+31` into slot `s`. -/
def waitIn (arg4 : Memref sig .tc .hbm S1x1024x6144 .f32) (arg13 : Memref sig .tc .vmem S4x32x6144 .f32) (arg15 : DmaSems sig S4)
    (r s : ℕ) (hr : r + 32 ≤ 1024) (hs : s < 4) : Prog (TpuEff nD τ sig (Elt F) Λ₀ .tc) PUnit := do
  let s0 : DmaSems sig S1 := arg15.slice (Rect.unit (s := S4) ![s] S1.size (inb4 hs))
  let s1 : DmaSems sig S_ := s0.squeeze S_ squeezes_S1_S_
  let b0 : Memref sig .tc .vmem S1x32x6144 .f32 := arg13.slice (Rect.unit (s := S4x32x6144) ![s, 0, 0] S1x32x6144.size (inb13 hs (by decide))) (fun _ => rfl)
  let b1 : Memref sig .tc .vmem S32x6144 .f32 := b0.squeeze S32x6144 squeezes_S1x32x6144_S32x6144
  let w0 : Memref sig .tc .hbm S1x1024x6144 .f32 := arg4.slice (Rect.unit (s := S1x1024x6144) ![0, 0, 0] S1x1024x6144.size inb_S1x1024x6144_S1x1024x6144_0_0_0) (fun _ => rfl)
  let w1 : Memref sig .tc .hbm S1024x6144 .f32 := w0.squeeze S1024x6144 squeezes_S1x1024x6144_S1024x6144
  let w2 : Memref sig .tc .hbm S32x6144 .f32 := w1.slice (Rect.unit (s := S1024x6144) ![r, 0] S32x6144.size (inb2 hr (by decide))) (fun _ => rfl)
  Prog.lift (.waitDma2 s1.sem w2 b1 (View.wordExact_bits rfl) ((View.wordExact_bits rfl).reshape _ _))

/-- Cast columns `2048 … 4095` of slot `s` to columns `0 … 2047` of rows `r … r+31` of the resident weight. -/
def castWide (arg11 : Memref sig .tc .vmem S1024x6144 .bf16) (harg11 : arg11.IsWhole) (arg13 : Memref sig .tc .vmem S4x32x6144 .f32)
    (r s : ℕ) (hr : r + 32 ≤ 1024) (hp : 2 ∣ r) (hs : s < 4) : Prog (TpuEff nD τ sig (Elt F) Λ₀ .tc) PUnit := do
  let v : Vec F S1x32x2048 .f32 ← Prog.lift (.load arg13 (Rect.unit (s := S4x32x6144) ![s, 0, 2048] S1x32x2048.size (inb13 hs (by decide))).toLoadRect (View.loadsAt_vmem h_S1x32x2048))
  let _ : Vec F S32x2048 .bf16 ← Prog.lift (.load arg11 (Rect.unit (s := S1024x6144) ![r, 0] S32x2048.size (inb2 hr (by decide))).toLoadRect (View.loadsAt_vmem h_S32x2048))
  Prog.lift (.store arg11 (Rect.unit (s := S1024x6144) ![r, 0] S32x2048.size (inb2 hr (by decide)))
    (shapeCast S32x2048 (truncf .bf16 (shapeCast S32x2048 v shapeCasts_S1x32x2048_S32x2048) bitsLt_bf16_f32) shapeCasts_S32x2048_S32x2048)
    Finset.univ (View.stores_vmem h_S32x2048 (harg11.storeExact_slice rfl _ (packed2 _ hp (by decide))) (fun _ => rfl)) (.inl rfl))

/-- Cast columns `c … c+255` of slot `s` to columns `d … d+255` of rows `r … r+31` of the resident weight. -/
def castBlk (arg11 : Memref sig .tc .vmem S1024x6144 .bf16) (harg11 : arg11.IsWhole) (arg13 : Memref sig .tc .vmem S4x32x6144 .f32)
    (r s : ℕ) (hr : r + 32 ≤ 1024) (hp : 2 ∣ r) (hs : s < 4) (c d : ℕ) (hc : c + 256 ≤ 6144) (hd : d + 256 ≤ 6144) :
    Prog (TpuEff nD τ sig (Elt F) Λ₀ .tc) PUnit := do
  let v : Vec F S1x32x256 .f32 ← Prog.lift (.load arg13 (Rect.unit (s := S4x32x6144) ![s, 0, c] S1x32x256.size (inb13 hs hc)).toLoadRect (View.loadsAt_vmem h_S1x32x256))
  let _ : Vec F S32x256 .bf16 ← Prog.lift (.load arg11 (Rect.unit (s := S1024x6144) ![r, d] S32x256.size (inb2 hr hd)).toLoadRect (View.loadsAt_vmem h_S32x256))
  Prog.lift (.store arg11 (Rect.unit (s := S1024x6144) ![r, d] S32x256.size (inb2 hr hd))
    (shapeCast S32x256 (truncf .bf16 (shapeCast S32x256 v shapeCasts_S1x32x256_S32x256) bitsLt_bf16_f32) shapeCasts_S32x256_S32x256)
    Finset.univ (View.stores_vmem h_S32x256 (harg11.storeExact_slice rfl _ (packed2 _ hp (by decide))) (fun _ => rfl)) (.inl rfl))

/-- Rows `r … r+31`, landed in slot `s`: wait for them and cast them, block by block, to their permuted columns. -/
def landIn (arg4 : Memref sig .tc .hbm S1x1024x6144 .f32) (arg11 : Memref sig .tc .vmem S1024x6144 .bf16) (harg11 : arg11.IsWhole)
    (arg13 : Memref sig .tc .vmem S4x32x6144 .f32) (arg15 : DmaSems sig S4) (r s : ℕ) (hr : r + 32 ≤ 1024) (hp : 2 ∣ r) (hs : s < 4) :
    Prog (TpuEff nD τ sig (Elt F) Λ₀ .tc) PUnit := do
  waitIn arg4 arg13 arg15 r s hr hs
  castWide arg11 harg11 arg13 r s hr hp hs
  castBlk arg11 harg11 arg13 r s hr hp hs 0 2048 (by decide) (by decide)
  castBlk arg11 harg11 arg13 r s hr hp hs 4096 2304 (by decide) (by decide)
  castBlk arg11 harg11 arg13 r s hr hp hs 256 2560 (by decide) (by decide)
  castBlk arg11 harg11 arg13 r s hr hp hs 4352 2816 (by decide) (by decide)
  castBlk arg11 harg11 arg13 r s hr hp hs 512 3072 (by decide) (by decide)
  castBlk arg11 harg11 arg13 r s hr hp hs 4608 3328 (by decide) (by decide)
  castBlk arg11 harg11 arg13 r s hr hp hs 768 3584 (by decide) (by decide)
  castBlk arg11 harg11 arg13 r s hr hp hs 4864 3840 (by decide) (by decide)
  castBlk arg11 harg11 arg13 r s hr hp hs 1024 4096 (by decide) (by decide)
  castBlk arg11 harg11 arg13 r s hr hp hs 5120 4352 (by decide) (by decide)
  castBlk arg11 harg11 arg13 r s hr hp hs 1280 4608 (by decide) (by decide)
  castBlk arg11 harg11 arg13 r s hr hp hs 5376 4864 (by decide) (by decide)
  castBlk arg11 harg11 arg13 r s hr hp hs 1536 5120 (by decide) (by decide)
  castBlk arg11 harg11 arg13 r s hr hp hs 5632 5376 (by decide) (by decide)
  castBlk arg11 harg11 arg13 r s hr hp hs 1792 5632 (by decide) (by decide)
  castBlk arg11 harg11 arg13 r s hr hp hs 5888 5888 (by decide) (by decide)

/-- Rows `r … r+255` of the output projection's weight, in memory off the core. -/
abbrev srcOut (arg9 : Memref sig .tc .hbm S1x2048x1024 .f32) (r : ℕ) (hr : r + 256 ≤ 2048) : Memref sig .tc .hbm S256x1024 .f32 :=
  ((arg9.slice (Rect.unit (s := S1x2048x1024) ![0, 0, 0] S1x2048x1024.size inb_S1x2048x1024_S1x2048x1024_0_0_0) (fun _ => rfl)).squeeze
    S2048x1024 squeezes_S1x2048x1024_S2048x1024).slice (Rect.unit (s := S2048x1024) ![r, 0] S256x1024.size (inb2 hr (by decide))) (fun _ => rfl)

/-- Slot `s` of the output weight's staging buffer. -/
abbrev dstOut (arg14 : Memref sig .tc .vmem S4x256x1024 .f32) (s : ℕ) (hs : s < 4) : Memref sig .tc .vmem S256x1024 .f32 :=
  (arg14.slice (Rect.unit (s := S4x256x1024) ![s, 0, 0] S1x256x1024.size (inb14 hs)) (fun _ => rfl)).squeeze S256x1024 squeezes_S1x256x1024_S256x1024

/-- Start the copy of rows `r … r+255` into slot `s`. -/
def startOut (arg9 : Memref sig .tc .hbm S1x2048x1024 .f32) (arg14 : Memref sig .tc .vmem S4x256x1024 .f32) (arg16 : DmaSems sig S4)
    (r s : ℕ) (hr : r + 256 ≤ 2048) (hs : s < 4) : Prog (TpuEff nD τ sig (Elt F) Λ₀ .tc) PUnit := do
  let s0 : DmaSems sig S1 := arg16.slice (Rect.unit (s := S4) ![s] S1.size (inb4 hs))
  let s1 : DmaSems sig S_ := s0.squeeze S_ squeezes_S1_S_
  let b0 : Memref sig .tc .vmem S1x256x1024 .f32 := arg14.slice (Rect.unit (s := S4x256x1024) ![s, 0, 0] S1x256x1024.size (inb14 hs)) (fun _ => rfl)
  let b1 : Memref sig .tc .vmem S256x1024 .f32 := b0.squeeze S256x1024 squeezes_S1x256x1024_S256x1024
  let w0 : Memref sig .tc .hbm S1x2048x1024 .f32 := arg9.slice (Rect.unit (s := S1x2048x1024) ![0, 0, 0] S1x2048x1024.size inb_S1x2048x1024_S1x2048x1024_0_0_0) (fun _ => rfl)
  let w1 : Memref sig .tc .hbm S2048x1024 .f32 := w0.squeeze S2048x1024 squeezes_S1x2048x1024_S2048x1024
  let w2 : Memref sig .tc .hbm S256x1024 .f32 := w1.slice (Rect.unit (s := S2048x1024) ![r, 0] S256x1024.size (inb2 hr (by decide))) (fun _ => rfl)
  Prog.lift (.enqueueDma w2 (.here b1) (.dma s1.sem) (View.wordExact_bits rfl) ((View.wordExact_bits rfl).reshape _ _) ⟨Or.inl rfl, trivial⟩)

/-- Rows `r … r+255`, landed in slot `s`: wait for them and cast them to rows `r … r+255` of the resident weight. -/
def landOut (arg9 : Memref sig .tc .hbm S1x2048x1024 .f32) (arg12 : Memref sig .tc .vmem S2048x1024 .bf16) (harg12 : arg12.IsWhole)
    (arg14 : Memref sig .tc .vmem S4x256x1024 .f32) (arg16 : DmaSems sig S4) (r s : ℕ) (hr : r + 256 ≤ 2048) (hp : 2 ∣ r) (hs : s < 4) :
    Prog (TpuEff nD τ sig (Elt F) Λ₀ .tc) PUnit := do
  let s0 : DmaSems sig S1 := arg16.slice (Rect.unit (s := S4) ![s] S1.size (inb4 hs))
  let s1 : DmaSems sig S_ := s0.squeeze S_ squeezes_S1_S_
  let b0 : Memref sig .tc .vmem S1x256x1024 .f32 := arg14.slice (Rect.unit (s := S4x256x1024) ![s, 0, 0] S1x256x1024.size (inb14 hs)) (fun _ => rfl)
  let b1 : Memref sig .tc .vmem S256x1024 .f32 := b0.squeeze S256x1024 squeezes_S1x256x1024_S256x1024
  let w0 : Memref sig .tc .hbm S1x2048x1024 .f32 := arg9.slice (Rect.unit (s := S1x2048x1024) ![0, 0, 0] S1x2048x1024.size inb_S1x2048x1024_S1x2048x1024_0_0_0) (fun _ => rfl)
  let w1 : Memref sig .tc .hbm S2048x1024 .f32 := w0.squeeze S2048x1024 squeezes_S1x2048x1024_S2048x1024
  let w2 : Memref sig .tc .hbm S256x1024 .f32 := w1.slice (Rect.unit (s := S2048x1024) ![r, 0] S256x1024.size (inb2 hr (by decide))) (fun _ => rfl)
  Prog.lift (.waitDma2 s1.sem w2 b1 (View.wordExact_bits rfl) ((View.wordExact_bits rfl).reshape _ _))
  let v : Vec F S1x256x1024 .f32 ← Prog.lift (.load arg14 (Rect.unit (s := S4x256x1024) ![s, 0, 0] S1x256x1024.size (inb14 hs)).toLoadRect (View.loadsAt_vmem h_S1x256x1024))
  let _ : Vec F S256x1024 .bf16 ← Prog.lift (.load arg12 (Rect.unit (s := S2048x1024) ![r, 0] S256x1024.size (inb2 hr (by decide))).toLoadRect (View.loadsAt_vmem h_S256x1024))
  Prog.lift (.store arg12 (Rect.unit (s := S2048x1024) ![r, 0] S256x1024.size (inb2 hr (by decide)))
    (shapeCast S256x1024 (truncf .bf16 (shapeCast S256x1024 v shapeCasts_S1x256x1024_S256x1024) bitsLt_bf16_f32) shapeCasts_S256x1024_S256x1024)
    Finset.univ (View.stores_vmem h_S256x1024 (harg12.storeExact_slice rfl _ (packed2 _ hp (by decide))) (fun _ => rfl)) (.inl rfl))

/-- The input weight: four copies in flight, each slot refilled once its rows are cast. -/
def fillIn (arg4 : Memref sig .tc .hbm S1x1024x6144 .f32) (arg11 : Memref sig .tc .vmem S1024x6144 .bf16) (harg11 : arg11.IsWhole)
    (arg13 : Memref sig .tc .vmem S4x32x6144 .f32) (arg15 : DmaSems sig S4) : Prog (TpuEff nD τ sig (Elt F) Λ₀ .tc) PUnit := do
  startIn arg4 arg13 arg15 0 0 (by decide) (by decide)
  startIn arg4 arg13 arg15 32 1 (by decide) (by decide)
  startIn arg4 arg13 arg15 64 2 (by decide) (by decide)
  startIn arg4 arg13 arg15 96 3 (by decide) (by decide)
  landIn arg4 arg11 harg11 arg13 arg15 0 0 (by decide) (by decide) (by decide)
  startIn arg4 arg13 arg15 128 0 (by decide) (by decide)
  landIn arg4 arg11 harg11 arg13 arg15 32 1 (by decide) (by decide) (by decide)
  startIn arg4 arg13 arg15 160 1 (by decide) (by decide)
  landIn arg4 arg11 harg11 arg13 arg15 64 2 (by decide) (by decide) (by decide)
  startIn arg4 arg13 arg15 192 2 (by decide) (by decide)
  landIn arg4 arg11 harg11 arg13 arg15 96 3 (by decide) (by decide) (by decide)
  startIn arg4 arg13 arg15 224 3 (by decide) (by decide)
  landIn arg4 arg11 harg11 arg13 arg15 128 0 (by decide) (by decide) (by decide)
  startIn arg4 arg13 arg15 256 0 (by decide) (by decide)
  landIn arg4 arg11 harg11 arg13 arg15 160 1 (by decide) (by decide) (by decide)
  startIn arg4 arg13 arg15 288 1 (by decide) (by decide)
  landIn arg4 arg11 harg11 arg13 arg15 192 2 (by decide) (by decide) (by decide)
  startIn arg4 arg13 arg15 320 2 (by decide) (by decide)
  landIn arg4 arg11 harg11 arg13 arg15 224 3 (by decide) (by decide) (by decide)
  startIn arg4 arg13 arg15 352 3 (by decide) (by decide)
  landIn arg4 arg11 harg11 arg13 arg15 256 0 (by decide) (by decide) (by decide)
  startIn arg4 arg13 arg15 384 0 (by decide) (by decide)
  landIn arg4 arg11 harg11 arg13 arg15 288 1 (by decide) (by decide) (by decide)
  startIn arg4 arg13 arg15 416 1 (by decide) (by decide)
  landIn arg4 arg11 harg11 arg13 arg15 320 2 (by decide) (by decide) (by decide)
  startIn arg4 arg13 arg15 448 2 (by decide) (by decide)
  landIn arg4 arg11 harg11 arg13 arg15 352 3 (by decide) (by decide) (by decide)
  startIn arg4 arg13 arg15 480 3 (by decide) (by decide)
  landIn arg4 arg11 harg11 arg13 arg15 384 0 (by decide) (by decide) (by decide)
  startIn arg4 arg13 arg15 512 0 (by decide) (by decide)
  landIn arg4 arg11 harg11 arg13 arg15 416 1 (by decide) (by decide) (by decide)
  startIn arg4 arg13 arg15 544 1 (by decide) (by decide)
  landIn arg4 arg11 harg11 arg13 arg15 448 2 (by decide) (by decide) (by decide)
  startIn arg4 arg13 arg15 576 2 (by decide) (by decide)
  landIn arg4 arg11 harg11 arg13 arg15 480 3 (by decide) (by decide) (by decide)
  startIn arg4 arg13 arg15 608 3 (by decide) (by decide)
  landIn arg4 arg11 harg11 arg13 arg15 512 0 (by decide) (by decide) (by decide)
  startIn arg4 arg13 arg15 640 0 (by decide) (by decide)
  landIn arg4 arg11 harg11 arg13 arg15 544 1 (by decide) (by decide) (by decide)
  startIn arg4 arg13 arg15 672 1 (by decide) (by decide)
  landIn arg4 arg11 harg11 arg13 arg15 576 2 (by decide) (by decide) (by decide)
  startIn arg4 arg13 arg15 704 2 (by decide) (by decide)
  landIn arg4 arg11 harg11 arg13 arg15 608 3 (by decide) (by decide) (by decide)
  startIn arg4 arg13 arg15 736 3 (by decide) (by decide)
  landIn arg4 arg11 harg11 arg13 arg15 640 0 (by decide) (by decide) (by decide)
  startIn arg4 arg13 arg15 768 0 (by decide) (by decide)
  landIn arg4 arg11 harg11 arg13 arg15 672 1 (by decide) (by decide) (by decide)
  startIn arg4 arg13 arg15 800 1 (by decide) (by decide)
  landIn arg4 arg11 harg11 arg13 arg15 704 2 (by decide) (by decide) (by decide)
  startIn arg4 arg13 arg15 832 2 (by decide) (by decide)
  landIn arg4 arg11 harg11 arg13 arg15 736 3 (by decide) (by decide) (by decide)
  startIn arg4 arg13 arg15 864 3 (by decide) (by decide)
  landIn arg4 arg11 harg11 arg13 arg15 768 0 (by decide) (by decide) (by decide)
  startIn arg4 arg13 arg15 896 0 (by decide) (by decide)
  landIn arg4 arg11 harg11 arg13 arg15 800 1 (by decide) (by decide) (by decide)
  startIn arg4 arg13 arg15 928 1 (by decide) (by decide)
  landIn arg4 arg11 harg11 arg13 arg15 832 2 (by decide) (by decide) (by decide)
  startIn arg4 arg13 arg15 960 2 (by decide) (by decide)
  landIn arg4 arg11 harg11 arg13 arg15 864 3 (by decide) (by decide) (by decide)
  startIn arg4 arg13 arg15 992 3 (by decide) (by decide)
  landIn arg4 arg11 harg11 arg13 arg15 896 0 (by decide) (by decide) (by decide)
  landIn arg4 arg11 harg11 arg13 arg15 928 1 (by decide) (by decide) (by decide)
  landIn arg4 arg11 harg11 arg13 arg15 960 2 (by decide) (by decide) (by decide)
  landIn arg4 arg11 harg11 arg13 arg15 992 3 (by decide) (by decide) (by decide)

/-- The output weight: four copies in flight, each slot refilled once its rows are cast. -/
def fillOut (arg9 : Memref sig .tc .hbm S1x2048x1024 .f32) (arg12 : Memref sig .tc .vmem S2048x1024 .bf16) (harg12 : arg12.IsWhole)
    (arg14 : Memref sig .tc .vmem S4x256x1024 .f32) (arg16 : DmaSems sig S4) : Prog (TpuEff nD τ sig (Elt F) Λ₀ .tc) PUnit := do
  startOut arg9 arg14 arg16 0 0 (by decide) (by decide)
  startOut arg9 arg14 arg16 256 1 (by decide) (by decide)
  startOut arg9 arg14 arg16 512 2 (by decide) (by decide)
  startOut arg9 arg14 arg16 768 3 (by decide) (by decide)
  landOut arg9 arg12 harg12 arg14 arg16 0 0 (by decide) (by decide) (by decide)
  startOut arg9 arg14 arg16 1024 0 (by decide) (by decide)
  landOut arg9 arg12 harg12 arg14 arg16 256 1 (by decide) (by decide) (by decide)
  startOut arg9 arg14 arg16 1280 1 (by decide) (by decide)
  landOut arg9 arg12 harg12 arg14 arg16 512 2 (by decide) (by decide) (by decide)
  startOut arg9 arg14 arg16 1536 2 (by decide) (by decide)
  landOut arg9 arg12 harg12 arg14 arg16 768 3 (by decide) (by decide) (by decide)
  startOut arg9 arg14 arg16 1792 3 (by decide) (by decide)
  landOut arg9 arg12 harg12 arg14 arg16 1024 0 (by decide) (by decide) (by decide)
  landOut arg9 arg12 harg12 arg14 arg16 1280 1 (by decide) (by decide) (by decide)
  landOut arg9 arg12 harg12 arg14 arg16 1536 2 (by decide) (by decide) (by decide)
  landOut arg9 arg12 harg12 arg14 arg16 1792 3 (by decide) (by decide) (by decide)

/-! ## The arithmetic -/

/-- The rows' root-mean-square scaling, then the gain. -/
def rms (x : FVec F S512x1024 .f32) (g : FVec F S1x1024 .f32) : FVec F S512x1024 .f32 :=
  mulf (mulf x (broadcastTo S512x1024 (rsqrt (addf
    (divf (shapeCast S512x1 (multiReduction .add [1] S512 (mulf x x) 0x00000000#32 reduces_S512x1024_S512 (.inl rfl) rfl) shapeCasts_S512_S512x1)
      (broadcast S512x1 (Scalar.ofBits .f32 0x44800000#32)))
    (broadcast S512x1 (Scalar.ofBits .f32 0x358637BD#32)))) broadcasts_S512x1_S512x1024))
    (broadcastTo S512x1024 g broadcasts_S1x1024_S512x1024)

/-- The tanh form of the Gaussian unit, through a power of two. -/
def geluV {s : Shape} (x : FVec F s .f32) : FVec F s .f32 :=
  divf x (addf (broadcast s (Scalar.ofBits .f32 0x3F800000#32)) (exp2 (mulf x (addf (mulf (broadcast s (Named.named κ "gelu_a" 0xBDD2D3E8#32)) (mulf x x))
    (broadcast s (Named.named κ "gelu_b" 0xC0135761#32))))))

/-- The sigmoid-weighted unit, through a power of two. -/
def siluV {s : Shape} (x : FVec F s .f32) : FVec F s .f32 :=
  divf x (addf (broadcast s (Scalar.ofBits .f32 0x3F800000#32)) (exp2 (mulf x (broadcast s (Named.named κ "neg_log2e" 0xBFB8AA3B#32)))))

/-- The gated half before its scale: the unit of the product, centred along the row. -/
def vcent (h : FVec F S512x1024 .bf16) (w : FVec F S1024x2048 .bf16) : FVec F S512x2048 .f32 :=
  subf (geluV (matmul dot_S512x1024_S1024x2048_S512x2048_1_0_0_1_n_n none h w (constant S512x2048 .f32 0x00000000#32)))
    (broadcastTo S512x2048 (divf (shapeCast S512x1 (multiReduction .add [1] S512
      (geluV (matmul dot_S512x1024_S1024x2048_S512x2048_1_0_0_1_n_n none h w (constant S512x2048 .f32 0x00000000#32))) 0x00000000#32 reduces_S512x2048_S512 (.inl rfl) rfl) shapeCasts_S512_S512x1)
      (broadcast S512x1 (Scalar.ofBits .f32 0x45000000#32))) broadcasts_S512x1_S512x2048)

/-- The gated half, normalised along the row, with its gain and bias. -/
def vnorm (v : FVec F S512x2048 .f32) (g b : FVec F S1x2048 .f32) : FVec F S512x2048 .bf16 :=
  truncf .bf16 (addf (mulf (mulf v (broadcastTo S512x2048 (rsqrt (addf
      (divf (shapeCast S512x1 (multiReduction .add [1] S512 (mulf v v) 0x00000000#32 reduces_S512x2048_S512 (.inl rfl) rfl) shapeCasts_S512_S512x1)
        (broadcast S512x1 (Scalar.ofBits .f32 0x45000000#32)))
      (broadcast S512x1 (Scalar.ofBits .f32 0x358637BD#32)))) broadcasts_S512x1_S512x2048))
    (broadcastTo S512x2048 g broadcasts_S1x2048_S512x2048)) (broadcastTo S512x2048 b broadcasts_S1x2048_S512x2048)) bitsLt_bf16_f32

/-- One chunk of the product of the two other halves: 256 columns of each, side by side in the weight. -/
def ugV (h : FVec F S512x1024 .bf16) (w : FVec F S1024x512 .bf16) : FVec F S512x256 .f32 :=
  mulf (geluV (extractStridedSlice S512x256 ![0, 0] (matmul dot_S512x1024_S1024x512_S512x512_1_0_0_1_n_n none h w (constant S512x512 .f32 0x00000000#32)) slices_S512x512_o0_0_S512x256))
    (siluV (extractStridedSlice S512x256 ![0, 256] (matmul dot_S512x1024_S1024x512_S512x512_1_0_0_1_n_n none h w (constant S512x512 .f32 0x00000000#32)) slices_S512x512_o0_256_S512x256))

/-- One head's mix: its matrix times the four row blocks, side by side. -/
def mixV (ws : FVec F S1x128x128 .f32) (a b c d : FVec F S128x128 .bf16) : FVec F S128x512 .f32 :=
  matmul dot_S128x128_S128x512_S128x512_1_0_0_1_n_n none (truncf .bf16 (shapeCast S128x128 ws shapeCasts_S1x128x128_S128x128) bitsLt_bf16_f32)
    (concatenate S128x512 1 [⟨S128x128, a⟩, ⟨S128x128, b⟩, ⟨S128x128, c⟩, ⟨S128x128, d⟩] concatenates_S128x128_S128x128_S128x128_S128x128_S128x512_d1)
    (constant S128x512 .f32 0x00000000#32)

/-- One gated block: the product's block times the mixed block with its bias. -/
def gateV (m : FVec F S128x128 .f32) (bs : FVec F S1x128x128 .f32) (ug : FVec F S128x128 .f32) : FVec F S128x128 .bf16 :=
  truncf .bf16 (mulf ug (addf m (shapeCast S128x128 bs shapeCasts_S1x128x128_S128x128))) bitsLt_bf16_f32

/-! ## The body after the weights are resident -/

/-- Columns `d … d+255` of the product, from columns `w … w+511` of the resident weight. -/
def colChunk (arg11 : Memref sig .tc .vmem S1024x6144 .bf16) (arg18 : Memref sig .tc .vmem S512x2048 .f32) (h : FVec F S512x1024 .bf16)
    (w d : ℕ) (hw : w + 512 ≤ 6144) (hd : d + 256 ≤ 2048) : Prog (TpuEff nD τ sig (Elt F) Λ₀ .tc) PUnit := do
  let v : Vec F S1024x512 .bf16 ← Prog.lift (.load arg11 (Rect.unit (s := S1024x6144) ![0, w] S1024x512.size (inb2 (by decide) hw)).toLoadRect (View.loadsAt_vmem h_S1024x512))
  let _ : Vec F S512x256 .f32 ← Prog.lift (.load arg18 (Rect.unit (s := S512x2048) ![0, d] S512x256.size (inb2 (by decide) hd)).toLoadRect (View.loadsAt_vmem h_S512x256))
  Prog.lift (.store arg18 (Rect.unit (s := S512x2048) ![0, d] S512x256.size (inb2 (by decide) hd)) (shapeCast S512x256 (ugV h v) shapeCasts_S512x256_S512x256)
    Finset.univ (View.stores_vmem_bits_univ h_S512x256 rfl) (.inl rfl))

/-- Rows `r … r+127` of one head's gated block. -/
def gateBlk (arg6 : Memref sig .tc .vmem S16x128x128 .f32) (arg18 : Memref sig .tc .vmem S512x2048 .f32) (arg19 : Memref sig .tc .vmem S512x2048 .bf16) (harg19 : arg19.IsWhole)
    (m : FVec F S128x128 .f32) (k r d : ℕ) (hk : k < 16) (hr : r + 128 ≤ 512) (hp : 2 ∣ r) (hd : d + 128 ≤ 2048) : Prog (TpuEff nD τ sig (Elt F) Λ₀ .tc) PUnit := do
  let b : Vec F S1x128x128 .f32 ← Prog.lift (.load arg6 (Rect.unit (s := S16x128x128) ![k, 0, 0] S1x128x128.size (inb16 hk)).toLoadRect (View.loadsAt_vmem h_S1x128x128))
  let u : Vec F S128x128 .f32 ← Prog.lift (.load arg18 (Rect.unit (s := S512x2048) ![r, d] S128x128.size (inb2 hr hd)).toLoadRect (View.loadsAt_vmem h_S128x128))
  let _ : Vec F S128x128 .bf16 ← Prog.lift (.load arg19 (Rect.unit (s := S512x2048) ![r, d] S128x128.size (inb2 hr hd)).toLoadRect (View.loadsAt_vmem h_S128x128))
  Prog.lift (.store arg19 (Rect.unit (s := S512x2048) ![r, d] S128x128.size (inb2 hr hd)) (shapeCast S128x128 (gateV m b u) shapeCasts_S128x128_S128x128)
    Finset.univ (View.stores_vmem h_S128x128 (harg19.storeExact_slice rfl _ (packed2 _ hp (by decide))) (fun _ => rfl)) (.inl rfl))

/-- One head: its mix of columns `d … d+127`, then its four gated blocks. -/
def headMix (arg5 arg6 : Memref sig .tc .vmem S16x128x128 .f32) (arg17 : Memref sig .tc .vmem S512x2048 .bf16) (arg18 : Memref sig .tc .vmem S512x2048 .f32)
    (arg19 : Memref sig .tc .vmem S512x2048 .bf16) (harg19 : arg19.IsWhole) (k d : ℕ) (hk : k < 16) (hd : d + 128 ≤ 2048) :
    Prog (TpuEff nD τ sig (Elt F) Λ₀ .tc) PUnit := do
  let a0 : Vec F S128x128 .bf16 ← Prog.lift (.load arg17 (Rect.unit (s := S512x2048) ![0, d] S128x128.size (inb2 (by decide) hd)).toLoadRect (View.loadsAt_vmem h_S128x128))
  let a1 : Vec F S128x128 .bf16 ← Prog.lift (.load arg17 (Rect.unit (s := S512x2048) ![128, d] S128x128.size (inb2 (by decide) hd)).toLoadRect (View.loadsAt_vmem h_S128x128))
  let a2 : Vec F S128x128 .bf16 ← Prog.lift (.load arg17 (Rect.unit (s := S512x2048) ![256, d] S128x128.size (inb2 (by decide) hd)).toLoadRect (View.loadsAt_vmem h_S128x128))
  let a3 : Vec F S128x128 .bf16 ← Prog.lift (.load arg17 (Rect.unit (s := S512x2048) ![384, d] S128x128.size (inb2 (by decide) hd)).toLoadRect (View.loadsAt_vmem h_S128x128))
  let ws : Vec F S1x128x128 .f32 ← Prog.lift (.load arg5 (Rect.unit (s := S16x128x128) ![k, 0, 0] S1x128x128.size (inb16 hk)).toLoadRect (View.loadsAt_vmem h_S1x128x128))
  gateBlk arg6 arg18 arg19 harg19 (extractStridedSlice S128x128 ![0, 0] (mixV ws a0 a1 a2 a3) slices_S128x512_o0_0_S128x128) k 0 d hk (by decide) (by decide) hd
  gateBlk arg6 arg18 arg19 harg19 (extractStridedSlice S128x128 ![0, 128] (mixV ws a0 a1 a2 a3) slices_S128x512_o0_128_S128x128) k 128 d hk (by decide) (by decide) hd
  gateBlk arg6 arg18 arg19 harg19 (extractStridedSlice S128x128 ![0, 256] (mixV ws a0 a1 a2 a3) slices_S128x512_o0_256_S128x128) k 256 d hk (by decide) (by decide) hd
  gateBlk arg6 arg18 arg19 harg19 (extractStridedSlice S128x128 ![0, 384] (mixV ws a0 a1 a2 a3) slices_S128x512_o0_384_S128x128) k 384 d hk (by decide) (by decide) hd

/-- The gated half into its buffer. -/
def vPart (arg7 arg8 : Memref sig .tc .vmem S1x2048 .f32) (arg11 : Memref sig .tc .vmem S1024x6144 .bf16) (arg17 : Memref sig .tc .vmem S512x2048 .bf16) (harg17 : arg17.IsWhole)
    (h : FVec F S512x1024 .bf16) : Prog (TpuEff nD τ sig (Elt F) Λ₀ .tc) PUnit := do
  let w : Vec F S1024x2048 .bf16 ← Prog.lift (.load arg11 (Rect.unit (s := S1024x6144) ![0, 0] S1024x2048.size inb_S1024x6144_S1024x2048_0_0).toLoadRect (View.loadsAt_vmem h_S1024x2048))
  let g : Vec F S1x2048 .f32 ← Prog.lift (.load arg7 (Rect.unit (s := S1x2048) ![0, 0] S1x2048.size inb_S1x2048_S1x2048_0_0).toLoadRect (View.loadsAt_vmem h_S1x2048))
  let b : Vec F S1x2048 .f32 ← Prog.lift (.load arg8 (Rect.unit (s := S1x2048) ![0, 0] S1x2048.size inb_S1x2048_S1x2048_0_0).toLoadRect (View.loadsAt_vmem h_S1x2048))
  let _ : Vec F S512x2048 .bf16 ← Prog.lift (.load arg17 (Rect.unit (s := S512x2048) ![0, 0] S512x2048.size inb_S512x2048_S512x2048_0_0).toLoadRect (View.loadsAt_vmem h_S512x2048))
  Prog.lift (.store arg17 (Rect.unit (s := S512x2048) ![0, 0] S512x2048.size inb_S512x2048_S512x2048_0_0) (shapeCast S512x2048 (vnorm (vcent h w) g b) shapeCasts_S512x2048_S512x2048)
    Finset.univ (View.stores_vmem h_S512x2048 (harg17.storeExact_slice rfl _ packedbf16_S512x2048_S512x2048_0_0) (fun _ => rfl)) (.inl rfl))

/-- The eight chunks of the product. -/
def ugPart (arg11 : Memref sig .tc .vmem S1024x6144 .bf16) (arg18 : Memref sig .tc .vmem S512x2048 .f32) (h : FVec F S512x1024 .bf16) :
    Prog (TpuEff nD τ sig (Elt F) Λ₀ .tc) PUnit := do
  colChunk arg11 arg18 h 2048 0 (by decide) (by decide)
  colChunk arg11 arg18 h 2560 256 (by decide) (by decide)
  colChunk arg11 arg18 h 3072 512 (by decide) (by decide)
  colChunk arg11 arg18 h 3584 768 (by decide) (by decide)
  colChunk arg11 arg18 h 4096 1024 (by decide) (by decide)
  colChunk arg11 arg18 h 4608 1280 (by decide) (by decide)
  colChunk arg11 arg18 h 5120 1536 (by decide) (by decide)
  colChunk arg11 arg18 h 5632 1792 (by decide) (by decide)

/-- The sixteen heads. -/
def mixPart (arg5 arg6 : Memref sig .tc .vmem S16x128x128 .f32) (arg17 : Memref sig .tc .vmem S512x2048 .bf16) (arg18 : Memref sig .tc .vmem S512x2048 .f32)
    (arg19 : Memref sig .tc .vmem S512x2048 .bf16) (harg19 : arg19.IsWhole) : Prog (TpuEff nD τ sig (Elt F) Λ₀ .tc) PUnit := do
  headMix arg5 arg6 arg17 arg18 arg19 harg19 0 0 (by decide) (by decide)
  headMix arg5 arg6 arg17 arg18 arg19 harg19 1 128 (by decide) (by decide)
  headMix arg5 arg6 arg17 arg18 arg19 harg19 2 256 (by decide) (by decide)
  headMix arg5 arg6 arg17 arg18 arg19 harg19 3 384 (by decide) (by decide)
  headMix arg5 arg6 arg17 arg18 arg19 harg19 4 512 (by decide) (by decide)
  headMix arg5 arg6 arg17 arg18 arg19 harg19 5 640 (by decide) (by decide)
  headMix arg5 arg6 arg17 arg18 arg19 harg19 6 768 (by decide) (by decide)
  headMix arg5 arg6 arg17 arg18 arg19 harg19 7 896 (by decide) (by decide)
  headMix arg5 arg6 arg17 arg18 arg19 harg19 8 1024 (by decide) (by decide)
  headMix arg5 arg6 arg17 arg18 arg19 harg19 9 1152 (by decide) (by decide)
  headMix arg5 arg6 arg17 arg18 arg19 harg19 10 1280 (by decide) (by decide)
  headMix arg5 arg6 arg17 arg18 arg19 harg19 11 1408 (by decide) (by decide)
  headMix arg5 arg6 arg17 arg18 arg19 harg19 12 1536 (by decide) (by decide)
  headMix arg5 arg6 arg17 arg18 arg19 harg19 13 1664 (by decide) (by decide)
  headMix arg5 arg6 arg17 arg18 arg19 harg19 14 1792 (by decide) (by decide)
  headMix arg5 arg6 arg17 arg18 arg19 harg19 15 1920 (by decide) (by decide)

/-- The output product, its scaling, and the sum with the input block. -/
def outPart (arg3 : Memref sig .tc .vmem S1x1024 .f32) (arg10 : Memref sig .tc .vmem S512x1024 .f32) (arg12 : Memref sig .tc .vmem S2048x1024 .bf16)
    (arg19 : Memref sig .tc .vmem S512x2048 .bf16) (x : FVec F S512x1024 .f32) : Prog (TpuEff nD τ sig (Elt F) Λ₀ .tc) PUnit := do
  let y : Vec F S512x2048 .bf16 ← Prog.lift (.load arg19 (Rect.unit (s := S512x2048) ![0, 0] S512x2048.size inb_S512x2048_S512x2048_0_0).toLoadRect (View.loadsAt_vmem h_S512x2048))
  let w : Vec F S2048x1024 .bf16 ← Prog.lift (.load arg12 (Rect.unit (s := S2048x1024) ![0, 0] S2048x1024.size inb_S2048x1024_S2048x1024_0_0).toLoadRect (View.loadsAt_vmem h_S2048x1024))
  let g : Vec F S1x1024 .f32 ← Prog.lift (.load arg3 (Rect.unit (s := S1x1024) ![0, 0] S1x1024.size inb_S1x1024_S1x1024_0_0).toLoadRect (View.loadsAt_vmem h_S1x1024))
  let _ : Vec F S512x1024 .f32 ← Prog.lift (.load arg10 (Rect.unit (s := S512x1024) ![0, 0] S512x1024.size inb_S512x1024_S512x1024_0_0).toLoadRect (View.loadsAt_vmem h_S512x1024))
  Prog.lift (.store arg10 (Rect.unit (s := S512x1024) ![0, 0] S512x1024.size inb_S512x1024_S512x1024_0_0)
    (addf x (rms (matmul dot_S512x2048_S2048x1024_S512x1024_1_0_0_1_n_n none y w (constant S512x1024 .f32 0x00000000#32)) (shapeCast S1x1024 g shapeCasts_S1x1024_S1x1024)))
    Finset.univ (View.stores_vmem_bits_univ h_S512x1024 rfl) (.inl rfl))
  pure ⟨⟩

/-- The body: at the first point the two weights are made resident, then the block is computed. -/
def body (i : grid0.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .hbm S1x1024x6144 .f32) (harg4 : arg4.IsWhole) (arg5 : Memref sig .tc .vmem S16x128x128 .f32) (harg5 : arg5.IsWhole) (arg6 : Memref sig .tc .vmem S16x128x128 .f32) (harg6 : arg6.IsWhole) (arg7 : Memref sig .tc .vmem S1x2048 .f32) (harg7 : arg7.IsWhole) (arg8 : Memref sig .tc .vmem S1x2048 .f32) (harg8 : arg8.IsWhole) (arg9 : Memref sig .tc .hbm S1x2048x1024 .f32) (harg9 : arg9.IsWhole) (arg10 : Memref sig .tc .vmem S512x1024 .f32) (harg10 : arg10.IsWhole) (arg11 : Memref sig .tc .vmem S1024x6144 .bf16) (harg11 : arg11.IsWhole) (arg12 : Memref sig .tc .vmem S2048x1024 .bf16) (harg12 : arg12.IsWhole) (arg13 : Memref sig .tc .vmem S4x32x6144 .f32) (harg13 : arg13.IsWhole) (arg14 : Memref sig .tc .vmem S4x256x1024 .f32) (harg14 : arg14.IsWhole) (arg15 : DmaSems sig S4) (arg16 : DmaSems sig S4) (arg17 : Memref sig .tc .vmem S512x2048 .bf16) (harg17 : arg17.IsWhole) (arg18 : Memref sig .tc .vmem S512x2048 .f32) (harg18 : arg18.IsWhole) (arg19 : Memref sig .tc .vmem S512x2048 .bf16) (harg19 : arg19.IsWhole) :
    Prog (TpuEff nD τ sig (Elt F) Λ₀ .tc) PUnit := do
  if h1 : Scalar.cmpi .ne (Scalar.extui (Scalar.cmpi .eq (BitVec.ofNat 32 (i 0).val) 0#32) : BitVec 32) 0#32 = 1#1 then do
    fillIn arg4 arg11 harg11 arg13 arg15
    fillOut arg9 arg12 harg12 arg14 arg16
  else do
    pure ⟨⟩
  let x : Vec F S512x1024 .f32 ← Prog.lift (.load arg1 (Rect.unit (s := S512x1024) ![0, 0] S512x1024.size inb_S512x1024_S512x1024_0_0).toLoadRect (View.loadsAt_vmem h_S512x1024))
  let g : Vec F S1x1024 .f32 ← Prog.lift (.load arg2 (Rect.unit (s := S1x1024) ![0, 0] S1x1024.size inb_S1x1024_S1x1024_0_0).toLoadRect (View.loadsAt_vmem h_S1x1024))
  vPart arg7 arg8 arg11 arg17 harg17 (truncf .bf16 (rms (shapeCast S512x1024 x shapeCasts_S512x1024_S512x1024) (shapeCast S1x1024 g shapeCasts_S1x1024_S1x1024)) bitsLt_bf16_f32)
  ugPart arg11 arg18 (truncf .bf16 (rms (shapeCast S512x1024 x shapeCasts_S512x1024_S512x1024) (shapeCast S1x1024 g shapeCasts_S1x1024_S1x1024)) bitsLt_bf16_f32)
  mixPart arg5 arg6 arg17 arg18 arg19 harg19
  outPart arg3 arg10 arg12 arg19 (shapeCast S512x1024 x shapeCasts_S512x1024_S512x1024)

end Cert.KernelIdeal.Form

end
-- ==== Proof.Steps.lean ====
/-
  The rules by which the body's pieces are verified: a statement "from `P` the program runs to `Q`", its composition
  and its frame, a load and a store of a memref whose contents are known, and the copy of some rows of a weight into
  one slot of a staging buffer.
-/
module

public import proofs.«01_k».proof.Proof.Form
public import proofs.«01_k».proof.Proof.Gen.KernelIdeal.Frame
public import Idealize.ShloMosaic.PureOps.Ideal

@[expose] public section

set_option maxRecDepth 16384

noncomputable section

namespace Cert.KernelIdeal.Form

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-- A program of the core. -/
abbrev P (F : FTy → Type) (α : Type) := Prog (TpuEff nD τ sig (Elt F) Λ₀ .tc) α

/-- What must hold for the core to run `p` and end at `K`. -/
abbrev W (c : Dev nD) {α : Type} (p : P F α) (K : α → sProp 𝕄) : sProp 𝕄 :=
  wp frame (wpE (defs₀ (F := F)) Variants.none (c : Thread nD τ) none) Set.univ p K

/-- From `A` the program runs to `B`. -/
def Runs (c : Dev nD) (A : sProp 𝕄) (p : P F PUnit) (B : sProp 𝕄) : Prop := A ⊢ W c p (fun _ => B)

/-- Two programs one after the other. -/
theorem Runs.seq {c : Dev nD} {A B C : sProp 𝕄} {p : P F PUnit} {k : PUnit → P F PUnit}
    (h : Runs c A p B) (h' : Runs c B (k ⟨⟩) C) : Runs c A (p >>= k) C := by
  unfold Runs W
  rw [wp_bind]
  exact h.trans (wp_mono _ _ _ fun _ => h')

/-- A program run beside what it does not touch. -/
theorem Runs.frame_r {c : Dev nD} {A B : sProp 𝕄} {p : P F PUnit} (R : sProp 𝕄) (h : Runs c A p B) :
    Runs c iprop(A ∗ R) p iprop(B ∗ R) :=
  (sep_mono_left h).trans (wp_frame_r _ _ _)

/-- A stronger start and a weaker end. -/
theorem Runs.conseq {c : Dev nD} {A A' B B' : sProp 𝕄} {p : P F PUnit} (hA : A' ⊢ A) (hB : B ⊢ B') (h : Runs c A p B) :
    Runs c A' p B' :=
  hA.trans (BIBase.Entails.trans h (wp_mono _ _ _ fun _ => hB))

/-- A program that does nothing. -/
theorem Runs.done {c : Dev nD} {A B : sProp 𝕄} (h : A ⊢ B) : Runs c A (pure ⟨⟩) B :=
  h.trans (le_wp_ret (M := 𝕄) _ _ _ PUnit.unit (fun _ => B))

/-- To run a program up to a continuation it is enough to run it to the state the continuation wants. -/
theorem Runs.use {c : Dev nD} {A B : sProp 𝕄} {p : P F PUnit} (h : Runs c A p B) {k : PUnit → P F PUnit} {K : PUnit → sProp 𝕄} :
    A ⊢ iprop((B -∗ W c (k ⟨⟩) K) -∗ W c (p >>= k) K) := by
  unfold W; rw [wp_bind]
  have h' : A ⊢ W c p (fun _ => B) := h
  iintro HA Hk
  ihave Hw := h' $$ HA
  iapply (wp_wand_r (M := 𝕄)) $$ [Hw Hk]
  isplitl [Hw]; · iexact Hw
  iintro %a HB
  iapply Hk; iexact HB

/-- What a store through a rectangle leaves: the payload inside, what was there outside. -/
theorem read_access_write {sp : Space} {s : Shape} {e : EltTy} (m : Memref sig .tc sp s e) (r : Rect s)
    (f : m.view.ty.Contents (Elt F)) (w : r.shape.Idx → Elt F e) :
    (∀ j, m.view.read (Elt F) ((m.access r).write (Elt F) f w Finset.univ) (r.emb j) = w j)
    ∧ ∀ x, x ∉ r.set → m.view.read (Elt F) ((m.access r).write (Elt F) f w Finset.univ) x = m.view.read (Elt F) f x := by
  constructor
  · intro j
    exact View.read_slice_write_emb (v := m.view) r f w (Finset.mem_univ j)
  · intro x hx
    exact View.read_slice_write_of_not_mem (v := m.view) r f w _ (by rw [Rect.map_emb_univ]; exact hx)

/-- A load of a memref whose contents are known. -/
theorem load_owns (c : Dev nD) {cs : CoreSpace} {s : Shape} {e : EltTy} (m : Memref sig .tc cs s e) (q : PosShare TreeShare)
    (X : s.Idx → Elt F e) (r : Rect s) {hl : m.view.LoadsAt r.toLoadRect} {α : Type} {k : (r.shape.Idx → Elt F e) → P F α} {K : α → sProp 𝕄} :
    (owns (c : Thread nD τ) m q X : sProp 𝕄)
      ⊢ iprop((owns (c : Thread nD τ) m q X -∗ W c (k (fun j => X (r.emb j))) K) -∗ W c (Prog.lift (.load m r.toLoadRect hl) >>= k) K) := by
  unfold owns
  iintro ⟨%f, %hf, H⟩ Hk
  subst hf
  iapply (wp_load Variants.none (c : Thread nD τ) none Set.univ (m := m) (r := r.toLoadRect) (hl := hl) (k := k) (S := m.view.set)
    (View.setOn_subset_set _ _)) $$ H
  iintro H
  iapply Hk
  iexists f; isplitr
  · ipureintro; rfl
  iexact H

/-- A store into a memref held whole. -/
theorem store_owns (c : Dev nD) {cs : CoreSpace} {s : Shape} {e : EltTy} (m : Memref sig .tc cs s e)
    (X : s.Idx → Elt F e) (r : Rect s) {w : r.shape.Idx → Elt F e} {hx : (m.access r).Stores Finset.univ} {hm}
    {K : PUnit → sProp 𝕄} :
    (owns (c : Thread nD τ) m fullShare X : sProp 𝕄)
      ⊢ iprop((∀ Y, ⌜(∀ j, Y (r.emb j) = w j) ∧ ∀ x, x ∉ r.set → Y x = X x⌝ -∗ owns (c : Thread nD τ) m fullShare Y -∗ K ⟨⟩)
        -∗ W c (Prog.lift (.store m r w Finset.univ hx hm)) K) := by
  unfold owns
  iintro ⟨%f, %hf, H⟩ Hk
  subst hf
  iapply (wp_store Variants.none (c : Thread nD τ) none Set.univ (m := m) (r := r) (w := w) (hx := hx) (hm := hm) (k := Prog.ret) (S := m.view.set)
    (Finset.Subset.trans (View.setOn_subset_set _ _) (View.set_slice_subset m.view r))) $$ H
  iintro H
  iapply (le_wp_ret (M := 𝕄))
  iapply Hk $$ %(m.view.read (Elt F) ((m.access r).write (Elt F) f w Finset.univ)) [] [H]
  · ipureintro; exact read_access_write m r f w
  iexists _; isplitr
  swap
  · iexact H
  · ipureintro; rfl

end Cert.KernelIdeal.Form

end
-- ==== Proof.Slots.lean ====
/-
  One slot of a staging buffer of four: a weight's rows are copied into it and read there once they have landed.
-/
module

public import proofs.«01_k».proof.Proof.Steps
public import Idealize.ShloMosaic.Lib.ValueLayout

@[expose] public section

set_option maxRecDepth 16384

noncomputable section

namespace Cert.KernelIdeal.Form

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

variable {n h w : ℕ}

/-- The weight at a row and a column, given as numbers. -/
def atRC (X : (⟨3, ![1, n, w]⟩ : Shape).Idx → F .f32) (a b : ℕ) : F .f32 :=
  if hab : a < n ∧ b < w then X (ix3 (0 : Fin 1) ⟨a, hab.1⟩ ⟨b, hab.2⟩) else Scalar.ofBits .f32 0x00000000#32

/-- The elements of slot `s`. -/
def slotSet (buf : Memref sig .tc .vmem ⟨3, ![4, h, w]⟩ .f32) (s : ℕ) : Finset (buf.view.ty.Idx) :=
  buf.view.setOn (Finset.univ.filter fun x => (x 0).val = s)

/-- Slot `s` holds rows `r …` of the weight. -/
def Landed (c : Dev nD) (buf : Memref sig .tc .vmem ⟨3, ![4, h, w]⟩ .f32) (X : (⟨3, ![1, n, w]⟩ : Shape).Idx → F .f32) (s r : ℕ) : sProp 𝕄 :=
  iprop(∃ f, ⌜∀ x : (⟨3, ![4, h, w]⟩ : Shape).Idx, (x 0).val = s → buf.view.read (Elt F) f x = atRC X (r + (x 1).val) (x 2).val⌝
    ∗ (buf.view.loc (c : Thread nD τ) ↦[slotSet buf s]{fullShare} f))

/-- Slot `s` holds something. -/
def Any (c : Dev nD) (buf : Memref sig .tc .vmem ⟨3, ![4, h, w]⟩ .f32) (s : ℕ) : sProp 𝕄 :=
  iprop(∃ f, (buf.view.loc (c : Thread nD τ) ↦[slotSet buf s]{fullShare} f))

/-- A share of the weight in memory off the core. -/
def Src (c : Dev nD) (a : Memref sig .tc .hbm ⟨3, ![1, n, w]⟩ .f32) (q : PosShare TreeShare) (fs : a.view.ty.Contents (Elt F)) : sProp 𝕄 :=
  iprop(a.view.loc (c : Thread nD τ) ↦[a.view.set]{q} fs)

/-- Slot `s` is idle. -/
def Idle (c : Dev nD) (a : Memref sig .tc .hbm ⟨3, ![1, n, w]⟩ .f32) (buf : Memref sig .tc .vmem ⟨3, ![4, h, w]⟩ .f32) (sem : DmaSem sig)
    (q : PosShare TreeShare) (fs : a.view.ty.Contents (Elt F)) (s : ℕ) : sProp 𝕄 :=
  iprop(Any c buf s ∗ semVal ((c : Thread nD τ), SemLoc.dma sem) 0 ∗ Src c a q fs)

/-- Rows `r …` of the weight are on their way into slot `s`. -/
def Busy (c : Dev nD) (a : Memref sig .tc .hbm ⟨3, ![1, n, w]⟩ .f32) (buf : Memref sig .tc .vmem ⟨3, ![4, h, w]⟩ .f32) (sem : DmaSem sig)
    (q : PosShare TreeShare) (fs : a.view.ty.Contents (Elt F)) (s r : ℕ) : sProp 𝕄 :=
  iprop(∃ S, ⌜S ⊆ a.view.set⌝ ∗ Transfers.Flight countersEmb (c : Thread nD τ) (SemLoc.dma sem) () (buf.view.ref.dmaCredit ⟨2, ![h, w]⟩ .f32)
      iprop(Landed c buf (a.view.read (Elt F) fs) s r ∗ (a.view.loc (c : Thread nD τ) ↦[S]{q} fs))
    ∗ (a.view.loc (c : Thread nD τ) ↦[a.view.set \ S]{q} fs))

/-- The index of a slot's view, in the staging buffer. -/
theorem slot_emb (buf : Memref sig .tc .vmem ⟨3, ![4, h, w]⟩ .f32) (s : ℕ) (hb) (h1) (hq) (i : Fin h) (j : Fin w) (hs : s < 4) :
    ((buf.slice (Rect.unit (s := ⟨3, ![4, h, w]⟩) ![s, 0, 0] ![1, h, w] hb) h1).squeeze ⟨2, ![h, w]⟩ hq).view.emb (ix2 i j)
      = buf.view.emb (ix3 (⟨s, hs⟩ : Fin 4) i j) := by
  show buf.view.emb ((Rect.unit (s := ⟨3, ![4, h, w]⟩) ![s, 0, 0] ![1, h, w] hb).emb (Shape.reshapeEquiv _ (ix2 i j))) = _
  congr 1
  erw [reshapeEquiv_ix2_1ab]
  funext a
  apply Fin.ext
  rw [Rect.emb_apply]
  match a with
  | ⟨0, _⟩ => show s + 1 * 0 = s; omega
  | ⟨1, _⟩ => show 0 + 1 * i.val = i.val; omega
  | ⟨2, _⟩ => show 0 + 1 * j.val = j.val; omega

/-- The index of a block of rows of the weight, in the weight. -/
theorem rows_emb (a : Memref sig .tc .hbm ⟨3, ![1, n, w]⟩ .f32) (r : ℕ) (ha) (h1) (hq) (hr) (h2) (i : Fin h) (j : Fin w) (hi : r + i.val < n) :
    (((a.slice (Rect.unit (s := ⟨3, ![1, n, w]⟩) ![0, 0, 0] ![1, n, w] ha) h1).squeeze ⟨2, ![n, w]⟩ hq).slice
      (Rect.unit (s := ⟨2, ![n, w]⟩) ![r, 0] ![h, w] hr) h2).view.emb (ix2 i j)
      = a.view.emb (ix3 (0 : Fin 1) ⟨r + i.val, hi⟩ j) := by
  show a.view.emb ((Rect.unit (s := ⟨3, ![1, n, w]⟩) ![0, 0, 0] ![1, n, w] ha).emb (Shape.reshapeEquiv _
    ((Rect.unit (s := ⟨2, ![n, w]⟩) ![r, 0] ![h, w] hr).emb (ix2 i j)))) = _
  congr 1
  have e : (Rect.unit (s := ⟨2, ![n, w]⟩) ![r, 0] ![h, w] hr).emb (ix2 i j) = ix2 (⟨r + i.val, hi⟩ : Fin n) j := by
    funext a
    apply Fin.ext
    rw [Rect.emb_apply]
    match a with
    | ⟨0, _⟩ => show r + 1 * i.val = r + i.val; omega
    | ⟨1, _⟩ => show 0 + 1 * j.val = j.val; omega
  rw [e]
  erw [reshapeEquiv_ix2_1ab]
  funext a
  apply Fin.ext
  rw [Rect.emb_apply]
  match a with
  | ⟨0, _⟩ => rfl
  | ⟨1, _⟩ => show 0 + 1 * (r + i.val) = r + i.val; omega
  | ⟨2, _⟩ => show 0 + 1 * j.val = j.val; omega

/-- Two views of one buffer read the same element where their embeddings meet. -/
theorem read_same (buf : Memref sig .tc .vmem ⟨3, ![4, h, w]⟩ .f32) (s : ℕ) (hb) (h1) (hq) (hs : s < 4) (f : buf.view.ty.Contents (Elt F))
    (x : (⟨3, ![4, h, w]⟩ : Shape).Idx) (hx : (x 0).val = s) :
    buf.view.read (Elt F) f x
      = ((buf.slice (Rect.unit (s := ⟨3, ![4, h, w]⟩) ![s, 0, 0] ![1, h, w] hb) h1).squeeze ⟨2, ![h, w]⟩ hq).view.read (Elt F) f (ix2 (x 1) (x 2)) := by
  rw [View.read_apply, View.read_apply]
  have e : buf.view.emb x = ((buf.slice (Rect.unit (s := ⟨3, ![4, h, w]⟩) ![s, 0, 0] ![1, h, w] hb) h1).squeeze ⟨2, ![h, w]⟩ hq).view.emb (ix2 (x 1) (x 2)) := by
    rw [slot_emb buf s hb h1 hq (x 1) (x 2) hs]
    congr 1
    funext a
    match a with
    | ⟨0, _⟩ => exact Fin.ext hx
    | ⟨1, _⟩ => rfl
    | ⟨2, _⟩ => rfl
  rw [e]

/-- A block of rows of the weight reads the weight. -/
theorem read_rows (a : Memref sig .tc .hbm ⟨3, ![1, n, w]⟩ .f32) (r : ℕ) (ha) (h1) (hq) (hr) (h2) (f : a.view.ty.Contents (Elt F))
    (i : Fin h) (j : Fin w) (hi : r + i.val < n) :
    (((a.slice (Rect.unit (s := ⟨3, ![1, n, w]⟩) ![0, 0, 0] ![1, n, w] ha) h1).squeeze ⟨2, ![n, w]⟩ hq).slice
      (Rect.unit (s := ⟨2, ![n, w]⟩) ![r, 0] ![h, w] hr) h2).view.read (Elt F) f (ix2 i j)
      = atRC (a.view.read (Elt F) f) (r + i.val) j.val := by
  unfold atRC
  rw [dif_pos ⟨hi, j.isLt⟩, View.read_apply, View.read_apply, rows_emb a r ha h1 hq hr h2 i j hi]

/-- Starting a copy into an idle slot. -/
theorem start_slot (c : Dev nD) (a : Memref sig .tc .hbm ⟨3, ![1, n, w]⟩ .f32) (buf : Memref sig .tc .vmem ⟨3, ![4, h, w]⟩ .f32) (sem : DmaSem sig)
    (q : PosShare TreeShare) (fs : a.view.ty.Contents (Elt F)) (s r : ℕ) (hs : s < 4) (hrn : r + h ≤ n) (hpos : 0 < h ∧ 0 < w)
    (ha) (h1) (hq) (hr) (h2) (hb) (h3) (hq') (e1) (e2) (e3) :
    Runs c (Idle c a buf sem q fs s)
      (Prog.lift (.enqueueDma (((a.slice (Rect.unit (s := ⟨3, ![1, n, w]⟩) ![0, 0, 0] ![1, n, w] ha) h1).squeeze ⟨2, ![n, w]⟩ hq).slice
          (Rect.unit (s := ⟨2, ![n, w]⟩) ![r, 0] ![h, w] hr) h2)
        (.here ((buf.slice (Rect.unit (s := ⟨3, ![4, h, w]⟩) ![s, 0, 0] ![1, h, w] hb) h3).squeeze ⟨2, ![h, w]⟩ hq')) (.dma sem) e1 e2 e3))
      (Busy c a buf sem q fs s r) := by
  unfold Runs W Idle Any Src Busy
  have hsub : (((a.slice (Rect.unit (s := ⟨3, ![1, n, w]⟩) ![0, 0, 0] ![1, n, w] ha) h1).squeeze ⟨2, ![n, w]⟩ hq).slice
      (Rect.unit (s := ⟨2, ![n, w]⟩) ![r, 0] ![h, w] hr) h2).view.set ⊆ a.view.set := by
    intro i hi
    obtain ⟨y, -, rfl⟩ := Finset.mem_map.1 hi
    have hy : r + (y 0).val < n := by have := (y 0).isLt; have : (y 0).val < h := this; omega
    have ey : y = ix2 (y 0 : Fin h) (y 1 : Fin w) := eq_ix2 _
    rw [ey]; erw [rows_emb a r ha h1 hq hr h2 (y 0) (y 1) hy]
    exact Finset.mem_map_of_mem _ (Finset.mem_univ _)
  have hdst : ((buf.slice (Rect.unit (s := ⟨3, ![4, h, w]⟩) ![s, 0, 0] ![1, h, w] hb) h3).squeeze ⟨2, ![h, w]⟩ hq').view.set ⊆ slotSet buf s := by
    intro i hi
    obtain ⟨y, -, rfl⟩ := Finset.mem_map.1 hi
    have ey : y = ix2 (y 0 : Fin h) (y 1 : Fin w) := eq_ix2 _
    rw [ey]; erw [slot_emb buf s hb h3 hq' (y 0) (y 1) hs]
    exact Finset.mem_map_of_mem _ (Finset.mem_filter.2 ⟨Finset.mem_univ _, rfl⟩)
  have hcr : 0 < ((buf.slice (Rect.unit (s := ⟨3, ![4, h, w]⟩) ![s, 0, 0] ![1, h, w] hb) h3).squeeze ⟨2, ![h, w]⟩ hq').view.dmaCredit := by
    refine View.dmaCredit_pos _ ?_
    exact Finset.prod_pos fun i _ => by fin_cases i; exacts [hpos.1, hpos.2]
  iintro ⟨⟨%fd, Hd⟩, Hv, Hs⟩
  ihave Hs2 := (pointsTo_split_subset (Ix := Unit) (Name := ℕ) (U := Pipeline.UD sig nD τ) (Lvl := ℕ) (q := q) (f := fs) (ℓ := a.view.loc (c : Thread nD τ)) hsub).1 $$ Hs
  icases Hs2 with ⟨Hs1, Hs2⟩
  iapply (Transfers.wp_dmaLocal countersEmb Variants.none (c : Thread nD τ) none (sm := SemLoc.dma sem) (k := Prog.ret)
    (dst := ((buf.slice (Rect.unit (s := ⟨3, ![4, h, w]⟩) ![s, 0, 0] ![1, h, w] hb) h3).squeeze ⟨2, ![h, w]⟩ hq'))
    (Sd := slotSet buf s) (fd := fd) (q := q) (fs := fs) () (buf.view.ref.dmaCredit ⟨2, ![h, w]⟩ .f32) rfl hcr hdst) $$ [Hs1 Hd Hv]
  · isplitl [Hs1]; · iexact Hs1
    isplitl [Hd]; · iexact Hd
    iexact Hv
  iintro HF
  iapply (le_wp_ret (M := 𝕄))
  iexists _; isplitr
  · ipureintro; exact hsub
  isplitl [HF]
  · iapply (Transfers.Flight_mono countersEmb ?_) $$ HF
    refine sep_mono_left ?_
    unfold Landed
    iintro H
    iexists _; isplitr
    swap
    · iexact H
    ipureintro
    intro x hx
    rw [read_same buf s hb h3 hq' hs _ x hx]
    erw [View.read_write_univ]
    have hi : r + (x 1).val < n := by have : (x 1).val < h := (x 1).isLt; omega
    exact read_rows a r ha h1 hq hr h2 fs (x 1) (x 2) hi
  · iexact Hs2

/-- Waiting for the copy into a slot: its rows have landed, and its cell and its share of the weight are back. -/
theorem wait_slot (c : Dev nD) (a : Memref sig .tc .hbm ⟨3, ![1, n, w]⟩ .f32) (buf : Memref sig .tc .vmem ⟨3, ![4, h, w]⟩ .f32) (sem : DmaSem sig)
    (q : PosShare TreeShare) (fs : a.view.ty.Contents (Elt F)) (s r : ℕ)
    {sp : Space} {s' : Shape} {e : EltTy} (src : Memref sig .tc sp s' e) (hb) (h3) (hq') (e1) (e2) :
    Runs c iprop(Busy c a buf sem q fs s r ∗ (∃ W, owes (c : Thread nD τ) 0 W))
      (Prog.lift (.waitDma2 sem src ((buf.slice (Rect.unit (s := ⟨3, ![4, h, w]⟩) ![s, 0, 0] ![1, h, w] hb) h3).squeeze ⟨2, ![h, w]⟩ hq') e1 e2))
      iprop(Landed c buf (a.view.read (Elt F) fs) s r ∗ semVal ((c : Thread nD τ), SemLoc.dma sem) 0 ∗ Src c a q fs
        ∗ (∃ W, owes (c : Thread nD τ) 0 W)) := by
  unfold Runs W Busy Src
  iintro ⟨⟨%S, %hS, HF, Hs2⟩, ⟨%W0, HW⟩⟩
  iapply (Transfers.wp_waitLocal countersEmb Variants.none (c : Thread nD τ) none (sem := sem) (k := Prog.ret)
    (dstw := ((buf.slice (Rect.unit (s := ⟨3, ![4, h, w]⟩) ![s, 0, 0] ![1, h, w] hb) h3).squeeze ⟨2, ![h, w]⟩ hq'))
    () (N := buf.view.ref.dmaCredit ⟨2, ![h, w]⟩ .f32) rfl) $$ [HF HW]
  · isplitl [HF]; · iexact HF
    iexact HW
  iintro ⟨⟨HL, Hs1⟩, Hv, HW⟩
  iapply (le_wp_ret (M := 𝕄))
  isplitl [HL]; · iexact HL
  isplitl [Hv]; · iexact Hv
  isplitl [Hs1 Hs2]
  · iapply (pointsTo_split_subset (Ix := Unit) (Name := ℕ) (U := Pipeline.UD sig nD τ) (Lvl := ℕ) (q := q) (f := fs) (ℓ := a.view.loc (c : Thread nD τ)) hS).2
    isplitl [Hs1]; · iexact Hs1
    iexact Hs2
  · iexists _; iexact HW

/-- A slot whose rows have been read is idle again. -/
theorem Landed.any (c : Dev nD) (buf : Memref sig .tc .vmem ⟨3, ![4, h, w]⟩ .f32) (X : (⟨3, ![1, n, w]⟩ : Shape).Idx → F .f32) (s r : ℕ) :
    (Landed c buf X s r : sProp 𝕄) ⊢ Any c buf s := by
  unfold Landed Any
  iintro ⟨%f, -, H⟩
  iexists f; iexact H

/-- A load from a slot whose rows have landed. -/
theorem load_landed (c : Dev nD) (buf : Memref sig .tc .vmem ⟨3, ![4, h, w]⟩ .f32) (X : (⟨3, ![1, n, w]⟩ : Shape).Idx → F .f32) (s r : ℕ)
    (rc : Rect ⟨3, ![4, h, w]⟩) (hrc : ∀ j, (rc.emb j 0).val = s) {hl : buf.view.LoadsAt rc.toLoadRect} {α : Type} {k : (rc.shape.Idx → Elt F .f32) → P F α} {K : α → sProp 𝕄} :
    (Landed c buf X s r : sProp 𝕄)
      ⊢ iprop((∀ v, ⌜∀ j, v j = atRC X (r + (rc.emb j 1).val) (rc.emb j 2).val⌝ -∗ Landed c buf X s r -∗ W c (k v) K)
        -∗ W c (Prog.lift (.load buf rc.toLoadRect hl) >>= k) K) := by
  unfold Landed
  iintro ⟨%f, %hf, H⟩ Hk
  have hsub : buf.view.setOn rc.toLoadRect.set ⊆ slotSet buf s := by
    intro i hi
    obtain ⟨y, hy, rfl⟩ := Finset.mem_map.1 hi
    refine Finset.mem_map_of_mem _ (Finset.mem_filter.2 ⟨Finset.mem_univ _, ?_⟩)
    have hy' : y ∈ rc.set := hy
    rw [← Rect.map_emb_univ] at hy'
    obtain ⟨j, -, rfl⟩ := Finset.mem_map.1 hy'
    exact hrc j
  iapply (wp_load Variants.none (c : Thread nD τ) none Set.univ (m := buf) (r := rc.toLoadRect) (hl := hl) (k := k) (S := slotSet buf s) hsub) $$ H
  iintro H
  iapply Hk $$ %(buf.view.readAt (Elt F) rc.toLoadRect f) [] [H]
  · ipureintro
    intro j
    exact hf _ (hrc j)
  iexists f; isplitr
  · ipureintro; exact hf
  iexact H

/-! ## The four slots of a buffer, and four shares of a weight -/

theorem slotSet_disjoint (buf : Memref sig .tc .vmem ⟨3, ![4, h, w]⟩ .f32) {s s' : ℕ} (hne : s ≠ s') : Disjoint (slotSet buf s) (slotSet buf s') := by
  rw [Finset.disjoint_left]
  intro i h1 h2
  obtain ⟨x, hx, rfl⟩ := Finset.mem_map.1 h1
  obtain ⟨y, hy, e⟩ := Finset.mem_map.1 h2
  have exy : y = x := buf.view.emb.injective e
  subst exy
  exact hne ((Finset.mem_filter.1 hx).2.symm.trans (Finset.mem_filter.1 hy).2)

theorem slotSet_union (buf : Memref sig .tc .vmem ⟨3, ![4, h, w]⟩ .f32) :
    slotSet buf 0 ∪ (slotSet buf 1 ∪ (slotSet buf 2 ∪ slotSet buf 3)) = buf.view.set := by
  ext i
  constructor
  · intro hi
    simp only [Finset.mem_union] at hi
    rcases hi with hi | hi | hi | hi <;> exact View.setOn_subset_set _ _ hi
  · intro hi
    obtain ⟨x, -, rfl⟩ := Finset.mem_map.1 hi
    have h4 : (x 0).val < 4 := (x 0).isLt
    have hm : buf.view.emb x ∈ slotSet buf (x 0).val := Finset.mem_map_of_mem _ (Finset.mem_filter.2 ⟨Finset.mem_univ _, rfl⟩)
    simp only [Finset.mem_union]
    have : (x 0).val = 0 ∨ (x 0).val = 1 ∨ (x 0).val = 2 ∨ (x 0).val = 3 := by omega
    rcases this with e | e | e | e <;> rw [e] at hm
    · exact Or.inl hm
    · exact Or.inr (Or.inl hm)
    · exact Or.inr (Or.inr (Or.inl hm))
    · exact Or.inr (Or.inr (Or.inr hm))

theorem slotSet_disjoint3 (buf : Memref sig .tc .vmem ⟨3, ![4, h, w]⟩ .f32) :
    Disjoint (slotSet buf 0) (slotSet buf 1 ∪ (slotSet buf 2 ∪ slotSet buf 3)) ∧ Disjoint (slotSet buf 1) (slotSet buf 2 ∪ slotSet buf 3)
      ∧ Disjoint (slotSet buf 2) (slotSet buf 3) :=
  ⟨Finset.disjoint_union_right.2 ⟨slotSet_disjoint buf (by decide), Finset.disjoint_union_right.2 ⟨slotSet_disjoint buf (by decide), slotSet_disjoint buf (by decide)⟩⟩,
    Finset.disjoint_union_right.2 ⟨slotSet_disjoint buf (by decide), slotSet_disjoint buf (by decide)⟩, slotSet_disjoint buf (by decide)⟩

/-- A staging buffer is its four slots. -/
theorem slots_split (c : Dev nD) (buf : Memref sig .tc .vmem ⟨3, ![4, h, w]⟩ .f32) :
    iprop(∃ f, owns (c : Thread nD τ) buf fullShare f) ⊢ (iprop(Any c buf 0 ∗ Any c buf 1 ∗ Any c buf 2 ∗ Any c buf 3) : sProp 𝕄) := by
  obtain ⟨d0, d1, d2⟩ := slotSet_disjoint3 buf
  unfold owns Any
  rw [← slotSet_union]
  iintro ⟨%d, %f, -, H⟩
  ihave H' := (pointsTo_union (Ix := Unit) (Name := ℕ) (U := Pipeline.UD sig nD τ) (Lvl := ℕ) (ℓ := buf.view.loc (c : Thread nD τ)) d0).1 $$ H
  icases H' with ⟨H0, H⟩
  ihave H' := (pointsTo_union (Ix := Unit) (Name := ℕ) (U := Pipeline.UD sig nD τ) (Lvl := ℕ) (ℓ := buf.view.loc (c : Thread nD τ)) d1).1 $$ H
  icases H' with ⟨H1, H⟩
  ihave H' := (pointsTo_union (Ix := Unit) (Name := ℕ) (U := Pipeline.UD sig nD τ) (Lvl := ℕ) (ℓ := buf.view.loc (c : Thread nD τ)) d2).1 $$ H
  icases H' with ⟨H2, H3⟩
  isplitl [H0]; · iexists _; iexact H0
  isplitl [H1]; · iexists _; iexact H1
  isplitl [H2]; · iexists _; iexact H2
  iexists _; iexact H3

/-- and the four slots are the buffer. -/
theorem slots_join (c : Dev nD) (buf : Memref sig .tc .vmem ⟨3, ![4, h, w]⟩ .f32) :
    (iprop(Any c buf 0 ∗ Any c buf 1 ∗ Any c buf 2 ∗ Any c buf 3) : sProp 𝕄) ⊢ iprop(∃ f, owns (c : Thread nD τ) buf fullShare f) := by
  obtain ⟨d0, d1, d2⟩ := slotSet_disjoint3 buf
  unfold owns Any
  rw [← slotSet_union]
  iintro ⟨⟨%f0, H0⟩, ⟨%f1, H1⟩, ⟨%f2, H2⟩, ⟨%f3, H3⟩⟩
  ihave H := (pointsTo_join (Ix := Unit) (Name := ℕ) (U := Pipeline.UD sig nD τ) (Lvl := ℕ) (ℓ := buf.view.loc (c : Thread nD τ)) d2) $$ [H2 H3]
  · isplitl [H2]; · iexact H2
    iexact H3
  ihave H' := (pointsTo_join (Ix := Unit) (Name := ℕ) (U := Pipeline.UD sig nD τ) (Lvl := ℕ) (ℓ := buf.view.loc (c : Thread nD τ)) d1) $$ [H1 H]
  · isplitl [H1]; · iexact H1
    iexact H
  ihave H'' := (pointsTo_join (Ix := Unit) (Name := ℕ) (U := Pipeline.UD sig nD τ) (Lvl := ℕ) (ℓ := buf.view.loc (c : Thread nD τ)) d0) $$ [H0 H']
  · isplitl [H0]; · iexact H0
    iexact H'
  iexists _; iexists _; isplitr
  swap
  · iexact H''
  · ipureintro; rfl

/-- A quarter of a share, for each slot. -/
def quarter (s : ℕ) : PosShare TreeShare :=
  if s = 0 then (fullShare : PosShare TreeShare).left.left else if s = 1 then (fullShare : PosShare TreeShare).left.right
  else if s = 2 then (fullShare : PosShare TreeShare).right.left else (fullShare : PosShare TreeShare).right.right

/-- The weight's four quarters. -/
theorem src_quarters (c : Dev nD) (a : Memref sig .tc .hbm ⟨3, ![1, n, w]⟩ .f32) (fs : a.view.ty.Contents (Elt F)) :
    (Src c a fullShare fs : sProp 𝕄) ⊣⊢ iprop((Src c a (quarter 0) fs ∗ Src c a (quarter 1) fs) ∗ Src c a (quarter 2) fs ∗ Src c a (quarter 3) fs) := by
  unfold Src
  have h0 := pointsTo_share (Ix := Unit) (Name := ℕ) (U := Pipeline.UD sig nD τ) (Lvl := ℕ) (ℓ := a.view.loc (c : Thread nD τ)) (I := a.view.set) (f := fs)
    (PosShare.mem_left_op_right (fullShare : PosShare TreeShare))
  have h1 := pointsTo_share (Ix := Unit) (Name := ℕ) (U := Pipeline.UD sig nD τ) (Lvl := ℕ) (ℓ := a.view.loc (c : Thread nD τ)) (I := a.view.set) (f := fs)
    (PosShare.mem_left_op_right (fullShare : PosShare TreeShare).left)
  have h2 := pointsTo_share (Ix := Unit) (Name := ℕ) (U := Pipeline.UD sig nD τ) (Lvl := ℕ) (ℓ := a.view.loc (c : Thread nD τ)) (I := a.view.set) (f := fs)
    (PosShare.mem_left_op_right (fullShare : PosShare TreeShare).right)
  refine ⟨h0.1.trans (BIClass.sep_mono h1.1 h2.1), (BIClass.sep_mono h1.2 h2.2).trans h0.2⟩

/-! ## Four slots in turn -/

section ring

variable {c : Dev nD} (Sl Id Kn : ℕ → sProp (MT nD τ sig Unit (Elt F) ℕ (Pipeline.UD sig nD τ) ℕ)) (Wt : sProp (MT nD τ sig Unit (Elt F) ℕ (Pipeline.UD sig nD τ) ℕ))

/-- Before step `j`: copies `j … j+3` are on their way, what came before is in place. -/
def Turn (j : ℕ) : sProp 𝕄 := iprop(Sl j ∗ Sl (j + 1) ∗ Sl (j + 2) ∗ Sl (j + 3) ∗ Kn j ∗ Wt)

/-- Within step `j`: copy `j` is in place and its slot idle. -/
def Turned (j : ℕ) : sProp 𝕄 := iprop(Id j ∗ Sl (j + 1) ∗ Sl (j + 2) ∗ Sl (j + 3) ∗ Kn (j + 1) ∗ Wt)

variable {Sl Id Kn Wt}

theorem Turn.land {j : ℕ} {p : P F PUnit} (hl : Runs c iprop(Sl j ∗ Kn j ∗ Wt) p iprop(Id j ∗ Kn (j + 1) ∗ Wt)) :
    Runs c (Turn Sl Kn Wt j) p (Turned Sl Id Kn Wt j) := by
  refine Runs.conseq ?_ ?_ (hl.frame_r iprop(Sl (j + 1) ∗ Sl (j + 2) ∗ Sl (j + 3)))
  · unfold Turn
    iintro ⟨H0, H1, H2, H3, HK, HW⟩
    isplitl [H0 HK HW]
    · isplitl [H0]; · iexact H0
      isplitl [HK]; · iexact HK
      iexact HW
    isplitl [H1]; · iexact H1
    isplitl [H2]; · iexact H2
    iexact H3
  · unfold Turned
    iintro ⟨⟨H0, HK, HW⟩, H1, H2, H3⟩
    isplitl [H0]; · iexact H0
    isplitl [H1]; · iexact H1
    isplitl [H2]; · iexact H2
    isplitl [H3]; · iexact H3
    isplitl [HK]; · iexact HK
    iexact HW

theorem Turned.next {j : ℕ} (hs : Id j ⊢ Sl (j + 4)) : (Turned Sl Id Kn Wt j : sProp 𝕄) ⊢ Turn Sl Kn Wt (j + 1) := by
  unfold Turned Turn
  iintro ⟨H0, H1, H2, H3, HK, HW⟩
  isplitl [H1]; · iexact H1
  isplitl [H2]; · iexact H2
  isplitl [H3]; · iexact H3
  isplitl [H0]; · iapply hs $$ H0
  isplitl [HK]; · iexact HK
  iexact HW

theorem Turned.start {j : ℕ} {p : P F PUnit} (hs : Runs c (Id j) p (Sl (j + 4))) : Runs c (Turned Sl Id Kn Wt j) p (Turn Sl Kn Wt (j + 1)) := by
  refine Runs.conseq .rfl ?_ (hs.frame_r iprop(Sl (j + 1) ∗ Sl (j + 2) ∗ Sl (j + 3) ∗ Kn (j + 1) ∗ Wt))
  unfold Turn
  iintro ⟨H0, H1, H2, H3, HK, HW⟩
  isplitl [H1]; · iexact H1
  isplitl [H2]; · iexact H2
  isplitl [H3]; · iexact H3
  isplitl [H0]; · iexact H0
  isplitl [HK]; · iexact HK
  iexact HW

/-- The first four copies. -/
theorem Turn.begin {p0 p1 p2 p3 k : P F PUnit} {C : sProp 𝕄} (h0 : Runs c (Id 0) p0 (Sl 0)) (h1 : Runs c (Id 1) p1 (Sl 1))
    (h2 : Runs c (Id 2) p2 (Sl 2)) (h3 : Runs c (Id 3) p3 (Sl 3)) (hk : Runs c (Turn Sl Kn Wt 0) k C) :
    Runs c iprop((Id 0 ∗ Id 1 ∗ Id 2 ∗ Id 3) ∗ Kn 0 ∗ Wt) (p0 >>= fun _ => p1 >>= fun _ => p2 >>= fun _ => p3 >>= fun _ => k) C := by
  unfold Runs
  iintro ⟨⟨H0, H1, H2, H3⟩, HK, HW⟩
  iapply (Runs.use h0) $$ H0
  iintro H0
  iapply (Runs.use h1) $$ H1
  iintro H1
  iapply (Runs.use h2) $$ H2
  iintro H2
  iapply (Runs.use h3) $$ H3
  iintro H3
  have hk' : Turn Sl Kn Wt 0 ⊢ W c k (fun _ => C) := hk
  iapply hk'
  unfold Turn
  isplitl [H0]; · iexact H0
  isplitl [H1]; · iexact H1
  isplitl [H2]; · iexact H2
  isplitl [H3]; · iexact H3
  isplitl [HK]; · iexact HK
  iexact HW

end ring

end Cert.KernelIdeal.Form

end
-- ==== Proof.Fill.lean ====
/-
  Making the weights resident: each block of landed rows is cast to its permuted columns, slot by slot, until the whole
  weight is there.
-/
module

public import proofs.«01_k».proof.Proof.Slots

@[expose] public section

set_option maxRecDepth 16384

noncomputable section

namespace Cert.KernelIdeal.Form

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-- A buffer that agrees with `X` at the indices of `p`. -/
def Known (c : Dev nD) {cs : CoreSpace} {s : Shape} {e : EltTy} (m : Memref sig .tc cs s e) (p : s.Idx → Prop) (X : s.Idx → Elt F e) : sProp 𝕄 :=
  iprop(∃ f, ⌜∀ x, p x → f x = X x⌝ ∗ owns (c : Thread nD τ) m fullShare f)

section known

variable (c : Dev nD) {cs : CoreSpace} {s : Shape} {e : EltTy} (m : Memref sig .tc cs s e) (X : s.Idx → Elt F e)

/-- Any contents agree nowhere. -/
theorem Known.start (p : s.Idx → Prop) (hp : ∀ x, ¬p x) : iprop(∃ f, owns (c : Thread nD τ) m fullShare f) ⊢ (Known c m p X : sProp 𝕄) := by
  unfold Known
  iintro ⟨%f, H⟩
  iexists f; isplitr
  · ipureintro; exact fun x hx => absurd hx (hp x)
  iexact H

/-- Contents known everywhere are the contents. -/
theorem Known.all (p : s.Idx → Prop) (hp : ∀ x, p x) : (Known c m p X : sProp 𝕄) ⊢ owns (c : Thread nD τ) m fullShare X := by
  unfold Known
  iintro ⟨%f, %hf, H⟩
  have e : f = X := funext fun x => hf x (hp x)
  subst e
  iexact H

/-- Less is known at fewer indices. -/
theorem Known.mono (p p' : s.Idx → Prop) (hp : ∀ x, p' x → p x) : (Known c m p X : sProp 𝕄) ⊢ Known c m p' X := by
  unfold Known
  iintro ⟨%f, %hf, H⟩
  iexists f; isplitr
  · ipureintro; exact fun x hx => hf x (hp x hx)
  iexact H

/-- A load of a buffer whose contents do not matter. -/
theorem load_known (p : s.Idx → Prop) (r : Rect s) {hl : m.view.LoadsAt r.toLoadRect} {α : Type} {k : (r.shape.Idx → Elt F e) → P F α} {K : α → sProp 𝕄} :
    (Known c m p X : sProp 𝕄)
      ⊢ iprop((∀ v, Known c m p X -∗ W c (k v) K) -∗ W c (Prog.lift (.load m r.toLoadRect hl) >>= k) K) := by
  unfold Known
  iintro ⟨%f, %hf, H⟩ Hk
  iapply (load_owns c m fullShare f r) $$ H
  iintro H
  iapply Hk
  iexists f; isplitr
  · ipureintro; exact hf
  iexact H

/-- A store of the right values: they are known inside the rectangle too. -/
theorem store_known (p p' : s.Idx → Prop) (r : Rect s) {w : r.shape.Idx → Elt F e} {hx : (m.access r).Stores Finset.univ} {hm}
    (hw : ∀ j, w j = X (r.emb j)) (hp : ∀ x, p' x → x ∈ r.set ∨ p x) {K : PUnit → sProp 𝕄} :
    (Known c m p X : sProp 𝕄)
      ⊢ iprop((Known c m p' X -∗ K ⟨⟩) -∗ W c (Prog.lift (.store m r w Finset.univ hx hm)) K) := by
  unfold Known
  iintro ⟨%f, %hf, H⟩ Hk
  iapply (store_owns c m f r) $$ H
  iintro %Y %hY H
  iapply Hk
  iexists Y; isplitr
  · ipureintro
    intro x hx'
    by_cases hr : x ∈ r.set
    · have hr' := hr
      rw [← Rect.map_emb_univ] at hr'
      obtain ⟨j, -, rfl⟩ := Finset.mem_map.1 hr'
      rw [hY.1 j, hw j]
    · rw [hY.2 x hr]
      exact hf x ((hp x hx').resolve_left hr)
  iexact H

end known

/-! ## The input weight -/

/-- The weight's column that the resident weight holds at column `d`. -/
def perm (d : ℕ) : ℕ :=
  if d < 2048 then d + 2048
  else (d - 2048) / 256 / 2 * 256 + (if (d - 2048) / 256 % 2 = 1 then 4096 else 0) + (d - 2048) % 256

/-- The resident input weight: the weight's columns, permuted. -/
def resIn (X : S1x1024x6144.Idx → F .f32) : S1024x6144.Idx → F .bf16 :=
  fun x => FloatOps.truncf .bf16 bitsLt_bf16_f32 (atRC (n := 1024) (w := 6144) X (x 0).val (perm (x 1).val))

/-- Rows below `r`, and of the next thirty-two the columns below `d`. -/
def upTo (r d : ℕ) (x : S1024x6144.Idx) : Prop := (x 0).val < r ∨ ((x 0).val < r + 32 ∧ (x 1).val < d)

section fillIn

variable (c : Dev nD) (arg4 : Memref sig .tc .hbm S1x1024x6144 .f32) (arg11 : Memref sig .tc .vmem S1024x6144 .bf16) (harg11 : arg11.IsWhole)
    (arg13 : Memref sig .tc .vmem S4x32x6144 .f32) (arg15 : DmaSems sig S4) (X : S1x1024x6144.Idx → F .f32)

/-- One block of columns cast to its place. -/
theorem castBlk_runs (r s : ℕ) (hr : r + 32 ≤ 1024) (hp : 2 ∣ r) (hs : s < 4) (c0 d : ℕ) (hc : c0 + 256 ≤ 6144) (hd : d + 256 ≤ 6144)
    (hperm : ∀ o < 256, perm (d + o) = c0 + o) :
    Runs c iprop(Landed c arg13 X s r ∗ Known c arg11 (upTo r d) (resIn X)) (castBlk arg11 harg11 arg13 r s hr hp hs c0 d hc hd)
      iprop(Landed c arg13 X s r ∗ Known c arg11 (upTo r (d + 256)) (resIn X)) := by
  unfold Runs castBlk
  iintro ⟨HL, HK⟩
  iapply (load_landed c arg13 X s r _ (by intro j; have := (j 0).isLt; have h : (j 0).val < 1 := this; rw [Rect.emb_apply]; show s + 1 * (j 0).val = s; omega)) $$ HL
  iintro %v %hv HL
  iapply (load_known c arg11 (resIn X) (upTo r d) _) $$ HK
  iintro %u HK
  iapply (store_known c arg11 (resIn X) (upTo r d) (upTo r (d + 256)) _ ?_ ?_) $$ HK
  · intro j
    obtain ⟨i, o, rfl⟩ : ∃ (i : Fin 32) (o : Fin 256), j = ix2 i o := ⟨j 0, j 1, eq_ix2 j⟩
    rw [shapeCast_self]
    show FloatOps.truncf .bf16 bitsLt_bf16_f32 (shapeCast S32x256 v _ (ix2 i o)) = _
    erw [shapeCast_1ab_ab_apply, hv]
    show FloatOps.truncf .bf16 bitsLt_bf16_f32 (atRC X (r + (0 + 1 * i.val)) (c0 + 1 * o.val)) = FloatOps.truncf .bf16 bitsLt_bf16_f32 (atRC X (r + 1 * i.val) (perm (d + 1 * o.val)))
    rw [Nat.one_mul, Nat.one_mul, hperm _ o.isLt, Nat.zero_add]
  · intro x hx
    rw [Rect.mem_set_unit]
    rcases hx with hx | ⟨hx, hd'⟩
    · exact Or.inr (Or.inl hx)
    · by_cases h1 : (x 0).val < r
      · exact Or.inr (Or.inl h1)
      by_cases h2 : (x 1).val < d
      · exact Or.inr (Or.inr ⟨hx, h2⟩)
      refine Or.inl fun a => ?_
      match a with
      | ⟨0, _⟩ => exact ⟨Nat.le_of_not_lt h1, hx⟩
      | ⟨1, _⟩ => exact ⟨Nat.le_of_not_lt h2, hd'⟩
  iintro HK
  isplitl [HL]; · iexact HL
  iexact HK

/-- The wide block, the columns that come first. -/
theorem castWide_runs (r s : ℕ) (hr : r + 32 ≤ 1024) (hp : 2 ∣ r) (hs : s < 4) :
    Runs c iprop(Landed c arg13 X s r ∗ Known c arg11 (upTo r 0) (resIn X)) (castWide arg11 harg11 arg13 r s hr hp hs)
      iprop(Landed c arg13 X s r ∗ Known c arg11 (upTo r 2048) (resIn X)) := by
  unfold Runs castWide
  iintro ⟨HL, HK⟩
  iapply (load_landed c arg13 X s r _ (by intro j; have := (j 0).isLt; have h : (j 0).val < 1 := this; rw [Rect.emb_apply]; show s + 1 * (j 0).val = s; omega)) $$ HL
  iintro %v %hv HL
  iapply (load_known c arg11 (resIn X) (upTo r 0) _) $$ HK
  iintro %u HK
  iapply (store_known c arg11 (resIn X) (upTo r 0) (upTo r 2048) _ ?_ ?_) $$ HK
  · intro j
    obtain ⟨i, o, rfl⟩ : ∃ (i : Fin 32) (o : Fin 2048), j = ix2 i o := ⟨j 0, j 1, eq_ix2 j⟩
    rw [shapeCast_self]
    show FloatOps.truncf .bf16 bitsLt_bf16_f32 (shapeCast S32x2048 v _ (ix2 i o)) = _
    erw [shapeCast_1ab_ab_apply, hv]
    show FloatOps.truncf .bf16 bitsLt_bf16_f32 (atRC X (r + (0 + 1 * i.val)) (2048 + 1 * o.val)) = FloatOps.truncf .bf16 bitsLt_bf16_f32 (atRC X (r + 1 * i.val) (perm (0 + 1 * o.val)))
    rw [Nat.one_mul, Nat.one_mul, Nat.zero_add, Nat.zero_add, perm, if_pos o.isLt, Nat.add_comm 2048]
  · intro x hx
    rw [Rect.mem_set_unit]
    rcases hx with hx | ⟨hx, hd'⟩
    · exact Or.inr (Or.inl hx)
    · by_cases h1 : (x 0).val < r
      · exact Or.inr (Or.inl h1)
      refine Or.inl fun a => ?_
      match a with
      | ⟨0, _⟩ => exact ⟨Nat.le_of_not_lt h1, hx⟩
      | ⟨1, _⟩ => exact ⟨Nat.zero_le _, by simpa using hd'⟩
  iintro HK
  isplitl [HL]; · iexact HL
  iexact HK

/-- Where a block of 256 columns comes from. -/
theorem perm_blk (d c0 : ℕ) (h : 2048 ≤ d ∧ d % 256 = 0 ∧ c0 = (d - 2048) / 256 / 2 * 256 + (if (d - 2048) / 256 % 2 = 1 then 4096 else 0)) :
    ∀ o < 256, perm (d + o) = c0 + o := by
  intro o ho
  unfold perm
  rw [if_neg (by omega), show (d + o - 2048) / 256 = (d - 2048) / 256 by omega, show (d + o - 2048) % 256 = o by omega, h.2.2]

/-- The core's record of its waits, whatever it is. -/
def Waited (c : Dev nD) : sProp 𝕄 := iprop(∃ W, owes (c : Thread nD τ) 0 W)

/-- Slot `s` on its way with rows `r …` to idle: its rows are in place, at their permuted columns. -/
theorem landIn_runs (q : PosShare TreeShare) (fs : arg4.view.ty.Contents (Elt F)) (hX : arg4.view.read (Elt F) fs = X)
    (r s : ℕ) (hr : r + 32 ≤ 1024) (hp : 2 ∣ r) (hs : s < 4) :
    Runs c iprop(Busy (h := 32) c arg4 arg13 (semAt arg15 s hs) q fs s r ∗ Known c arg11 (upTo r 0) (resIn X) ∗ Waited c)
      (landIn arg4 arg11 harg11 arg13 arg15 r s hr hp hs)
      iprop(Idle (h := 32) c arg4 arg13 (semAt arg15 s hs) q fs s ∗ Known c arg11 (upTo (r + 32) 0) (resIn X) ∗ Waited c) := by
  subst hX
  let R : sProp 𝕄 := iprop(semVal ((c : Thread nD τ), SemLoc.dma (semAt arg15 s hs)) 0 ∗ Src c arg4 q fs ∗ Waited c)
  have blk : ∀ (c0 d : ℕ) (hc : c0 + 256 ≤ 6144) (hd : d + 256 ≤ 6144),
      (2048 ≤ d ∧ d % 256 = 0 ∧ c0 = (d - 2048) / 256 / 2 * 256 + (if (d - 2048) / 256 % 2 = 1 then 4096 else 0)) →
      Runs c iprop((Landed c arg13 (arg4.view.read (Elt F) fs) s r ∗ Known c arg11 (upTo r d) (resIn (arg4.view.read (Elt F) fs))) ∗ R)
        (castBlk arg11 harg11 arg13 r s hr hp hs c0 d hc hd)
        iprop((Landed c arg13 (arg4.view.read (Elt F) fs) s r ∗ Known c arg11 (upTo r (d + 256)) (resIn (arg4.view.read (Elt F) fs))) ∗ R) :=
    fun c0 d hc hd h => (castBlk_runs c arg11 harg11 arg13 (arg4.view.read (Elt F) fs) r s hr hp hs c0 d hc hd
      (perm_blk d c0 h)).frame_r R
  unfold landIn
  refine Runs.seq (B := iprop((Landed c arg13 (arg4.view.read (Elt F) fs) s r ∗ Known c arg11 (upTo r 0) (resIn (arg4.view.read (Elt F) fs))) ∗ R)) ?_ ?_
  · have h := (wait_slot c arg4 arg13 (semAt arg15 s hs) q fs s r
      (((arg4.slice (Rect.unit (s := S1x1024x6144) ![0, 0, 0] S1x1024x6144.size inb_S1x1024x6144_S1x1024x6144_0_0_0) (fun _ => rfl)).squeeze
        S1024x6144 squeezes_S1x1024x6144_S1024x6144).slice (Rect.unit (s := S1024x6144) ![r, 0] S32x6144.size (inb2 hr (by decide))) (fun _ => rfl))
      (inb13 hs (by decide)) (fun _ => rfl) squeezes_S1x32x6144_S32x6144 (View.wordExact_bits rfl) ((View.wordExact_bits rfl).reshape _ _)).frame_r
      (Known c arg11 (upTo r 0) (resIn (arg4.view.read (Elt F) fs)))
    refine Runs.conseq ?_ ?_ h
    · unfold Waited
      iintro ⟨HB, HK, HW⟩
      isplitl [HB HW]
      · isplitl [HB]; · iexact HB
        iexact HW
      iexact HK
    · unfold R Waited
      iintro ⟨⟨HL, Hv, Hs, HW⟩, HK⟩
      isplitl [HL HK]
      · isplitl [HL]; · iexact HL
        iexact HK
      isplitl [Hv]; · iexact Hv
      isplitl [Hs]; · iexact Hs
      iexact HW
  refine Runs.seq ((castWide_runs c arg11 harg11 arg13 _ r s hr hp hs).frame_r R) ?_
  iterate 15 refine Runs.seq (blk _ _ _ _ (by norm_num)) ?_
  refine Runs.conseq .rfl ?_ (blk _ _ _ _ (by norm_num))
  unfold Idle R
  iintro ⟨⟨HL, HK⟩, Hv, Hs, HW⟩
  isplitl [HL Hv Hs]
  · isplitl [HL]; · iapply (Landed.any c arg13 _ s r) $$ HL
    isplitl [Hv]; · iexact Hv
    iexact Hs
  isplitl [HK]
  · iapply (Known.mono c arg11 _ _ _ ?_) $$ HK
    intro x hx
    have h1 : (x 1).val < 6144 := (x 1).isLt
    rcases hx with hx | ⟨hx, hd⟩
    · by_cases h0 : (x 0).val < r
      · exact Or.inl h0
      · exact Or.inr ⟨hx, h1⟩
    · exact absurd hd (Nat.not_lt_zero _)
  iexact HW

end fillIn

/-! ## The ring: `m` copies through four slots -/

section slots

variable {n h w : ℕ} (c : Dev nD) (a : Memref sig .tc .hbm ⟨3, ![1, n, w]⟩ .f32) (buf : Memref sig .tc .vmem ⟨3, ![4, h, w]⟩ .f32) (sem : DmaSems sig S4)
    (fs : a.view.ty.Contents (Elt F)) (m : ℕ)

/-- Slot `k % 4` idle, with its own quarter of the weight. -/
def Rest (k : ℕ) : sProp 𝕄 := Idle c a buf (semAt sem (k % 4) (Nat.mod_lt _ (by decide))) (quarter (k % 4)) fs (k % 4)

/-- Copy `k` of `m`: on its way to its slot, which is idle when there is no such copy. -/
def Slot (k : ℕ) : sProp 𝕄 :=
  if k < m then Busy c a buf (semAt sem (k % 4) (Nat.mod_lt _ (by decide))) (quarter (k % 4)) fs (k % 4) (h * k) else Rest c a buf sem fs k

variable {c a buf sem fs m}

theorem Rest.mod {k k' : ℕ} (e : k % 4 = k' % 4) : (Rest c a buf sem fs k : sProp 𝕄) = Rest c a buf sem fs k' := by
  unfold Rest
  have : ∀ (s s' : ℕ) (hs : s < 4) (hs' : s' < 4), s = s' → (Idle c a buf (semAt sem s hs) (quarter s) fs s : sProp 𝕄)
      = Idle c a buf (semAt sem s' hs') (quarter s') fs s' := by
    intro s s' hs hs' e; subst e; rfl
  exact this _ _ _ _ e

variable {Kn : ℕ → sProp (MT nD τ sig Unit (Elt F) ℕ (Pipeline.UD sig nD τ) ℕ)} {Wt : sProp (MT nD τ sig Unit (Elt F) ℕ (Pipeline.UD sig nD τ) ℕ)}

/-- One of the first four copies is started. -/
theorem Slot.first (j : ℕ) {r s : ℕ} (hj : j < m) (er : r = h * j) (es : s = j % 4) (hs : s < 4) {p : P F PUnit}
    (hp : Runs c (Idle c a buf (semAt sem s hs) (quarter s) fs s) p (Busy c a buf (semAt sem s hs) (quarter s) fs s r)) :
    Runs c (Rest c a buf sem fs j) p (Slot c a buf sem fs m j) := by
  subst er es
  unfold Rest Slot
  rw [if_pos hj]
  exact hp

/-- A copy is put in place. -/
theorem Slot.land (j : ℕ) {r s : ℕ} (hj : j < m) (er : r = h * j) (es : s = j % 4) (hs : s < 4) {p : P F PUnit}
    (hp : Runs c iprop(Busy c a buf (semAt sem s hs) (quarter s) fs s r ∗ Kn j ∗ Wt) p
      iprop(Idle c a buf (semAt sem s hs) (quarter s) fs s ∗ Kn (j + 1) ∗ Wt)) :
    Runs c (Turn (Slot c a buf sem fs m) Kn Wt j) p (Turned (Slot c a buf sem fs m) (Rest c a buf sem fs) Kn Wt j) := by
  subst er es
  refine Turn.land ?_
  unfold Rest
  have e : (Slot c a buf sem fs m j : sProp 𝕄) = Busy c a buf (semAt sem (j % 4) (Nat.mod_lt _ (by decide))) (quarter (j % 4)) fs (j % 4) (h * j) := if_pos hj
  rw [e]
  exact hp

/-- The idle slot takes the fourth copy from here. -/
theorem Slot.start (j : ℕ) {r s : ℕ} (hj : j + 4 < m) (er : r = h * (j + 4)) (es : s = j % 4) (hs : s < 4) {p : P F PUnit}
    (hp : Runs c (Idle c a buf (semAt sem s hs) (quarter s) fs s) p (Busy c a buf (semAt sem s hs) (quarter s) fs s r)) :
    Runs c (Turned (Slot c a buf sem fs m) (Rest c a buf sem fs) Kn Wt j) p (Turn (Slot c a buf sem fs m) Kn Wt (j + 1)) := by
  refine Turned.start ?_
  rw [Rest.mod (k := j) (k' := j + 4) (by omega)]
  exact Slot.first (j + 4) hj er (by omega) hs hp

/-- No copy is left for the idle slot. -/
theorem Slot.over (j : ℕ) (hj : ¬j + 4 < m) :
    (Turned (Slot c a buf sem fs m) (Rest c a buf sem fs) Kn Wt j : sProp 𝕄) ⊢ Turn (Slot c a buf sem fs m) Kn Wt (j + 1) := by
  refine Turned.next ?_
  have e : (Slot c a buf sem fs m (j + 4) : sProp 𝕄) = Rest c a buf sem fs (j + 4) := if_neg hj
  rw [e, Rest.mod (k := j) (k' := j + 4) (by omega)]

/-- All copies are in place: all four slots are idle. -/
theorem Slot.done (hm : m % 4 = 0) : (Turn (Slot c a buf sem fs m) Kn Wt m : sProp 𝕄)
    ⊢ iprop((Rest c a buf sem fs 0 ∗ Rest c a buf sem fs 1 ∗ Rest c a buf sem fs 2 ∗ Rest c a buf sem fs 3) ∗ Kn m ∗ Wt) := by
  have e : ∀ i, (Slot c a buf sem fs m (m + i) : sProp 𝕄) = Rest c a buf sem fs i := fun i =>
    (if_neg (by omega)).trans (Rest.mod (by omega))
  have e0 := e 0
  rw [Nat.add_zero] at e0
  unfold Turn
  rw [e0, e 1, e 2, e 3]
  iintro ⟨H0, H1, H2, H3, HK, HW⟩
  isplitl [H0 H1 H2 H3]
  · isplitl [H0]; · iexact H0
    isplitl [H1]; · iexact H1
    isplitl [H2]; · iexact H2
    iexact H3
  isplitl [HK]; · iexact HK
  iexact HW

end slots

/-- The input weight becomes resident. -/
theorem fillIn_runs (c : Dev nD) (arg4 : Memref sig .tc .hbm S1x1024x6144 .f32) (arg11 : Memref sig .tc .vmem S1024x6144 .bf16) (harg11 : arg11.IsWhole)
    (arg13 : Memref sig .tc .vmem S4x32x6144 .f32) (arg15 : DmaSems sig S4) (X : S1x1024x6144.Idx → F .f32)
    (fs : arg4.view.ty.Contents (Elt F)) (hX : arg4.view.read (Elt F) fs = X) :
    Runs c iprop((Rest (h := 32) c arg4 arg13 arg15 fs 0 ∗ Rest (h := 32) c arg4 arg13 arg15 fs 1 ∗ Rest (h := 32) c arg4 arg13 arg15 fs 2 ∗ Rest (h := 32) c arg4 arg13 arg15 fs 3)
        ∗ Known c arg11 (upTo (32 * 0) 0) (resIn X) ∗ Waited c)
      (fillIn arg4 arg11 harg11 arg13 arg15)
      iprop((Rest (h := 32) c arg4 arg13 arg15 fs 0 ∗ Rest (h := 32) c arg4 arg13 arg15 fs 1 ∗ Rest (h := 32) c arg4 arg13 arg15 fs 2 ∗ Rest (h := 32) c arg4 arg13 arg15 fs 3)
        ∗ Known c arg11 (upTo (32 * 32) 0) (resIn X) ∗ Waited c) := by
  have st : ∀ (q : PosShare TreeShare) (r s : ℕ) (hr : r + 32 ≤ 1024) (hs : s < 4),
      Runs c (Idle (h := 32) c arg4 arg13 (semAt arg15 s hs) q fs s) (startIn arg4 arg13 arg15 r s hr hs) (Busy (h := 32) c arg4 arg13 (semAt arg15 s hs) q fs s r) :=
    fun q r s hr hs => start_slot c arg4 arg13 (semAt arg15 s hs) q fs s r hs hr (by decide) _ _ _ _ _ _ _ _ _ _ _
  have ld := fun (q : PosShare TreeShare) (r s : ℕ) (hr : r + 32 ≤ 1024) (hp : 2 ∣ r) (hs : s < 4) => landIn_runs c arg4 arg11 harg11 arg13 arg15 X q fs hX r s hr hp hs
  unfold fillIn
  refine Turn.begin (Sl := Slot (h := 32) c arg4 arg13 arg15 fs 32) (Id := Rest (h := 32) c arg4 arg13 arg15 fs) (Kn := fun j => Known c arg11 (upTo (32 * j) 0) (resIn X)) (Wt := Waited c)
    (Slot.first 0 (by decide) rfl rfl (by decide) (st _ _ _ _ _)) (Slot.first 1 (by decide) rfl rfl (by decide) (st _ _ _ _ _))
    (Slot.first 2 (by decide) rfl rfl (by decide) (st _ _ _ _ _)) (Slot.first 3 (by decide) rfl rfl (by decide) (st _ _ _ _ _)) ?_
  iterate 28 refine Runs.seq (Slot.land _ (by decide) rfl rfl (by decide) (ld _ _ _ _ _ _)) (Runs.seq (Slot.start _ (by decide) rfl rfl (by decide) (st _ _ _ _ _)) ?_)
  iterate 3 refine Runs.seq (Runs.conseq .rfl (Slot.over _ (by decide)) (Slot.land _ (by decide) rfl rfl (by decide) (ld _ _ _ _ _ _))) ?_
  exact Runs.conseq .rfl ((Slot.over _ (by decide)).trans (Slot.done (by decide))) (Slot.land _ (by decide) rfl rfl (by decide) (ld _ _ _ _ _ _))

/-! ## The output weight -/

/-- The resident output weight. -/
def resOut (X : S1x2048x1024.Idx → F .f32) : S2048x1024.Idx → F .bf16 :=
  fun x => FloatOps.truncf .bf16 bitsLt_bf16_f32 (atRC (n := 2048) (w := 1024) X (x 0).val (x 1).val)

/-- Slot `s` on its way with rows `r …` to idle: its rows are in place. -/
theorem landOut_runs (c : Dev nD) (arg9 : Memref sig .tc .hbm S1x2048x1024 .f32) (arg12 : Memref sig .tc .vmem S2048x1024 .bf16) (harg12 : arg12.IsWhole)
    (arg14 : Memref sig .tc .vmem S4x256x1024 .f32) (arg16 : DmaSems sig S4) (X : S1x2048x1024.Idx → F .f32)
    (q : PosShare TreeShare) (fs : arg9.view.ty.Contents (Elt F)) (hX : arg9.view.read (Elt F) fs = X)
    (r s : ℕ) (hr : r + 256 ≤ 2048) (hp : 2 ∣ r) (hs : s < 4) :
    Runs c iprop(Busy (h := 256) c arg9 arg14 (semAt arg16 s hs) q fs s r ∗ Known c arg12 (fun x => (x 0).val < r) (resOut X) ∗ Waited c)
      (landOut arg9 arg12 harg12 arg14 arg16 r s hr hp hs)
      iprop(Idle (h := 256) c arg9 arg14 (semAt arg16 s hs) q fs s ∗ Known c arg12 (fun x => (x 0).val < r + 256) (resOut X) ∗ Waited c) := by
  subst hX
  unfold landOut
  refine Runs.seq (B := iprop((Landed (h := 256) c arg14 (arg9.view.read (Elt F) fs) s r ∗ semVal ((c : Thread nD τ), SemLoc.dma (semAt arg16 s hs)) 0 ∗ Src c arg9 q fs ∗ Waited c)
    ∗ Known c arg12 (fun x => (x 0).val < r) (resOut (arg9.view.read (Elt F) fs)))) ?_ ?_
  · have h := (wait_slot (h := 256) c arg9 arg14 (semAt arg16 s hs) q fs s r (srcOut arg9 r hr)
      (inb14 hs) (fun _ => rfl) squeezes_S1x256x1024_S256x1024 (View.wordExact_bits rfl) ((View.wordExact_bits rfl).reshape _ _)).frame_r
      (Known c arg12 (fun x => (x 0).val < r) (resOut (arg9.view.read (Elt F) fs)))
    refine Runs.conseq ?_ .rfl h
    unfold Waited
    iintro ⟨HB, HK, HW⟩
    isplitl [HB HW]
    · isplitl [HB]; · iexact HB
      iexact HW
    iexact HK
  unfold Runs
  iintro ⟨⟨HL, Hv, Hs, HW⟩, HK⟩
  iapply (load_landed (h := 256) c arg14 _ s r _ (by intro j; have := (j 0).isLt; have h : (j 0).val < 1 := this; rw [Rect.emb_apply]; show s + 1 * (j 0).val = s; omega)) $$ HL
  iintro %v %hv HL
  iapply (load_known c arg12 _ _ _) $$ HK
  iintro %u HK
  iapply (store_known c arg12 _ _ (fun x => (x 0).val < r + 256) _ ?_ ?_) $$ HK
  · intro j
    obtain ⟨i, o, rfl⟩ : ∃ (i : Fin 256) (o : Fin 1024), j = ix2 i o := ⟨j 0, j 1, eq_ix2 j⟩
    rw [shapeCast_self]
    show FloatOps.truncf .bf16 bitsLt_bf16_f32 (shapeCast S256x1024 v _ (ix2 i o)) = _
    erw [shapeCast_1ab_ab_apply, hv]
    show FloatOps.truncf .bf16 bitsLt_bf16_f32 (atRC _ (r + (0 + 1 * i.val)) (0 + 1 * o.val)) = FloatOps.truncf .bf16 bitsLt_bf16_f32 (atRC _ (r + 1 * i.val) (0 + 1 * o.val))
    rw [Nat.zero_add]
  · intro x hx
    rw [Rect.mem_set_unit]
    by_cases h1 : (x 0).val < r
    · exact Or.inr h1
    refine Or.inl fun a => ?_
    match a with
    | ⟨0, _⟩ => exact ⟨Nat.le_of_not_lt h1, hx⟩
    | ⟨1, _⟩ => exact ⟨Nat.zero_le _, by have := (x 1).isLt; simpa using this⟩
  iintro HK
  unfold Idle
  isplitl [HL Hv Hs]
  · isplitl [HL]; · iapply (Landed.any c arg14 _ s r) $$ HL
    isplitl [Hv]; · iexact Hv
    iexact Hs
  isplitl [HK]; · iexact HK
  iexact HW

/-- The output weight becomes resident. -/
theorem fillOut_runs (c : Dev nD) (arg9 : Memref sig .tc .hbm S1x2048x1024 .f32) (arg12 : Memref sig .tc .vmem S2048x1024 .bf16) (harg12 : arg12.IsWhole)
    (arg14 : Memref sig .tc .vmem S4x256x1024 .f32) (arg16 : DmaSems sig S4) (X : S1x2048x1024.Idx → F .f32)
    (fs : arg9.view.ty.Contents (Elt F)) (hX : arg9.view.read (Elt F) fs = X) :
    Runs c iprop((Rest (h := 256) c arg9 arg14 arg16 fs 0 ∗ Rest (h := 256) c arg9 arg14 arg16 fs 1 ∗ Rest (h := 256) c arg9 arg14 arg16 fs 2 ∗ Rest (h := 256) c arg9 arg14 arg16 fs 3)
        ∗ Known c arg12 (fun x => (x 0).val < 256 * 0) (resOut X) ∗ Waited c)
      (fillOut arg9 arg12 harg12 arg14 arg16)
      iprop((Rest (h := 256) c arg9 arg14 arg16 fs 0 ∗ Rest (h := 256) c arg9 arg14 arg16 fs 1 ∗ Rest (h := 256) c arg9 arg14 arg16 fs 2 ∗ Rest (h := 256) c arg9 arg14 arg16 fs 3)
        ∗ Known c arg12 (fun x => (x 0).val < 256 * 8) (resOut X) ∗ Waited c) := by
  have st : ∀ (q : PosShare TreeShare) (r s : ℕ) (hr : r + 256 ≤ 2048) (hs : s < 4),
      Runs c (Idle (h := 256) c arg9 arg14 (semAt arg16 s hs) q fs s) (startOut arg9 arg14 arg16 r s hr hs) (Busy (h := 256) c arg9 arg14 (semAt arg16 s hs) q fs s r) :=
    fun q r s hr hs => start_slot c arg9 arg14 (semAt arg16 s hs) q fs s r hs hr (by decide) _ _ _ _ _ _ _ _ _ _ _
  have ld := fun (q : PosShare TreeShare) (r s : ℕ) (hr : r + 256 ≤ 2048) (hp : 2 ∣ r) (hs : s < 4) => landOut_runs c arg9 arg12 harg12 arg14 arg16 X q fs hX r s hr hp hs
  unfold fillOut
  refine Turn.begin (Sl := Slot (h := 256) c arg9 arg14 arg16 fs 8) (Id := Rest (h := 256) c arg9 arg14 arg16 fs) (Kn := fun j => Known c arg12 (fun x => (x 0).val < 256 * j) (resOut X)) (Wt := Waited c)
    (Slot.first 0 (by decide) rfl rfl (by decide) (st _ _ _ _ _)) (Slot.first 1 (by decide) rfl rfl (by decide) (st _ _ _ _ _))
    (Slot.first 2 (by decide) rfl rfl (by decide) (st _ _ _ _ _)) (Slot.first 3 (by decide) rfl rfl (by decide) (st _ _ _ _ _)) ?_
  iterate 4 refine Runs.seq (Slot.land _ (by decide) rfl rfl (by decide) (ld _ _ _ _ _ _)) (Runs.seq (Slot.start _ (by decide) rfl rfl (by decide) (st _ _ _ _ _)) ?_)
  iterate 3 refine Runs.seq (Runs.conseq .rfl (Slot.over _ (by decide)) (Slot.land _ (by decide) rfl rfl (by decide) (ld _ _ _ _ _ _))) ?_
  exact Runs.conseq .rfl ((Slot.over _ (by decide)).trans (Slot.done (by decide))) (Slot.land _ (by decide) rfl rfl (by decide) (ld _ _ _ _ _ _))

end Cert.KernelIdeal.Form

end
-- ==== Proof.Compute.lean ====
/-
  The body after the weights are resident: what each part of it leaves in the buffer it writes, as a function of the
  buffers it reads.
-/
module

public import proofs.«01_k».proof.Proof.Fill

@[expose] public section

set_option maxRecDepth 16384

noncomputable section

namespace Cert.KernelIdeal.Form

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-- The same for a program's last part. -/
theorem Runs.last {c : Dev nD} {A B : sProp 𝕄} {p : P F PUnit} (h : Runs c A p B) {K : PUnit → sProp 𝕄} :
    A ⊢ iprop((B -∗ K ⟨⟩) -∗ W c p K) := by
  have h' : A ⊢ W c p (fun _ => B) := h
  unfold W at h' ⊢
  iintro HA Hk
  ihave Hw := h' $$ HA
  iapply (wp_wand_r (M := 𝕄)) $$ [Hw Hk]
  isplitl [Hw]; · iexact Hw
  iintro %a HB
  iapply Hk; iexact HB

/-! ## Blocks of arrays -/

/-- The block at row `r`, column `d`. -/
def sub2 {α : Type} {n m : ℕ} (h w : ℕ) (hn : 0 < n) (hm : 0 < m) (X : (⟨2, ![n, m]⟩ : Shape).Idx → α) (r d : ℕ) : (⟨2, ![h, w]⟩ : Shape).Idx → α :=
  fun j => X (ix2 ⟨(r + (j 0).val) % n, Nat.mod_lt _ hn⟩ ⟨(d + (j 1).val) % m, Nat.mod_lt _ hm⟩)

/-- The `k`-th matrix of a stack. -/
def sub3 {α : Type} (X : S16x128x128.Idx → α) (k : ℕ) : S1x128x128.Idx → α :=
  fun j => X (ix3 (⟨k % 16, Nat.mod_lt _ (by decide)⟩ : Fin 16) (j 1 : Fin 128) (j 2 : Fin 128))

theorem emb_sub2 {α : Type} {n m h w : ℕ} (hn : 0 < n) (hm : 0 < m) (X : (⟨2, ![n, m]⟩ : Shape).Idx → α) (r d : ℕ)
    (hb : ∀ a, (![r, d] : Fin 2 → ℕ) a + (![h, w] : Fin 2 → ℕ) a ≤ (⟨2, ![n, m]⟩ : Shape).size a) :
    (fun j => X ((Rect.unit (s := ⟨2, ![n, m]⟩) ![r, d] ![h, w] hb).emb j)) = sub2 h w hn hm X r d := by
  funext j
  unfold sub2
  congr 1
  have h0 : r + h ≤ n := hb 0
  have h1 : d + w ≤ m := hb 1
  have j0 : (j 0).val < h := (j 0).isLt
  have j1 : (j 1).val < w := (j 1).isLt
  funext a
  apply Fin.ext
  match a with
  | ⟨0, _⟩ =>
    show r + 1 * (j 0).val = (r + (j 0).val) % n
    rw [Nat.one_mul, Nat.mod_eq_of_lt (by omega)]
  | ⟨1, _⟩ =>
    show d + 1 * (j 1).val = (d + (j 1).val) % m
    rw [Nat.one_mul, Nat.mod_eq_of_lt (by omega)]

theorem emb_sub3 {α : Type} (X : S16x128x128.Idx → α) (k : ℕ) (hk : k < 16) :
    (fun j => X ((Rect.unit (s := S16x128x128) ![k, 0, 0] S1x128x128.size (inb16 hk)).emb j)) = sub3 X k := by
  funext j
  unfold sub3
  congr 1
  have j0 : (j 0).val < 1 := (j 0).isLt
  funext a
  apply Fin.ext
  match a with
  | ⟨0, _⟩ =>
    show k + 1 * (j 0).val = k % 16
    rw [Nat.mod_eq_of_lt hk]; omega
  | ⟨1, _⟩ => show 0 + 1 * (j 1).val = (j 1).val; omega
  | ⟨2, _⟩ => show 0 + 1 * (j 2).val = (j 2).val; omega

/-- A load of a block. -/
theorem load_sub2 (c : Dev nD) {cs : CoreSpace} {n m h w : ℕ} {e : EltTy} (b : Memref sig .tc cs ⟨2, ![n, m]⟩ e) (q : PosShare TreeShare)
    (X : (⟨2, ![n, m]⟩ : Shape).Idx → Elt F e) (hn : 0 < n) (hm : 0 < m) (r d : ℕ)
    {hb : ∀ a, (![r, d] : Fin 2 → ℕ) a + (![h, w] : Fin 2 → ℕ) a ≤ (⟨2, ![n, m]⟩ : Shape).size a}
    {hl : b.view.LoadsAt (Rect.unit (s := ⟨2, ![n, m]⟩) ![r, d] ![h, w] hb).toLoadRect} {α : Type}
    {k : ((⟨2, ![h, w]⟩ : Shape).Idx → Elt F e) → P F α} {K : α → sProp 𝕄} :
    (owns (c : Thread nD τ) b q X : sProp 𝕄)
      ⊢ iprop((owns (c : Thread nD τ) b q X -∗ W c (k (sub2 h w hn hm X r d)) K)
        -∗ W c (Prog.lift (.load b (Rect.unit (s := ⟨2, ![n, m]⟩) ![r, d] ![h, w] hb).toLoadRect hl) >>= k) K) := by
  rw [← emb_sub2 hn hm X r d hb]
  exact load_owns c b q X _

/-- A load of one matrix of a stack. -/
theorem load_sub3 (c : Dev nD) (b : Memref sig .tc .vmem S16x128x128 .f32) (q : PosShare TreeShare)
    (X : S16x128x128.Idx → F .f32) (k : ℕ) (hk : k < 16)
    {hl : b.view.LoadsAt (Rect.unit (s := S16x128x128) ![k, 0, 0] S1x128x128.size (inb16 hk)).toLoadRect} {α : Type}
    {kk : (S1x128x128.Idx → Elt F .f32) → P F α} {K : α → sProp 𝕄} :
    (owns (c : Thread nD τ) b q X : sProp 𝕄)
      ⊢ iprop((owns (c : Thread nD τ) b q X -∗ W c (kk (sub3 X k)) K)
        -∗ W c (Prog.lift (.load b (Rect.unit (s := S16x128x128) ![k, 0, 0] S1x128x128.size (inb16 hk)).toLoadRect hl) >>= kk) K) := by
  rw [← emb_sub3 X k hk]
  exact load_owns c b q X _

/-! ## The values -/

/-- The block's rows, scaled. -/
def hV (x : FVec F S512x1024 .f32) (g : FVec F S1x1024 .f32) : FVec F S512x1024 .bf16 :=
  truncf .bf16 (rms (shapeCast S512x1024 x shapeCasts_S512x1024_S512x1024) (shapeCast S1x1024 g shapeCasts_S1x1024_S1x1024)) bitsLt_bf16_f32

/-- The gated half. -/
def vV (h : FVec F S512x1024 .bf16) (Wr : S1024x6144.Idx → F .bf16) (g b : FVec F S1x2048 .f32) : FVec F S512x2048 .bf16 :=
  vnorm (vcent h (sub2 1024 2048 (by decide) (by decide) Wr 0 0)) (sub2 1 2048 (by decide) (by decide) g 0 0) (sub2 1 2048 (by decide) (by decide) b 0 0)

/-- The product of the two other halves. -/
def uV (h : FVec F S512x1024 .bf16) (Wr : S1024x6144.Idx → F .bf16) : FVec F S512x2048 .f32 := fun x =>
  ugV h (sub2 1024 512 (by decide) (by decide) Wr 0 (2048 + 512 * ((x 1).val / 256))) (ix2 (x 0 : Fin 512) (⟨(x 1).val % 256, Nat.mod_lt _ (by decide)⟩ : Fin 256))

/-- Head `k`'s mix. -/
def headV (V : FVec F S512x2048 .bf16) (ws : FVec F S16x128x128 .f32) (k : ℕ) : FVec F S128x512 .f32 :=
  mixV (sub3 ws k) (sub2 128 128 (by decide) (by decide) V 0 (128 * k)) (sub2 128 128 (by decide) (by decide) V 128 (128 * k))
    (sub2 128 128 (by decide) (by decide) V 256 (128 * k)) (sub2 128 128 (by decide) (by decide) V 384 (128 * k))

/-- The gated block. -/
def gV (V : FVec F S512x2048 .bf16) (U : FVec F S512x2048 .f32) (ws bs : FVec F S16x128x128 .f32) : FVec F S512x2048 .bf16 := fun x =>
  FloatOps.truncf .bf16 bitsLt_bf16_f32 (FloatOps.mulf (U x) (FloatOps.addf
    (headV V ws ((x 1).val / 128) (ix2 (⟨(x 0).val % 128, Nat.mod_lt _ (by decide)⟩ : Fin 128)
      (⟨(128 * ((x 0).val / 128) + (x 1).val % 128) % 512, Nat.mod_lt _ (by decide)⟩ : Fin 512)))
    (sub3 bs ((x 1).val / 128) (ix3 (0 : Fin 1) (⟨(x 0).val % 128, Nat.mod_lt _ (by decide)⟩ : Fin 128) (⟨(x 1).val % 128, Nat.mod_lt _ (by decide)⟩ : Fin 128)))))

/-- The block of the result. -/
def oV (x : FVec F S512x1024 .f32) (G : FVec F S512x2048 .bf16) (Wo : S2048x1024.Idx → F .bf16) (g : FVec F S1x1024 .f32) : FVec F S512x1024 .f32 :=
  addf (shapeCast S512x1024 x shapeCasts_S512x1024_S512x1024)
    (rms (matmul dot_S512x2048_S2048x1024_S512x1024_1_0_0_1_n_n none (sub2 512 2048 (by decide) (by decide) G 0 0) (sub2 2048 1024 (by decide) (by decide) Wo 0 0) (constant S512x1024 .f32 0x00000000#32))
      (shapeCast S1x1024 (sub2 1 1024 (by decide) (by decide) g 0 0) shapeCasts_S1x1024_S1x1024))

/-! ## The parts -/

section parts

variable (c : Dev nD) (arg5 arg6 : Memref sig .tc .vmem S16x128x128 .f32) (arg11 : Memref sig .tc .vmem S1024x6144 .bf16)
    (arg17 : Memref sig .tc .vmem S512x2048 .bf16) (harg17 : arg17.IsWhole) (arg18 : Memref sig .tc .vmem S512x2048 .f32)
    (arg19 : Memref sig .tc .vmem S512x2048 .bf16) (harg19 : arg19.IsWhole)

/-- A store of a whole buffer. -/
theorem store_full {cs : CoreSpace} {n m : ℕ} {e : EltTy} (b : Memref sig .tc cs ⟨2, ![n, m]⟩ e) (v : (⟨2, ![n, m]⟩ : Shape).Idx → Elt F e)
    {hb : ∀ a, (![0, 0] : Fin 2 → ℕ) a + (![n, m] : Fin 2 → ℕ) a ≤ (⟨2, ![n, m]⟩ : Shape).size a}
    {hx : (b.access (Rect.unit (s := ⟨2, ![n, m]⟩) ![0, 0] ![n, m] hb)).Stores Finset.univ} {hm} {K : PUnit → sProp 𝕄} :
    iprop(∃ f, owns (c : Thread nD τ) b fullShare f)
      ⊢ iprop((owns (c : Thread nD τ) b fullShare v -∗ K ⟨⟩)
        -∗ W c (Prog.lift (.store b (Rect.unit (s := ⟨2, ![n, m]⟩) ![0, 0] ![n, m] hb) v Finset.univ hx hm) : P F PUnit) K) := by
  refine (Known.start c b v (fun _ => False) (fun _ h => h)).trans ?_
  iintro HK Hk
  iapply (store_known c b v (fun _ => False) (fun _ => True) _ ?_ ?_) $$ HK
  · intro j
    congr 1
    funext a
    apply Fin.ext
    match a with
    | ⟨0, _⟩ => show (j 0).val = 0 + 1 * (j 0).val; omega
    | ⟨1, _⟩ => show (j 1).val = 0 + 1 * (j 1).val; omega
  · intro x _
    refine Or.inl ?_
    rw [Rect.mem_set_unit]
    intro a
    match a with
    | ⟨0, _⟩ => exact ⟨Nat.zero_le _, by have := (x 0).isLt; simpa using this⟩
    | ⟨1, _⟩ => exact ⟨Nat.zero_le _, by have := (x 1).isLt; simpa using this⟩
  iintro HK
  iapply Hk
  iapply (Known.all c b v (fun _ => True) (fun _ => trivial)) $$ HK

/-- The same as a run. -/
theorem store_full_runs {cs : CoreSpace} {n m : ℕ} {e : EltTy} (b : Memref sig .tc cs ⟨2, ![n, m]⟩ e) (v : (⟨2, ![n, m]⟩ : Shape).Idx → Elt F e)
    {hb : ∀ a, (![0, 0] : Fin 2 → ℕ) a + (![n, m] : Fin 2 → ℕ) a ≤ (⟨2, ![n, m]⟩ : Shape).size a}
    {hx : (b.access (Rect.unit (s := ⟨2, ![n, m]⟩) ![0, 0] ![n, m] hb)).Stores Finset.univ} {hm} :
    Runs c iprop(∃ f, owns (c : Thread nD τ) b fullShare f)
      (Prog.lift (.store b (Rect.unit (s := ⟨2, ![n, m]⟩) ![0, 0] ![n, m] hb) v Finset.univ hx hm) : P F PUnit) (owns (c : Thread nD τ) b fullShare v) := by
  unfold Runs
  iintro H
  iapply (store_full c b v) $$ H
  iintro H
  iexact H

/-- A load whose value does not matter. -/
theorem load_any {cs : CoreSpace} {s : Shape} {e : EltTy} (b : Memref sig .tc cs s e) (r : Rect s) {hl : b.view.LoadsAt r.toLoadRect}
    {α : Type} {k : (r.shape.Idx → Elt F e) → P F α} {K : α → sProp 𝕄} :
    iprop(∃ f, owns (c : Thread nD τ) b fullShare f)
      ⊢ iprop((∀ v, (∃ f, owns (c : Thread nD τ) b fullShare f) -∗ W c (k v) K) -∗ W c (Prog.lift (.load b r.toLoadRect hl) >>= k) K) := by
  iintro ⟨%f, H⟩ Hk
  iapply (load_owns c b fullShare f r) $$ H
  iintro H
  iapply Hk
  iexists f
  iexact H

/-- The gated half goes to its buffer. -/
theorem vPart_runs (arg7 arg8 : Memref sig .tc .vmem S1x2048 .f32) (h : FVec F S512x1024 .bf16) (Wr : S1024x6144.Idx → F .bf16) (g b : FVec F S1x2048 .f32) :
    Runs c iprop(owns (c : Thread nD τ) arg11 fullShare Wr ∗ owns (c : Thread nD τ) arg7 fullShare g ∗ owns (c : Thread nD τ) arg8 fullShare b ∗ (∃ f, owns (c : Thread nD τ) arg17 fullShare f))
      (vPart arg7 arg8 arg11 arg17 harg17 h)
      iprop(owns (c : Thread nD τ) arg11 fullShare Wr ∗ owns (c : Thread nD τ) arg7 fullShare g ∗ owns (c : Thread nD τ) arg8 fullShare b ∗ owns (c : Thread nD τ) arg17 fullShare (vV h Wr g b)) := by
  unfold Runs vPart
  iintro ⟨HW, Hg, Hb, HV⟩
  iapply (load_sub2 c arg11 fullShare Wr (by decide) (by decide) 0 0) $$ HW
  iintro HW
  iapply (load_sub2 c arg7 fullShare g (by decide) (by decide) 0 0) $$ Hg
  iintro Hg
  iapply (load_sub2 c arg8 fullShare b (by decide) (by decide) 0 0) $$ Hb
  iintro Hb
  iapply (load_any c arg17 _) $$ HV
  iintro %u HV
  rw [shapeCast_self]
  iapply (store_full c arg17 (vV h Wr g b)) $$ HV
  iintro HV
  isplitl [HW]; · iexact HW
  isplitl [Hg]; · iexact Hg
  isplitl [Hb]; · iexact Hb
  iexact HV

/-- One chunk of the product. -/
theorem colChunk_runs (h : FVec F S512x1024 .bf16) (Wr : S1024x6144.Idx → F .bf16) (p w d : ℕ) (hw : w + 512 ≤ 6144) (hd : d + 256 ≤ 2048)
    (ed : d = 256 * p) (ew : w = 2048 + 512 * p) :
    Runs c iprop(owns (c : Thread nD τ) arg11 fullShare Wr ∗ Known c arg18 (fun x => (x 1).val < d) (uV h Wr)) (colChunk arg11 arg18 h w d hw hd)
      iprop(owns (c : Thread nD τ) arg11 fullShare Wr ∗ Known c arg18 (fun x => (x 1).val < d + 256) (uV h Wr)) := by
  subst ed ew
  unfold Runs colChunk
  iintro ⟨HW, HK⟩
  iapply (load_sub2 c arg11 fullShare Wr (by decide) (by decide) 0 (2048 + 512 * p)) $$ HW
  iintro HW
  iapply (load_known c arg18 (uV h Wr) _ _) $$ HK
  iintro %u HK
  iapply (store_known c arg18 (uV h Wr) _ (fun x => (x 1).val < 256 * p + 256) _ ?_ ?_) $$ HK
  · intro j
    obtain ⟨i, o, rfl⟩ : ∃ (i : Fin 512) (o : Fin 256), j = ix2 i o := ⟨j 0, j 1, eq_ix2 j⟩
    rw [shapeCast_self]
    have e1 : (256 * p + 1 * o.val) / 256 = p := by have := o.isLt; omega
    have e2 : (256 * p + 1 * o.val) % 256 = o.val := by have := o.isLt; omega
    have e0 : 0 + 1 * i.val = i.val := by omega
    have key : ∀ (q : ℕ) (i' : Fin 512) (o' : Fin 256), q = p → i' = i → o' = o →
        ugV h (sub2 1024 512 (by decide) (by decide) Wr 0 (2048 + 512 * p)) (ix2 i o)
          = ugV h (sub2 1024 512 (by decide) (by decide) Wr 0 (2048 + 512 * q)) (ix2 i' o') := by
      intro q i' o' h1 h2 h3; subst h1 h2 h3; rfl
    exact key _ _ _ e1 (Fin.ext e0) (Fin.ext e2)
  · intro x hx
    rw [Rect.mem_set_unit]
    by_cases h1 : (x 1).val < 256 * p
    · exact Or.inr h1
    refine Or.inl fun a => ?_
    match a with
    | ⟨0, _⟩ => exact ⟨Nat.zero_le _, by have := (x 0).isLt; simpa using this⟩
    | ⟨1, _⟩ => exact ⟨Nat.le_of_not_lt h1, hx⟩
  iintro HK
  isplitl [HW]; · iexact HW
  iexact HK

/-- The product, all of it. -/
theorem ugPart_runs (h : FVec F S512x1024 .bf16) (Wr : S1024x6144.Idx → F .bf16) :
    Runs c iprop(owns (c : Thread nD τ) arg11 fullShare Wr ∗ (∃ f, owns (c : Thread nD τ) arg18 fullShare f)) (ugPart arg11 arg18 h)
      iprop(owns (c : Thread nD τ) arg11 fullShare Wr ∗ owns (c : Thread nD τ) arg18 fullShare (uV h Wr)) := by
  have blk := colChunk_runs c arg11 arg18 h Wr
  unfold ugPart
  refine Runs.conseq (A := iprop(owns (c : Thread nD τ) arg11 fullShare Wr ∗ Known c arg18 (fun x => (x 1).val < 0) (uV h Wr)))
    (B := iprop(owns (c : Thread nD τ) arg11 fullShare Wr ∗ Known c arg18 (fun x => (x 1).val < 1792 + 256) (uV h Wr)))
    (BIClass.sep_mono .rfl (Known.start c arg18 _ _ fun _ => Nat.not_lt_zero _)) (BIClass.sep_mono .rfl (Known.all c arg18 _ _ fun x => (x 1).isLt)) ?_
  refine Runs.seq (blk 0 _ _ _ _ rfl rfl) ?_
  refine Runs.seq (blk 1 _ _ _ _ rfl rfl) ?_
  refine Runs.seq (blk 2 _ _ _ _ rfl rfl) ?_
  refine Runs.seq (blk 3 _ _ _ _ rfl rfl) ?_
  refine Runs.seq (blk 4 _ _ _ _ rfl rfl) ?_
  refine Runs.seq (blk 5 _ _ _ _ rfl rfl) ?_
  refine Runs.seq (blk 6 _ _ _ _ rfl rfl) ?_
  exact blk 7 _ _ _ _ rfl rfl

/-- Heads below column `d`, and of the next head the rows below `r`. -/
def gated (d r : ℕ) (x : S512x2048.Idx) : Prop := (x 1).val < d ∨ ((x 1).val < d + 128 ∧ (x 0).val < r)

/-- One gated block. -/
theorem gateBlk_runs (V : FVec F S512x2048 .bf16) (U : FVec F S512x2048 .f32) (ws bs : FVec F S16x128x128 .f32) (M : FVec F S128x128 .f32)
    (k r d q : ℕ) (hk : k < 16) (hr : r + 128 ≤ 512) (hp : 2 ∣ r) (hd : d + 128 ≤ 2048) (ed : d = 128 * k) (er : r = 128 * q)
    (hM : ∀ (i o : Fin 128), M (ix2 i o) = headV V ws k (ix2 i (⟨(r + o.val) % 512, Nat.mod_lt _ (by decide)⟩ : Fin 512))) :
    Runs c iprop(owns (c : Thread nD τ) arg6 fullShare bs ∗ owns (c : Thread nD τ) arg18 fullShare U ∗ Known c arg19 (gated d r) (gV V U ws bs))
      (gateBlk arg6 arg18 arg19 harg19 M k r d hk hr hp hd)
      iprop(owns (c : Thread nD τ) arg6 fullShare bs ∗ owns (c : Thread nD τ) arg18 fullShare U ∗ Known c arg19 (gated d (r + 128)) (gV V U ws bs)) := by
  subst ed er
  unfold Runs gateBlk
  iintro ⟨Hb, HU, HK⟩
  iapply (load_sub3 c arg6 fullShare bs k hk) $$ Hb
  iintro Hb
  iapply (load_sub2 c arg18 fullShare U (by decide) (by decide) (128 * q) (128 * k)) $$ HU
  iintro HU
  iapply (load_known c arg19 (gV V U ws bs) _ _) $$ HK
  iintro %u HK
  iapply (store_known c arg19 (gV V U ws bs) _ (gated (128 * k) (128 * q + 128)) _ ?_ ?_) $$ HK
  · intro j
    obtain ⟨i, o, rfl⟩ : ∃ (i : Fin 128) (o : Fin 128), j = ix2 i o := ⟨j 0, j 1, eq_ix2 j⟩
    rw [shapeCast_self]
    show FloatOps.truncf .bf16 bitsLt_bf16_f32 (FloatOps.mulf (sub2 128 128 (by decide) (by decide) U (128 * q) (128 * k) (ix2 i o))
      (FloatOps.addf (M (ix2 i o)) (shapeCast S128x128 (sub3 bs k) shapeCasts_S1x128x128_S128x128 (ix2 i o)))) = _
    erw [shapeCast_1ab_ab_apply, hM]
    have o1 := o.isLt
    have i1 := i.isLt
    have key : ∀ (x : S512x2048.Idx), (x 0).val = 128 * q + i.val → (x 1).val = 128 * k + o.val →
        FloatOps.truncf .bf16 bitsLt_bf16_f32 (FloatOps.mulf (sub2 128 128 (by decide) (by decide) U (128 * q) (128 * k) (ix2 i o))
          (FloatOps.addf (headV V ws k (ix2 i (⟨(128 * q + o.val) % 512, Nat.mod_lt _ (by decide)⟩ : Fin 512))) (sub3 bs k (ix3 (0 : Fin 1) i o)))) = gV V U ws bs x := by
      intro x h0 h1
      have ek : (x 1).val / 128 = k := by omega
      have eq' : (x 0).val / 128 = q := by omega
      have e0 : (⟨(x 0).val % 128, Nat.mod_lt _ (by decide)⟩ : Fin 128) = i := Fin.ext (by show (x 0).val % 128 = i.val; omega)
      have e1 : (⟨(x 1).val % 128, Nat.mod_lt _ (by decide)⟩ : Fin 128) = o := Fin.ext (by show (x 1).val % 128 = o.val; omega)
      have e2 : (⟨(128 * ((x 0).val / 128) + (x 1).val % 128) % 512, Nat.mod_lt _ (by decide)⟩ : Fin 512) = ⟨(128 * q + o.val) % 512, Nat.mod_lt _ (by decide)⟩ :=
        Fin.ext (by show (128 * ((x 0).val / 128) + (x 1).val % 128) % 512 = (128 * q + o.val) % 512; omega)
      have eU : sub2 128 128 (by decide) (by decide) U (128 * q) (128 * k) (ix2 i o) = U x := by
        unfold sub2
        congr 1
        funext a
        apply Fin.ext
        match a with
        | ⟨0, _⟩ => show (128 * q + i.val) % 512 = (x 0).val; omega
        | ⟨1, _⟩ => show (128 * k + o.val) % 2048 = (x 1).val; omega
      unfold gV
      rw [ek, e0, e1, e2, eU]
    exact key _ (by show 128 * q + 1 * i.val = _; omega) (by show 128 * k + 1 * o.val = _; omega)
  · intro x hx
    rw [Rect.mem_set_unit]
    rcases hx with hx | ⟨hx, hr'⟩
    · exact Or.inr (Or.inl hx)
    by_cases h1 : (x 1).val < 128 * k
    · exact Or.inr (Or.inl h1)
    by_cases h2 : (x 0).val < 128 * q
    · exact Or.inr (Or.inr ⟨hx, h2⟩)
    refine Or.inl fun a => ?_
    match a with
    | ⟨0, _⟩ => exact ⟨Nat.le_of_not_lt h2, hr'⟩
    | ⟨1, _⟩ => exact ⟨Nat.le_of_not_lt h1, hx⟩
  iintro HK
  isplitl [Hb]; · iexact Hb
  isplitl [HU]; · iexact HU
  iexact HK

/-- A quarter of the columns of a head's mix. -/
theorem quarter_mix {α : Type} (M : S128x512.Idx → α) (r : ℕ) (hr : r + 128 ≤ 512) (hs : S128x512.Slices ![0, r] S128x128) (i o : Fin 128) :
    extractStridedSlice S128x128 ![0, r] M hs (ix2 i o) = M (ix2 i (⟨(r + o.val) % 512, Nat.mod_lt _ (by decide)⟩ : Fin 512)) := by
  refine extractStridedSlice_apply _ _ _ _ _ ?_
  intro a
  have := o.isLt
  match a with
  | ⟨0, _⟩ => show i.val = 0 + i.val; omega
  | ⟨1, _⟩ => show (r + o.val) % 512 = r + o.val; omega

/-- One head. -/
theorem headMix_runs (V : FVec F S512x2048 .bf16) (U : FVec F S512x2048 .f32) (ws bs : FVec F S16x128x128 .f32) (k d : ℕ) (hk : k < 16) (hd : d + 128 ≤ 2048) (ed : d = 128 * k) :
    Runs c iprop((owns (c : Thread nD τ) arg5 fullShare ws ∗ owns (c : Thread nD τ) arg17 fullShare V) ∗ owns (c : Thread nD τ) arg6 fullShare bs ∗ owns (c : Thread nD τ) arg18 fullShare U ∗ Known c arg19 (gated d 0) (gV V U ws bs))
      (headMix arg5 arg6 arg17 arg18 arg19 harg19 k d hk hd)
      iprop((owns (c : Thread nD τ) arg5 fullShare ws ∗ owns (c : Thread nD τ) arg17 fullShare V) ∗ owns (c : Thread nD τ) arg6 fullShare bs ∗ owns (c : Thread nD τ) arg18 fullShare U ∗ Known c arg19 (gated (d + 128) 0) (gV V U ws bs)) := by
  subst ed
  have blk := gateBlk_runs c arg6 arg18 arg19 harg19 V U ws bs
  unfold Runs headMix
  iintro ⟨⟨Hw, HV⟩, HR⟩
  iapply (load_sub2 c arg17 fullShare V (by decide) (by decide) 0 (128 * k)) $$ HV
  iintro HV
  iapply (load_sub2 c arg17 fullShare V (by decide) (by decide) 128 (128 * k)) $$ HV
  iintro HV
  iapply (load_sub2 c arg17 fullShare V (by decide) (by decide) 256 (128 * k)) $$ HV
  iintro HV
  iapply (load_sub2 c arg17 fullShare V (by decide) (by decide) 384 (128 * k)) $$ HV
  iintro HV
  iapply (load_sub3 c arg5 fullShare ws k hk) $$ Hw
  iintro Hw
  iapply (Runs.use (blk _ k 0 _ 0 hk _ _ hd rfl rfl (quarter_mix (headV V ws k) 0 (by decide) _))) $$ HR
  iintro HR
  iapply (Runs.use (blk _ k 128 _ 1 hk _ _ hd rfl rfl (quarter_mix (headV V ws k) 128 (by decide) _))) $$ HR
  iintro HR
  iapply (Runs.use (blk _ k 256 _ 2 hk _ _ hd rfl rfl (quarter_mix (headV V ws k) 256 (by decide) _))) $$ HR
  iintro HR
  iapply (Runs.last (blk _ k 384 _ 3 hk _ _ hd rfl rfl (quarter_mix (headV V ws k) 384 (by decide) _))) $$ HR
  iintro ⟨Hb, HU, HK⟩
  isplitl [Hw HV]
  · isplitl [Hw]; · iexact Hw
    iexact HV
  isplitl [Hb]; · iexact Hb
  isplitl [HU]; · iexact HU
  iapply (Known.mono c arg19 _ _ _ ?_) $$ HK
  intro x hx
  have h0 : (x 0).val < 512 := (x 0).isLt
  rcases hx with hx | ⟨-, hx⟩
  · exact Or.inr ⟨hx, h0⟩
  · exact absurd hx (Nat.not_lt_zero _)

/-- All heads. -/
theorem mixPart_runs (V : FVec F S512x2048 .bf16) (U : FVec F S512x2048 .f32) (ws bs : FVec F S16x128x128 .f32) :
    Runs c iprop((owns (c : Thread nD τ) arg5 fullShare ws ∗ owns (c : Thread nD τ) arg17 fullShare V) ∗ owns (c : Thread nD τ) arg6 fullShare bs ∗ owns (c : Thread nD τ) arg18 fullShare U ∗ (∃ f, owns (c : Thread nD τ) arg19 fullShare f))
      (mixPart arg5 arg6 arg17 arg18 arg19 harg19)
      iprop((owns (c : Thread nD τ) arg5 fullShare ws ∗ owns (c : Thread nD τ) arg17 fullShare V) ∗ owns (c : Thread nD τ) arg6 fullShare bs ∗ owns (c : Thread nD τ) arg18 fullShare U ∗ owns (c : Thread nD τ) arg19 fullShare (gV V U ws bs)) := by
  have head := headMix_runs c arg5 arg6 arg17 arg18 arg19 harg19 V U ws bs
  unfold mixPart
  refine Runs.conseq (A := iprop((owns (c : Thread nD τ) arg5 fullShare ws ∗ owns (c : Thread nD τ) arg17 fullShare V) ∗ owns (c : Thread nD τ) arg6 fullShare bs ∗ owns (c : Thread nD τ) arg18 fullShare U ∗ Known c arg19 (gated 0 0) (gV V U ws bs)))
    (B := iprop((owns (c : Thread nD τ) arg5 fullShare ws ∗ owns (c : Thread nD τ) arg17 fullShare V) ∗ owns (c : Thread nD τ) arg6 fullShare bs ∗ owns (c : Thread nD τ) arg18 fullShare U ∗ Known c arg19 (gated (1920 + 128) 0) (gV V U ws bs)))
    (BIClass.sep_mono .rfl (BIClass.sep_mono .rfl (BIClass.sep_mono .rfl (Known.start c arg19 _ _ fun x h => ?_))))
    (BIClass.sep_mono .rfl (BIClass.sep_mono .rfl (BIClass.sep_mono .rfl (Known.all c arg19 _ _ fun x => Or.inl (x 1).isLt)))) ?_
  · rcases h with h | ⟨-, h⟩ <;> exact Nat.not_lt_zero _ h
  iterate 15 refine Runs.seq (head _ _ _ _ rfl) ?_
  exact head _ _ _ _ rfl

/-- The block of the result goes to its window. -/
theorem outPart_runs (arg3 : Memref sig .tc .vmem S1x1024 .f32) (arg10 : Memref sig .tc .vmem S512x1024 .f32) (arg12 : Memref sig .tc .vmem S2048x1024 .bf16)
    (x : FVec F S512x1024 .f32) (G : FVec F S512x2048 .bf16) (Wo : S2048x1024.Idx → F .bf16) (g : FVec F S1x1024 .f32) :
    Runs c iprop(owns (c : Thread nD τ) arg19 fullShare G ∗ owns (c : Thread nD τ) arg12 fullShare Wo ∗ owns (c : Thread nD τ) arg3 fullShare g ∗ (∃ f, owns (c : Thread nD τ) arg10 fullShare f))
      (outPart arg3 arg10 arg12 arg19 (shapeCast S512x1024 x shapeCasts_S512x1024_S512x1024))
      iprop(owns (c : Thread nD τ) arg19 fullShare G ∗ owns (c : Thread nD τ) arg12 fullShare Wo ∗ owns (c : Thread nD τ) arg3 fullShare g ∗ owns (c : Thread nD τ) arg10 fullShare (oV x G Wo g)) := by
  unfold Runs outPart
  iintro ⟨HG, HW, Hg, HO⟩
  iapply (load_sub2 c arg19 fullShare G (by decide) (by decide) 0 0) $$ HG
  iintro HG
  iapply (load_sub2 c arg12 fullShare Wo (by decide) (by decide) 0 0) $$ HW
  iintro HW
  iapply (load_sub2 c arg3 fullShare g (by decide) (by decide) 0 0) $$ Hg
  iintro Hg
  iapply (load_any c arg10 _) $$ HO
  iintro %u HO
  iapply (Runs.use (store_full_runs c arg10 (oV x G Wo g))) $$ HO
  iintro HO
  iapply (le_wp_ret (M := 𝕄))
  isplitl [HG]; · iexact HG
  isplitl [HW]; · iexact HW
  isplitl [Hg]; · iexact Hg
  iexact HO

end parts

end Cert.KernelIdeal.Form

end
-- ==== Proof.Body.lean ====
/-
  The body at a point: at the first the weights become resident, and at every point the block of the result is computed
  from them and the windows.
-/
module

public import proofs.«01_k».proof.Proof.Compute

@[expose] public section

set_option maxRecDepth 16384

noncomputable section

namespace Cert.KernelIdeal.Form

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-! ## The first point -/

/-- Four transfer counters at zero. -/
def Sems (c : Dev nD) (sem : DmaSems sig S4) : sProp 𝕄 :=
  iprop(semVal ((c : Thread nD τ), SemLoc.dma (semAt sem 0 (by decide))) 0 ∗ semVal ((c : Thread nD τ), SemLoc.dma (semAt sem 1 (by decide))) 0
    ∗ semVal ((c : Thread nD τ), SemLoc.dma (semAt sem 2 (by decide))) 0 ∗ semVal ((c : Thread nD τ), SemLoc.dma (semAt sem 3 (by decide))) 0)

section rests

variable {n h w : ℕ} (c : Dev nD) (a : Memref sig .tc .hbm ⟨3, ![1, n, w]⟩ .f32) (buf : Memref sig .tc .vmem ⟨3, ![4, h, w]⟩ .f32) (sem : DmaSems sig S4)
    (fs : a.view.ty.Contents (Elt F))

/-- The staging buffer, its counters and the weight are four idle slots. -/
theorem rests_split : (iprop((∃ f, owns (c : Thread nD τ) buf fullShare f) ∗ Sems c sem ∗ Src c a fullShare fs) : sProp 𝕄)
    ⊢ iprop(Rest c a buf sem fs 0 ∗ Rest c a buf sem fs 1 ∗ Rest c a buf sem fs 2 ∗ Rest c a buf sem fs 3) := by
  iintro ⟨HB, HS, HA⟩
  ihave HB' := (slots_split c buf) $$ HB
  ihave HA' := (src_quarters c a fs).1 $$ HA
  unfold Sems
  icases HB' with ⟨B0, B1, B2, B3⟩
  icases HA' with ⟨⟨A0, A1⟩, A2, A3⟩
  icases HS with ⟨S0, S1, S2, S3⟩
  unfold Rest Idle
  isplitl [B0 A0 S0]
  · isplitl [B0]; · iexact B0
    isplitl [S0]; · iexact S0
    iexact A0
  isplitl [B1 A1 S1]
  · isplitl [B1]; · iexact B1
    isplitl [S1]; · iexact S1
    iexact A1
  isplitl [B2 A2 S2]
  · isplitl [B2]; · iexact B2
    isplitl [S2]; · iexact S2
    iexact A2
  isplitl [B3]; · iexact B3
  isplitl [S3]; · iexact S3
  iexact A3

/-- Four idle slots are the staging buffer, its counters and the weight. -/
theorem rests_join : (iprop(Rest c a buf sem fs 0 ∗ Rest c a buf sem fs 1 ∗ Rest c a buf sem fs 2 ∗ Rest c a buf sem fs 3) : sProp 𝕄)
    ⊢ iprop((∃ f, owns (c : Thread nD τ) buf fullShare f) ∗ Sems c sem ∗ Src c a fullShare fs) := by
  unfold Rest Idle Sems
  iintro ⟨⟨B0, S0, A0⟩, ⟨B1, S1, A1⟩, ⟨B2, S2, A2⟩, ⟨B3, S3, A3⟩⟩
  isplitl [B0 B1 B2 B3]
  · iapply (slots_join c buf)
    isplitl [B0]; · iexact B0
    isplitl [B1]; · iexact B1
    isplitl [B2]; · iexact B2
    iexact B3
  isplitl [S0 S1 S2 S3]
  · isplitl [S0]; · iexact S0
    isplitl [S1]; · iexact S1
    isplitl [S2]; · iexact S2
    iexact S3
  iapply (src_quarters c a fs).2
  isplitl [A0 A1]
  · isplitl [A0]; · iexact A0
    iexact A1
  isplitl [A2]; · iexact A2
  iexact A3

end rests

/-- The input weight becomes resident, from the buffers as they are. -/
theorem first_in (c : Dev nD) (arg4 : Memref sig .tc .hbm S1x1024x6144 .f32) (arg11 : Memref sig .tc .vmem S1024x6144 .bf16) (harg11 : arg11.IsWhole)
    (arg13 : Memref sig .tc .vmem S4x32x6144 .f32) (arg15 : DmaSems sig S4) (fs : arg4.view.ty.Contents (Elt F)) :
    Runs c iprop((∃ f, owns (c : Thread nD τ) arg11 fullShare f) ∗ ((∃ f, owns (c : Thread nD τ) arg13 fullShare f) ∗ Sems c arg15 ∗ Src c arg4 fullShare fs) ∗ Waited c)
      (fillIn arg4 arg11 harg11 arg13 arg15)
      iprop(owns (c : Thread nD τ) arg11 fullShare (resIn (arg4.view.read (Elt F) fs)) ∗ ((∃ f, owns (c : Thread nD τ) arg13 fullShare f) ∗ Sems c arg15 ∗ Src c arg4 fullShare fs) ∗ Waited c) := by
  refine Runs.conseq ?_ ?_ (fillIn_runs c arg4 arg11 harg11 arg13 arg15 _ fs rfl)
  · iintro ⟨HK, HR, HW⟩
    isplitl [HR]; · iapply (rests_split c arg4 arg13 arg15 fs) $$ HR
    isplitl [HK]
    · iapply (Known.start c arg11 _ _ ?_) $$ HK
      intro x hx
      rcases hx with hx | ⟨-, hx⟩ <;> exact Nat.not_lt_zero _ hx
    iexact HW
  · iintro ⟨HR, HK, HW⟩
    isplitl [HK]
    · iapply (Known.all c arg11 _ _ ?_) $$ HK
      exact fun x => Or.inl (x 0).isLt
    isplitl [HR]; · iapply (rests_join c arg4 arg13 arg15 fs) $$ HR
    iexact HW

/-- The output weight becomes resident, from the buffers as they are. -/
theorem first_out (c : Dev nD) (arg9 : Memref sig .tc .hbm S1x2048x1024 .f32) (arg12 : Memref sig .tc .vmem S2048x1024 .bf16) (harg12 : arg12.IsWhole)
    (arg14 : Memref sig .tc .vmem S4x256x1024 .f32) (arg16 : DmaSems sig S4) (fs : arg9.view.ty.Contents (Elt F)) :
    Runs c iprop((∃ f, owns (c : Thread nD τ) arg12 fullShare f) ∗ ((∃ f, owns (c : Thread nD τ) arg14 fullShare f) ∗ Sems c arg16 ∗ Src c arg9 fullShare fs) ∗ Waited c)
      (fillOut arg9 arg12 harg12 arg14 arg16)
      iprop(owns (c : Thread nD τ) arg12 fullShare (resOut (arg9.view.read (Elt F) fs)) ∗ ((∃ f, owns (c : Thread nD τ) arg14 fullShare f) ∗ Sems c arg16 ∗ Src c arg9 fullShare fs) ∗ Waited c) := by
  refine Runs.conseq ?_ ?_ (fillOut_runs c arg9 arg12 harg12 arg14 arg16 _ fs rfl)
  · iintro ⟨HK, HR, HW⟩
    isplitl [HR]; · iapply (rests_split c arg9 arg14 arg16 fs) $$ HR
    isplitl [HK]
    · iapply (Known.start c arg12 _ _ ?_) $$ HK
      exact fun x => Nat.not_lt_zero _
    iexact HW
  · iintro ⟨HR, HK, HW⟩
    isplitl [HK]
    · iapply (Known.all c arg12 _ _ ?_) $$ HK
      exact fun x => (x 0).isLt
    isplitl [HR]; · iapply (rests_join c arg9 arg14 arg16 fs) $$ HR
    iexact HW

/-! ## Every point -/

/-- The block of the result, from the windows and the resident weights. -/
def blockV (x : FVec F S512x1024 .f32) (g g3 : FVec F S1x1024 .f32) (ws bs : FVec F S16x128x128 .f32) (vg vb : FVec F S1x2048 .f32)
    (Wr : S1024x6144.Idx → F .bf16) (Wo : S2048x1024.Idx → F .bf16) : FVec F S512x1024 .f32 :=
  oV (sub2 512 1024 (by decide) (by decide) x 0 0)
    (gV (vV (hV (sub2 512 1024 (by decide) (by decide) x 0 0) (sub2 1 1024 (by decide) (by decide) g 0 0)) Wr vg vb)
      (uV (hV (sub2 512 1024 (by decide) (by decide) x 0 0) (sub2 1 1024 (by decide) (by decide) g 0 0)) Wr) ws bs) Wo g3

/-- What the body computes at every point. -/
def block (arg1 : Memref sig .tc .vmem S512x1024 .f32) (arg2 arg3 : Memref sig .tc .vmem S1x1024 .f32) (arg5 arg6 : Memref sig .tc .vmem S16x128x128 .f32)
    (arg7 arg8 : Memref sig .tc .vmem S1x2048 .f32) (arg10 : Memref sig .tc .vmem S512x1024 .f32) (arg11 : Memref sig .tc .vmem S1024x6144 .bf16)
    (arg12 : Memref sig .tc .vmem S2048x1024 .bf16) (arg17 : Memref sig .tc .vmem S512x2048 .bf16) (harg17 : arg17.IsWhole)
    (arg18 : Memref sig .tc .vmem S512x2048 .f32) (arg19 : Memref sig .tc .vmem S512x2048 .bf16) (harg19 : arg19.IsWhole) :
    Prog (TpuEff nD τ sig (Elt F) Λ₀ .tc) PUnit := do
  let x : Vec F S512x1024 .f32 ← Prog.lift (.load arg1 (Rect.unit (s := S512x1024) ![0, 0] S512x1024.size inb_S512x1024_S512x1024_0_0).toLoadRect (View.loadsAt_vmem h_S512x1024))
  let g : Vec F S1x1024 .f32 ← Prog.lift (.load arg2 (Rect.unit (s := S1x1024) ![0, 0] S1x1024.size inb_S1x1024_S1x1024_0_0).toLoadRect (View.loadsAt_vmem h_S1x1024))
  vPart arg7 arg8 arg11 arg17 harg17 (hV x g)
  ugPart arg11 arg18 (hV x g)
  mixPart arg5 arg6 arg17 arg18 arg19 harg19
  outPart arg3 arg10 arg12 arg19 (shapeCast S512x1024 x shapeCasts_S512x1024_S512x1024)

section block

variable (c : Dev nD) (arg1 : Memref sig .tc .vmem S512x1024 .f32) (arg2 arg3 : Memref sig .tc .vmem S1x1024 .f32) (arg5 arg6 : Memref sig .tc .vmem S16x128x128 .f32)
    (arg7 arg8 : Memref sig .tc .vmem S1x2048 .f32) (arg10 : Memref sig .tc .vmem S512x1024 .f32) (arg11 : Memref sig .tc .vmem S1024x6144 .bf16)
    (arg12 : Memref sig .tc .vmem S2048x1024 .bf16) (arg17 : Memref sig .tc .vmem S512x2048 .bf16) (harg17 : arg17.IsWhole)
    (arg18 : Memref sig .tc .vmem S512x2048 .f32) (arg19 : Memref sig .tc .vmem S512x2048 .bf16) (harg19 : arg19.IsWhole)
    (x : FVec F S512x1024 .f32) (g g3 : FVec F S1x1024 .f32) (ws bs : FVec F S16x128x128 .f32) (vg vb : FVec F S1x2048 .f32)
    (Wr : S1024x6144.Idx → F .bf16) (Wo : S2048x1024.Idx → F .bf16)

/-- The input windows at a point. -/
def Windows : sProp 𝕄 :=
  iprop(owns (c : Thread nD τ) arg1 fullShare x ∗ owns (c : Thread nD τ) arg2 fullShare g ∗ owns (c : Thread nD τ) arg3 fullShare g3
    ∗ owns (c : Thread nD τ) arg5 fullShare ws ∗ owns (c : Thread nD τ) arg6 fullShare bs ∗ owns (c : Thread nD τ) arg7 fullShare vg ∗ owns (c : Thread nD τ) arg8 fullShare vb)

/-- The buffers of one point's own. -/
def Scratch : sProp 𝕄 :=
  iprop((∃ f, owns (c : Thread nD τ) arg17 fullShare f) ∗ (∃ f, owns (c : Thread nD τ) arg18 fullShare f) ∗ (∃ f, owns (c : Thread nD τ) arg19 fullShare f))

/-- The resident weights. -/
def Resident : sProp 𝕄 := iprop(owns (c : Thread nD τ) arg11 fullShare Wr ∗ owns (c : Thread nD τ) arg12 fullShare Wo)

/-- The block is computed. -/
theorem block_runs :
    Runs c iprop(Windows c arg1 arg2 arg3 arg5 arg6 arg7 arg8 x g g3 ws bs vg vb ∗ Resident c arg11 arg12 Wr Wo ∗ Scratch c arg17 arg18 arg19 ∗ (∃ f, owns (c : Thread nD τ) arg10 fullShare f))
      (block arg1 arg2 arg3 arg5 arg6 arg7 arg8 arg10 arg11 arg12 arg17 harg17 arg18 arg19 harg19)
      iprop(Windows c arg1 arg2 arg3 arg5 arg6 arg7 arg8 x g g3 ws bs vg vb ∗ Resident c arg11 arg12 Wr Wo ∗ Scratch c arg17 arg18 arg19
        ∗ owns (c : Thread nD τ) arg10 fullShare (blockV x g g3 ws bs vg vb Wr Wo)) := by
  unfold Runs block Windows Resident Scratch
  iintro ⟨⟨H1, H2, H3, H5, H6, H7, H8⟩, ⟨H11, H12⟩, ⟨H17, H18, H19⟩, H10⟩
  iapply (load_sub2 c arg1 fullShare x (by decide) (by decide) 0 0) $$ H1
  iintro H1
  iapply (load_sub2 c arg2 fullShare g (by decide) (by decide) 0 0) $$ H2
  iintro H2
  iapply (Runs.use (vPart_runs c arg11 arg17 harg17 arg7 arg8 _ Wr vg vb)) $$ [H11 H7 H8 H17]
  · isplitl [H11]; · iexact H11
    isplitl [H7]; · iexact H7
    isplitl [H8]; · iexact H8
    iexact H17
  iintro ⟨H11, H7, H8, H17⟩
  iapply (Runs.use (ugPart_runs c arg11 arg18 _ Wr)) $$ [H11 H18]
  · isplitl [H11]; · iexact H11
    iexact H18
  iintro ⟨H11, H18⟩
  iapply (Runs.use (mixPart_runs c arg5 arg6 arg17 arg18 arg19 harg19 _ _ ws bs)) $$ [H5 H6 H17 H18 H19]
  · isplitl [H5 H17]
    · isplitl [H5]; · iexact H5
      iexact H17
    isplitl [H6]; · iexact H6
    isplitl [H18]; · iexact H18
    iexact H19
  iintro ⟨⟨H5, H17⟩, H6, H18, H19⟩
  iapply (Runs.last (outPart_runs c arg19 arg3 arg10 arg12 _ _ Wo g3)) $$ [H19 H12 H3 H10]
  · isplitl [H19]; · iexact H19
    isplitl [H12]; · iexact H12
    isplitl [H3]; · iexact H3
    iexact H10
  iintro ⟨H19, H12, H3, H10⟩
  isplitl [H1 H2 H3 H5 H6 H7 H8]
  · isplitl [H1]; · iexact H1
    isplitl [H2]; · iexact H2
    isplitl [H3]; · iexact H3
    isplitl [H5]; · iexact H5
    isplitl [H6]; · iexact H6
    isplitl [H7]; · iexact H7
    iexact H8
  isplitl [H11 H12]
  · isplitl [H11]; · iexact H11
    iexact H12
  isplitl [H17 H18 H19]
  · isplitl [H17]; · iexists _; iexact H17
    isplitl [H18]; · iexists _; iexact H18
    iexists _; iexact H19
  iexact H10

end block

end Cert.KernelIdeal.Form

end
-- ==== Proof.Points.lean ====
/-
  The body at each point of the grid, over what is kept between points: before the first point the resident buffers hold
  anything, afterwards they hold the two weights.
-/
module

public import proofs.«01_k».proof.Proof.Body

@[expose] public section

set_option maxRecDepth 16384

noncomputable section

namespace Cert.KernelIdeal.Form

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- The kernel's own transfer counters. -/
abbrev cells : Fin 8 → SemLoc sig := fun j => (![SemLoc.dma 10, SemLoc.dma 11, SemLoc.dma 12, SemLoc.dma 13, SemLoc.dma 14, SemLoc.dma 15, SemLoc.dma 16, SemLoc.dma 17] : Fin 8 → SemLoc sig) j

theorem cells_own : Pipeline.OwnSemFacts spec0 cells := by decide

/-- The two weights that the kernel copies itself. -/
def weights : Finset (Ref sig .tc) := {main_arg3, main_arg8}

theorem weights_sub : weights ⊆ Pipeline.restRefs sig spec0 := by decide

abbrev b11 : Memref sig .tc .vmem S1024x6144 .bf16 := Memref.whole cc0_scratch0
abbrev b12 : Memref sig .tc .vmem S2048x1024 .bf16 := Memref.whole cc0_scratch1
abbrev b13 : Memref sig .tc .vmem S4x32x6144 .f32 := Memref.whole cc0_scratch2
abbrev b14 : Memref sig .tc .vmem S4x256x1024 .f32 := Memref.whole cc0_scratch3
abbrev b17 : Memref sig .tc .vmem S512x2048 .bf16 := Memref.whole cc0_scratch6
abbrev b18 : Memref sig .tc .vmem S512x2048 .f32 := Memref.whole cc0_scratch7
abbrev b19 : Memref sig .tc .vmem S512x2048 .bf16 := Memref.whole cc0_scratch8
abbrev b4 : Memref sig .tc .hbm S1x1024x6144 .f32 := Memref.whole main_arg3
abbrev b9 : Memref sig .tc .hbm S1x2048x1024 .f32 := Memref.whole main_arg8

/-- The resident weights. -/
def WrV (c : Dev nD) : S1024x6144.Idx → F .bf16 := resIn (b4.view.read (Elt F) (V m c main_arg3))
def WoV (c : Dev nD) : S2048x1024.Idx → F .bf16 := resOut (b9.view.read (Elt F) (V m c main_arg8))

/-- What is kept between points besides the resident weights. -/
def Kept (c : Dev nD) : sProp 𝕄 :=
  iprop(((∃ f, owns (c : Thread nD τ) b13 fullShare f) ∗ Sems c cc0_scratch4 ∗ Src c b4 fullShare (V m c main_arg3))
    ∗ ((∃ f, owns (c : Thread nD τ) b14 fullShare f) ∗ Sems c cc0_scratch5 ∗ Src c b9 fullShare (V m c main_arg8))
    ∗ Scratch c b17 b18 b19 ∗ (∃ r, prngReg c r))

/-- Before the first point the resident buffers hold anything. -/
def Fresh (c : Dev nD) : sProp 𝕄 := iprop((∃ f, owns (c : Thread nD τ) b11 fullShare f) ∗ (∃ f, owns (c : Thread nD τ) b12 fullShare f))

/-- The state before point `n`. -/
def State (c : Dev nD) (n : ℕ) : sProp 𝕄 := if n = 0 then iprop(Fresh c ∗ Kept m c) else iprop(Resident c b11 b12 (WrV m c) (WoV m c) ∗ Kept m c)

/-- The launch's counters, one by one. -/
theorem cells_eq (c : Dev nD) : (Pipeline.ownSems0 (Ix := Unit) (Name := ℕ) (U := Pipeline.UD sig nD τ) (Lvl := ℕ) (Val := Elt F) (τ := τ) cells c : sProp 𝕄)
    = iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0) := by
  rw [Pipeline.ownSems0_eq_of_list c cells [0, 1, 2, 3, 4, 5, 6, 7] (by decide) (by decide)]; rfl

/-- The weights' arrays, one by one. -/
theorem weights_eq (c : Dev nD) : (bigSep weights (fun b => ((c : Thread nD τ).loc b) ↦{fullShare} V m c b) : sProp 𝕄)
    = iprop(Src c b4 fullShare (V m c main_arg3) ∗ Src c b9 fullShare (V m c main_arg8)) := by
  unfold Src
  have h4 : b4.view.set = Finset.univ := View.set_whole _
  have h9 : b9.view.set = Finset.univ := View.set_whole _
  rw [h4, h9, BI.bigSep_eq_bigSepL_of_eq [main_arg3, main_arg8] (by decide) (by decide)]; rfl

/-- What the launch hands over, one by one. -/
theorem launch_eq (c : Dev nD) : (Pipeline.ΦD cells spec0 weights (V m) c : sProp 𝕄)
    = iprop(iprop((∃ d, owns (c : Thread nD τ) b11 fullShare d) ∗ (∃ d, owns (c : Thread nD τ) b12 fullShare d) ∗ (∃ d, owns (c : Thread nD τ) b13 fullShare d) ∗ (∃ d, owns (c : Thread nD τ) b14 fullShare d) ∗ (∃ d, owns (c : Thread nD τ) b17 fullShare d) ∗ (∃ d, owns (c : Thread nD τ) b18 fullShare d) ∗ (∃ d, owns (c : Thread nD τ) b19 fullShare d))
      ∗ (∃ r, prngReg c r)
      ∗ iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0)
      ∗ iprop(Src c b4 fullShare (V m c main_arg3) ∗ Src c b9 fullShare (V m c main_arg8))) := by
  rw [Pipeline.ΦD_eq, scopedRest0_eq, cells_eq, weights_eq]; simp only [b11, b12, b13, b14, b17, b18, b19, owns_whole]; try rfl

/-- What the launch hands over is the state before the first point. -/
theorem launch_in (c : Dev nD) : (Pipeline.ΦD cells spec0 weights (V m) c : sProp 𝕄) ⊢ State m c 0 := by
  rw [launch_eq]
  unfold State Fresh Kept Scratch Sems
  rw [if_pos rfl]
  iintro ⟨⟨H11, H12, H13, H14, H17, H18, H19⟩, Hg, ⟨S0, S1, S2, S3, T0, T1, T2, T3⟩, ⟨A4, A9⟩⟩
  isplitl [H11 H12]
  · isplitl [H11]; · iexact H11
    iexact H12
  isplitl [H13 S0 S1 S2 S3 A4]
  · isplitl [H13]; · iexact H13
    isplitl [S0 S1 S2 S3]
    · isplitl [S0]; · iexact S0
      isplitl [S1]; · iexact S1
      isplitl [S2]; · iexact S2
      iexact S3
    iexact A4
  isplitl [H14 T0 T1 T2 T3 A9]
  · isplitl [H14]; · iexact H14
    isplitl [T0 T1 T2 T3]
    · isplitl [T0]; · iexact T0
      isplitl [T1]; · iexact T1
      isplitl [T2]; · iexact T2
      iexact T3
    iexact A9
  isplitl [H17 H18 H19]
  · isplitl [H17]; · iexact H17
    isplitl [H18]; · iexact H18
    iexact H19
  iexact Hg

/-- The state before any point gives back what the launch handed over. -/
theorem launch_out (c : Dev nD) (n : ℕ) : (State m c n : sProp 𝕄) ⊢ Pipeline.ΦD cells spec0 weights (V m) c := by
  have fresh : (State m c n : sProp 𝕄) ⊢ iprop(Fresh c ∗ Kept m c) := by
    unfold State
    split
    · exact .rfl
    · refine BIClass.sep_mono ?_ .rfl
      unfold Resident Fresh
      iintro ⟨H, H'⟩
      isplitl [H]; · iexists _; iexact H
      iexists _; iexact H'
  refine fresh.trans ?_
  rw [launch_eq]
  unfold Fresh Kept Scratch Sems
  iintro ⟨⟨H11, H12⟩, ⟨H13, ⟨S0, S1, S2, S3⟩, A4⟩, ⟨H14, ⟨T0, T1, T2, T3⟩, A9⟩, ⟨H17, H18, H19⟩, Hg⟩
  isplitl [H11 H12 H13 H14 H17 H18 H19]
  · isplitl [H11]; · iexact H11
    isplitl [H12]; · iexact H12
    isplitl [H13]; · iexact H13
    isplitl [H14]; · iexact H14
    isplitl [H17]; · iexact H17
    isplitl [H18]; · iexact H18
    iexact H19
  isplitl [Hg]; · iexact Hg
  isplitl [S0 S1 S2 S3 T0 T1 T2 T3]
  · isplitl [S0]; · iexact S0
    isplitl [S1]; · iexact S1
    isplitl [S2]; · iexact S2
    isplitl [S3]; · iexact S3
    isplitl [T0]; · iexact T0
    isplitl [T1]; · iexact T1
    isplitl [T2]; · iexact T2
    iexact T3
  isplitl [A4]; · iexact A4
  iexact A9

/-! ## One point -/

/-- Each window's buffer at a point. -/
abbrev w0 (t : Fin cfg0.N) : Memref sig .tc .vmem S512x1024 .f32 := win0_0.stage (cfg0.slots t 0)
abbrev w1 (t : Fin cfg0.N) : Memref sig .tc .vmem S1x1024 .f32 := win0_1.stage (cfg0.slots t 1)
abbrev w2 (t : Fin cfg0.N) : Memref sig .tc .vmem S1x1024 .f32 := win0_2.stage (cfg0.slots t 2)
abbrev w3 (t : Fin cfg0.N) : Memref sig .tc .vmem S16x128x128 .f32 := win0_3.stage (cfg0.slots t 3)
abbrev w4 (t : Fin cfg0.N) : Memref sig .tc .vmem S16x128x128 .f32 := win0_4.stage (cfg0.slots t 4)
abbrev w5 (t : Fin cfg0.N) : Memref sig .tc .vmem S1x2048 .f32 := win0_5.stage (cfg0.slots t 5)
abbrev w6 (t : Fin cfg0.N) : Memref sig .tc .vmem S1x2048 .f32 := win0_6.stage (cfg0.slots t 6)
abbrev w7 (t : Fin cfg0.N) : Memref sig .tc .vmem S512x1024 .f32 := win0_7.stage (cfg0.slots t 7)

/-- The structured body at a point. -/
abbrev bodyF (t : Fin cfg0.N) : Prog (TpuEff nD τ sig (Elt F) Λ₀ .tc) PUnit :=
  body (grid0.coords t) (w0 t) (hstage0_0 ((cfg0.slots t 0).cast nbuf0_0)) (w1 t) (hstage0_1 ((cfg0.slots t 1).cast nbuf0_1)) (w2 t) (hstage0_2 ((cfg0.slots t 2).cast nbuf0_2)) (Memref.whole main_arg3) (Memref.isWhole_whole _) (w3 t) (hstage0_3 ((cfg0.slots t 3).cast nbuf0_3)) (w4 t) (hstage0_4 ((cfg0.slots t 4).cast nbuf0_4)) (w5 t) (hstage0_5 ((cfg0.slots t 5).cast nbuf0_5)) (w6 t) (hstage0_6 ((cfg0.slots t 6).cast nbuf0_6)) (Memref.whole main_arg8) (Memref.isWhole_whole _) (w7 t) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (Memref.whole cc0_scratch6) (Memref.isWhole_whole _) (Memref.whole cc0_scratch7) (Memref.isWhole_whole _) (Memref.whole cc0_scratch8) (Memref.isWhole_whole _)

/-- The branch of the body, at a point's coordinates. -/
abbrev atFirst (i : grid0.Coords) : Prop := (Scalar.cmpi .ne (Scalar.extui (Scalar.cmpi .eq (BitVec.ofNat 32 (i 0).val) 0#32) : BitVec 32) 0#32) = 1#1

/-- It is taken at the first point only. -/
theorem atFirst_iff (t : Fin cfg0.N) : atFirst (grid0.coords t) ↔ t.val % 32 = 0 := by
  have ht : t.val < 32 := Nat.lt_of_lt_of_eq t.isLt N_0
  have e0 : (grid0.coords t 0).val = t.val / 1 % 32 := Pipeline.Grid.coords_val t 0 (by decide) rfl
  simp only [atFirst, e0]
  word_cmp

/-- The body at a point, over windows that hold their blocks. -/
theorem bodyF_runs (c : Dev nD) (t : Fin cfg0.N) (x : FVec F S512x1024 .f32) (g g3 : FVec F S1x1024 .f32) (ws bs : FVec F S16x128x128 .f32) (vg vb : FVec F S1x2048 .f32) :
    Runs c iprop(State m c t.val ∗ Waited c ∗ Windows c (w0 t) (w1 t) (w2 t) (w3 t) (w4 t) (w5 t) (w6 t) x g g3 ws bs vg vb ∗ (∃ f, owns (c : Thread nD τ) (w7 t) fullShare f))
      (bodyF t)
      iprop(State m c (t.val + 1) ∗ Waited c ∗ Windows c (w0 t) (w1 t) (w2 t) (w3 t) (w4 t) (w5 t) (w6 t) x g g3 ws bs vg vb
        ∗ owns (c : Thread nD τ) (w7 t) fullShare (blockV x g g3 ws bs vg vb (WrV m c) (WoV m c))) := by
  have hN : t.val < 32 := lt_of_lt_of_eq t.isLt (show cfg0.N = 32 from N_0)
  have blk := block_runs c (w0 t) (w1 t) (w2 t) (w3 t) (w4 t) (w5 t) (w6 t) (w7 t) b11 b12 b17 (Memref.isWhole_whole _) b18 b19 (Memref.isWhole_whole _)
    x g g3 ws bs vg vb (WrV m c) (WoV m c)
  unfold State
  rw [if_neg (Nat.succ_ne_zero _)]
  have go : Runs c iprop((Resident c b11 b12 (WrV m c) (WoV m c) ∗ Kept m c) ∗ Waited c ∗ Windows c (w0 t) (w1 t) (w2 t) (w3 t) (w4 t) (w5 t) (w6 t) x g g3 ws bs vg vb ∗ (∃ f, owns (c : Thread nD τ) (w7 t) fullShare f))
      (block (w0 t) (w1 t) (w2 t) (w3 t) (w4 t) (w5 t) (w6 t) (w7 t) b11 b12 b17 (Memref.isWhole_whole _) b18 b19 (Memref.isWhole_whole _))
      iprop((Resident c b11 b12 (WrV m c) (WoV m c) ∗ Kept m c) ∗ Waited c ∗ Windows c (w0 t) (w1 t) (w2 t) (w3 t) (w4 t) (w5 t) (w6 t) x g g3 ws bs vg vb
        ∗ owns (c : Thread nD τ) (w7 t) fullShare (blockV x g g3 ws bs vg vb (WrV m c) (WoV m c))) := by
    unfold Runs Kept
    iintro ⟨⟨HR, K1, K2, KS, Kg⟩, HW, Hw, H7⟩
    iapply (Runs.last blk) $$ [HR KS Hw H7]
    · isplitl [Hw]; · iexact Hw
      isplitl [HR]; · iexact HR
      isplitl [KS]; · iexact KS
      iexact H7
    iintro ⟨Hw, HR, KS, H7⟩
    isplitl [HR K1 K2 KS Kg]
    · isplitl [HR]; · iexact HR
      isplitl [K1]; · iexact K1
      isplitl [K2]; · iexact K2
      isplitl [KS]; · iexact KS
      iexact Kg
    isplitl [HW]; · iexact HW
    isplitl [Hw]; · iexact Hw
    iexact H7
  by_cases h0 : t.val = 0
  · rw [if_pos h0]
    unfold bodyF body
    rw [dif_pos ((atFirst_iff t).mpr (by omega))]
    have one := first_in c b4 b11 (Memref.isWhole_whole _) b13 cc0_scratch4 (V m c main_arg3)
    have two := first_out c b9 b12 (Memref.isWhole_whole _) b14 cc0_scratch5 (V m c main_arg8)
    unfold Fresh Kept
    refine Runs.seq (B := iprop(owns (c : Thread nD τ) b11 fullShare (WrV m c) ∗ (∃ f, owns (c : Thread nD τ) b12 fullShare f) ∗ Kept m c ∗ Waited c ∗ Windows c (w0 t) (w1 t) (w2 t) (w3 t) (w4 t) (w5 t) (w6 t) x g g3 ws bs vg vb ∗ (∃ f, owns (c : Thread nD τ) (w7 t) fullShare f))) ?_ ?_
    · unfold Runs Kept
      iintro ⟨⟨⟨H11, H12⟩, K1, K2, KS, Kg⟩, HW, Hw, H7⟩
      iapply (Runs.last one) $$ [H11 K1 HW]
      · isplitl [H11]; · iexact H11
        isplitl [K1]; · iexact K1
        iexact HW
      iintro ⟨H11, K1, HW⟩
      isplitl [H11]; · iexact H11
      isplitl [H12]; · iexact H12
      isplitl [K1 K2 KS Kg]
      · isplitl [K1]; · iexact K1
        isplitl [K2]; · iexact K2
        isplitl [KS]; · iexact KS
        iexact Kg
      isplitl [HW]; · iexact HW
      isplitl [Hw]; · iexact Hw
      iexact H7
    refine Runs.seq (B := iprop((Resident c b11 b12 (WrV m c) (WoV m c) ∗ Kept m c) ∗ Waited c ∗ Windows c (w0 t) (w1 t) (w2 t) (w3 t) (w4 t) (w5 t) (w6 t) x g g3 ws bs vg vb ∗ (∃ f, owns (c : Thread nD τ) (w7 t) fullShare f))) ?_ go
    · unfold Runs Kept Resident
      iintro ⟨H11, H12, ⟨K1, K2, KS, Kg⟩, HW, Hw, H7⟩
      iapply (Runs.last two) $$ [H12 K2 HW]
      · isplitl [H12]; · iexact H12
        isplitl [K2]; · iexact K2
        iexact HW
      iintro ⟨H12, K2, HW⟩
      isplitl [H11 H12 K1 K2 KS Kg]
      · isplitl [H11 H12]
        · isplitl [H11]; · iexact H11
          iexact H12
        isplitl [K1]; · iexact K1
        isplitl [K2]; · iexact K2
        isplitl [KS]; · iexact KS
        iexact Kg
      isplitl [HW]; · iexact HW
      isplitl [Hw]; · iexact Hw
      iexact H7
  · rw [if_neg h0]
    unfold bodyF body
    rw [dif_neg (fun h => h0 (by have := (atFirst_iff t).mp h; omega))]
    exact go

end Cert.KernelIdeal.Form

end
-- ==== Proof.Run.lean ====
/-
  The whole launch: from the body at one point to the run of the program, which leaves in each block of the output the
  block's value, every argument unchanged and every counter at zero.  All of it is stated for any values, given that the
  printed body is the structured one.
-/
module

public import proofs.«01_k».proof.Proof.Points

@[expose] public section

set_option maxRecDepth 16384

noncomputable section

namespace Cert.KernelIdeal.Form

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- The program up to its one region. -/
theorem start (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The value of the output's block at a point. -/
def outBlk (c : Dev nD) (t : Fin cfg0.N) : FVec F S512x1024 .f32 :=
  blockV (iblk m c 0 t) (iblk m c 1 t) (iblk m c 2 t) (iblk m c 3 t) (iblk m c 4 t) (iblk m c 5 t) (iblk m c 6 t) (WrV m c) (WoV m c)

/-- What the launch is proved with: the arrays as the region finds them, each input's block left in place, the output's
    block at its value. -/
def data (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlk m c t
  Φ t := State m c t.val
  q _ := fullShare
  owed _ := 0

theorem data_A (c : Dev nD) (w : Fin cfg0.W) : (data m 0 c).A w = V m c (Pipeline.arrRef spec0 w) := by
  dsimp only [data]

theorem after0 (c : Dev nD) (t : Fin cfg0.N) : (data m 0 c).after 0 t = iblk m c 0 t := by dsimp only [data]
theorem after1 (c : Dev nD) (t : Fin cfg0.N) : (data m 0 c).after 1 t = iblk m c 1 t := by dsimp only [data]
theorem after2 (c : Dev nD) (t : Fin cfg0.N) : (data m 0 c).after 2 t = iblk m c 2 t := by dsimp only [data]
theorem after3 (c : Dev nD) (t : Fin cfg0.N) : (data m 0 c).after 3 t = iblk m c 3 t := by dsimp only [data]
theorem after4 (c : Dev nD) (t : Fin cfg0.N) : (data m 0 c).after 4 t = iblk m c 4 t := by dsimp only [data]
theorem after5 (c : Dev nD) (t : Fin cfg0.N) : (data m 0 c).after 5 t = iblk m c 5 t := by dsimp only [data]
theorem after6 (c : Dev nD) (t : Fin cfg0.N) : (data m 0 c).after 6 t = iblk m c 6 t := by dsimp only [data]
theorem after7 (c : Dev nD) (t : Fin cfg0.N) : (data m 0 c).after 7 t = outBlk m c t := by dsimp only [data]

/-! An input's window holds its block at every point. -/

theorem before0 (c : Dev nD) (t : Fin cfg0.N) (d) : (data m 0 c).before 0 t d = iblk m c 0 t :=
  ((data m 0 c).before_in_eq_fetched 0 rfl (fun _ => rfl) (fun _ _ _ => rfl) (fun t => by rw [after0]; unfold Dat.blockOf iblk; rw [data_A]; try rfl) t d).trans
    (by unfold Dat.fetched Dat.blockOf iblk; rw [data_A]; try rfl)
theorem before1 (c : Dev nD) (t : Fin cfg0.N) (d) : (data m 0 c).before 1 t d = iblk m c 1 t :=
  ((data m 0 c).before_in_eq_fetched 1 rfl (fun _ => rfl) (fun _ _ _ => rfl) (fun t => by rw [after1]; unfold Dat.blockOf iblk; rw [data_A]; try rfl) t d).trans
    (by unfold Dat.fetched Dat.blockOf iblk; rw [data_A]; try rfl)
theorem before2 (c : Dev nD) (t : Fin cfg0.N) (d) : (data m 0 c).before 2 t d = iblk m c 2 t :=
  ((data m 0 c).before_in_eq_fetched 2 rfl (fun _ => rfl) (fun _ _ _ => rfl) (fun t => by rw [after2]; unfold Dat.blockOf iblk; rw [data_A]; try rfl) t d).trans
    (by unfold Dat.fetched Dat.blockOf iblk; rw [data_A]; try rfl)
theorem before3 (c : Dev nD) (t : Fin cfg0.N) (d) : (data m 0 c).before 3 t d = iblk m c 3 t :=
  ((data m 0 c).before_in_eq_fetched 3 rfl (fun _ => rfl) (fun _ _ _ => rfl) (fun t => by rw [after3]; unfold Dat.blockOf iblk; rw [data_A]; try rfl) t d).trans
    (by unfold Dat.fetched Dat.blockOf iblk; rw [data_A]; try rfl)
theorem before4 (c : Dev nD) (t : Fin cfg0.N) (d) : (data m 0 c).before 4 t d = iblk m c 4 t :=
  ((data m 0 c).before_in_eq_fetched 4 rfl (fun _ => rfl) (fun _ _ _ => rfl) (fun t => by rw [after4]; unfold Dat.blockOf iblk; rw [data_A]; try rfl) t d).trans
    (by unfold Dat.fetched Dat.blockOf iblk; rw [data_A]; try rfl)
theorem before5 (c : Dev nD) (t : Fin cfg0.N) (d) : (data m 0 c).before 5 t d = iblk m c 5 t :=
  ((data m 0 c).before_in_eq_fetched 5 rfl (fun _ => rfl) (fun _ _ _ => rfl) (fun t => by rw [after5]; unfold Dat.blockOf iblk; rw [data_A]; try rfl) t d).trans
    (by unfold Dat.fetched Dat.blockOf iblk; rw [data_A]; try rfl)
theorem before6 (c : Dev nD) (t : Fin cfg0.N) (d) : (data m 0 c).before 6 t d = iblk m c 6 t :=
  ((data m 0 c).before_in_eq_fetched 6 rfl (fun _ => rfl) (fun _ _ _ => rfl) (fun t => by rw [after6]; unfold Dat.blockOf iblk; rw [data_A]; try rfl) t d).trans
    (by unfold Dat.fetched Dat.blockOf iblk; rw [data_A]; try rfl)

/-- What the body is called with at a point. -/
def BodyPre (c : Dev nD) (t : Fin cfg0.N) : sProp 𝕄 :=
  iprop((data m 0 c).Φ t.castSucc ∗ (data m 0 c).owesAt () t.castSucc
    ∗ (∃ d, owns (c : Thread nD τ) (w0 t) fullShare ((data m 0 c).before 0 t d))
    ∗ (∃ d, owns (c : Thread nD τ) (w1 t) fullShare ((data m 0 c).before 1 t d))
    ∗ (∃ d, owns (c : Thread nD τ) (w2 t) fullShare ((data m 0 c).before 2 t d))
    ∗ (∃ d, owns (c : Thread nD τ) (w3 t) fullShare ((data m 0 c).before 3 t d))
    ∗ (∃ d, owns (c : Thread nD τ) (w4 t) fullShare ((data m 0 c).before 4 t d))
    ∗ (∃ d, owns (c : Thread nD τ) (w5 t) fullShare ((data m 0 c).before 5 t d))
    ∗ (∃ d, owns (c : Thread nD τ) (w6 t) fullShare ((data m 0 c).before 6 t d))
    ∗ (∃ d, owns (c : Thread nD τ) (w7 t) fullShare ((data m 0 c).before 7 t d)))

/-- What the body returns. -/
def BodyPost (c : Dev nD) (t : Fin cfg0.N) : sProp 𝕄 :=
  iprop((data m 0 c).Φ t.succ ∗ (data m 0 c).owesAt () t.succ
    ∗ owns (c : Thread nD τ) (w0 t) fullShare ((data m 0 c).after 0 t)
    ∗ owns (c : Thread nD τ) (w1 t) fullShare ((data m 0 c).after 1 t)
    ∗ owns (c : Thread nD τ) (w2 t) fullShare ((data m 0 c).after 2 t)
    ∗ owns (c : Thread nD τ) (w3 t) fullShare ((data m 0 c).after 3 t)
    ∗ owns (c : Thread nD τ) (w4 t) fullShare ((data m 0 c).after 4 t)
    ∗ owns (c : Thread nD τ) (w5 t) fullShare ((data m 0 c).after 5 t)
    ∗ owns (c : Thread nD τ) (w6 t) fullShare ((data m 0 c).after 6 t)
    ∗ owns (c : Thread nD τ) (w7 t) fullShare ((data m 0 c).after 7 t))

/-- The structured body takes the one to the other. -/
theorem bodyF_sound (c : Dev nD) (t : Fin cfg0.N) : Runs c (BodyPre m c t) (bodyF t) (BodyPost m c t) := by
  unfold BodyPre BodyPost
  simp only [before0, before1, before2, before3, before4, before5, before6]
  rw [after0, after1, after2, after3, after4, after5, after6, after7,
    show (data m 0 c).Φ t.castSucc = State m c t.val from rfl, show (data m 0 c).Φ t.succ = State m c (t.val + 1) from rfl]
  unfold Dat.owesAt Pipeline.owesWithin
  rw [show (data m 0 c).owed t.castSucc = 0 from rfl, show (data m 0 c).owed t.succ = 0 from rfl]
  have h := bodyF_runs m c t (iblk m c 0 t) (iblk m c 1 t) (iblk m c 2 t) (iblk m c 3 t) (iblk m c 4 t) (iblk m c 5 t) (iblk m c 6 t)
  refine Runs.conseq ?_ ?_ h
  · unfold Windows Waited
    iintro ⟨HS, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
    isplitl [HS]; · iexact HS
    isplitl [HW]; · iexists _; iexact HW
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    iexists _; iexact H7
  · unfold Windows Waited outBlk
    iintro ⟨HS, ⟨%W, HW⟩, ⟨H0, H1, H2, H3, H4, H5, H6⟩, H7⟩
    isplitl [HS]; · iexact HS
    isplitl [HW]
    · iexists W; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The table's row at a point is the body there. -/
theorem row (t : Fin cfg0.N) : defs₀ (F := F) .tc cfg0.body (cfg0.bodyArgs t (cfg0.slots t)) = bodyAt0 t := by
  unfold defs₀; rw [Defs.onTc_tc]

variable (hE : ∀ t : Fin cfg0.N, bodyAt0 (F := F) t = bodyF t)
include hE

/-- The printed body meets its obligation at every point. -/
theorem obligation (c : Dev nD) : BodyObligation (data (F := F) m 0 c) (defs₀ (F := F)) Variants.none () Set.univ := fun t => by
  rw [bigSep_W0, bigSep_W0, row, hE]
  exact triple_restated (bodyF_sound m c t) rfl .rfl fun _ => .rfl

/-- The launch's state is handed over and given back. -/
theorem data_in (c : Dev nD) : Pipeline.ΦD cells spec0 weights (V m) c ⊢ (data m 0 c).Φ 0 := launch_in m c

theorem data_out (c : Dev nD) : (data m 0 c).Φ (Fin.last cfg0.N) ⊢ Pipeline.ΦD cells spec0 weights (V m) c := launch_out m c (Fin.last cfg0.N).val

set_option backward.isDefEq.respectTransparency.types false in
/-- The launch: the arrays end at what the points wrote, every other array as the region found it, every counter at zero. -/
theorem run : θ_run defs (onTc (τ := τ) (main (F := F))) (s₀ m ρ) (fun r => Pipeline.FramePost cfgs (data m) 0 (V m) r ∧ r.2.sem = fun _ => 0) :=
  Pipeline.θ_run_frame_dma (Q' := _) cfgs (data m) (0 : Fin 1) launch0 cells defs₀ Variants.none cells_own weights weights_sub m ρ main
    (hbody := fun c => (obligation m hE c).loose) (hshare := fun c => (data m 0 c).share_full fun _ => rfl)
    (howed := fun _ _ => rfl) (V := V m) (hmain := start m Variants.none) (hA := data_A m) (hin := data_in m hE) (hout := data_out m hE)

/-- The arguments end unchanged, the result at what the points wrote, every counter at zero. -/
theorem run_value : θ_run defs (onTc (τ := τ) (main (F := F))) ⟨m, fun _ => 0, ρ⟩ (fun r => (∀ c : Dev nD,
      r.2.mem ((c.tc : Thread nD τ).loc main_v7) = (data m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  have rest (b : Ref sig .tc) (h : b ∈ Pipeline.restRefs sig spec0) {r : PUnit × MemSt nD τ sig (Elt F)} (hr : Pipeline.FramePost cfgs (data m) 0 (V m) r) (c : Dev nD) :
      r.2.mem ((c.tc : Thread nD τ).loc b) = V m c b := (hr c).2 b h
  (θ_run defs _ _).mono (fun _ h => ⟨fun c => ⟨(h.1 c).1 7,
    (rest main_arg0 (Pipeline.mem_restRefs_of _ (by decide) (by decide)) h.1 c).trans (V_main_arg0 m c),
    (rest main_arg1 (Pipeline.mem_restRefs_of _ (by decide) (by decide)) h.1 c).trans (V_main_arg1 m c),
    (rest main_arg2 (Pipeline.mem_restRefs_of _ (by decide) (by decide)) h.1 c).trans (V_main_arg2 m c),
    (rest main_arg3 (Pipeline.mem_restRefs_of _ (by decide) (by decide)) h.1 c).trans (V_main_arg3 m c),
    (rest main_arg4 (Pipeline.mem_restRefs_of _ (by decide) (by decide)) h.1 c).trans (V_main_arg4 m c),
    (rest main_arg5 (Pipeline.mem_restRefs_of _ (by decide) (by decide)) h.1 c).trans (V_main_arg5 m c),
    ((h.1 c).1 5).trans (((data m 0 c).arrAt_in 5 rfl _).trans ((data_A m c 5).trans (V_main_arg6 m c))),
    ((h.1 c).1 6).trans (((data m 0 c).arrAt_in 6 rfl _).trans ((data_A m c 6).trans (V_main_arg7 m c))),
    (rest main_arg8 (Pipeline.mem_restRefs_of _ (by decide) (by decide)) h.1 c).trans (V_main_arg8 m c)⟩, h.2⟩) (run m ρ hE)

end Cert.KernelIdeal.Form

end
-- ==== Proof.PlainEq.lean ====
/-
  The structured body read with each named number at its printed word, and the printed body of the kernel as it runs, which
  is that form of it.
-/
module

public import proofs.«01_k».proof.Kernel
public import proofs.«01_k».proof.Proof.Form
public import Idealize.ShloMosaic.PureOps.BitExact

@[expose] public section

set_option maxRecDepth 65536
set_option maxHeartbeats 0

noncomputable section

namespace Cert.KernelIdeal.Form

open Idealize.ShloMosaic Idealize.ShloMosaic.TcCoe Idealize.SL.Sem
open scoped Idealize.ShloMosaic.ProgEq

/-- Each named number at its printed word. -/
@[instance_reducible] def words {F : FTy → Type} [FloatOps F] : Named F := ⟨fun _ _ {φ} b => FloatOps.ofBits φ b⟩

/-- The structured body with each named number at its printed word. -/
def plain {F : FTy → Type} [FloatOps F] [Cert.KernelIdeal.Facts] (i : grid0.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .hbm S1x1024x6144 .f32) (harg4 : arg4.IsWhole) (arg5 : Memref sig .tc .vmem S16x128x128 .f32) (harg5 : arg5.IsWhole) (arg6 : Memref sig .tc .vmem S16x128x128 .f32) (harg6 : arg6.IsWhole) (arg7 : Memref sig .tc .vmem S1x2048 .f32) (harg7 : arg7.IsWhole) (arg8 : Memref sig .tc .vmem S1x2048 .f32) (harg8 : arg8.IsWhole) (arg9 : Memref sig .tc .hbm S1x2048x1024 .f32) (harg9 : arg9.IsWhole) (arg10 : Memref sig .tc .vmem S512x1024 .f32) (harg10 : arg10.IsWhole) (arg11 : Memref sig .tc .vmem S1024x6144 .bf16) (harg11 : arg11.IsWhole) (arg12 : Memref sig .tc .vmem S2048x1024 .bf16) (harg12 : arg12.IsWhole) (arg13 : Memref sig .tc .vmem S4x32x6144 .f32) (harg13 : arg13.IsWhole) (arg14 : Memref sig .tc .vmem S4x256x1024 .f32) (harg14 : arg14.IsWhole) (arg15 : DmaSems sig S4) (arg16 : DmaSems sig S4) (arg17 : Memref sig .tc .vmem S512x2048 .bf16) (harg17 : arg17.IsWhole) (arg18 : Memref sig .tc .vmem S512x2048 .f32) (harg18 : arg18.IsWhole) (arg19 : Memref sig .tc .vmem S512x2048 .bf16) (harg19 : arg19.IsWhole) :
    Prog (TpuEff nD τ sig (Elt F) Λ₀ .tc) PUnit :=
  @body F _ words _ i arg1 harg1 arg2 harg2 arg3 harg3 arg4 harg4 arg5 harg5 arg6 harg6 arg7 harg7 arg8 harg8 arg9 harg9 arg10 harg10 arg11 harg11 arg12 harg12 arg13 harg13 arg14 harg14 arg15 arg16 arg17 harg17 arg18 harg18 arg19 harg19

prog_eq plainEq : Cert.Kernel.cc0_gmlp_layer Cert.KernelIdeal.Form.plain from Cert.Kernel to Cert.KernelIdeal at Bits inferInstance by intros; rfl

end Cert.KernelIdeal.Form

end
-- ==== Proof.BitsEq.lean ====
/-
  The printed body is the structured form of it, effect by effect, at the bit model too.
-/
module

public import proofs.«01_k».proof.Proof.Form
public import Idealize.ShloMosaic.PureOps.BitExact

@[expose] public section

set_option maxRecDepth 65536
set_option maxHeartbeats 0

namespace Cert.KernelIdeal.Form

open Idealize.ShloMosaic
open scoped Idealize.ShloMosaic.ProgEq

prog_eq bitsEq : Cert.KernelIdeal.cc0_gmlp_layer Cert.KernelIdeal.Form.body from Cert.KernelIdeal to Cert.KernelIdeal at Bits inferInstance by intros; rfl

end Cert.KernelIdeal.Form
-- ==== Proof.FrameP.lean ====
/-
  The kernel as it runs, at the bit model: its body is the structured form with each named number at its printed word, so its
  run is the structured form's run.
-/
module

public import proofs.«01_k».proof.Defs
public import proofs.«01_k».proof.Proof.Gen.Kernel
public import proofs.«01_k».proof.Proof.Run
public import proofs.«01_k».proof.Proof.PlainEq
public import proofs.«01_k».proof.Proof.BitsEq

@[expose] public section

set_option maxRecDepth 65536

noncomputable section

open Idealize.ShloMosaic Idealize.ShloMosaic.TcCoe Idealize.SL.Sem

namespace Cert.KernelIdeal.Form

open Cert.KernelIdeal Cert.KernelIdeal.Gen

/-- The named numbers at their printed words. -/
local instance : Named Bits := words

/-- At a point the printed body is the structured one. -/
theorem same_bits (t : Fin cfg0.N) : bodyAt0 (F := Bits) t = bodyF t := by
  unfold bodyAt0 bodyF; exact bitsEq ..

/-- The two programs' body tables are one. -/
theorem defs₀_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => exact (plainEq ..).trans (bitsEq ..).symm

/-- The two programs' tables are one. -/
theorem defs_eq : Cert.Kernel.defs (F := Bits) = Cert.KernelIdeal.defs (F := Bits) := by
  unfold Cert.Kernel.defs Cert.KernelIdeal.defs
  exact congrArg (Pipeline.defs _) defs₀_eq

/-- The two programs' entries are one. -/
theorem main_eq' : Cert.Kernel.main (F := Bits) = Cert.KernelIdeal.main (F := Bits) := rfl

theorem frame_p : Cert.quiescent_Kernel := fun m ρ _ => by
  rw [defs_eq, main_eq']
  exact (θ_run Cert.KernelIdeal.defs _ _).mono (fun _ h => ⟨fun c => (h.1 c).2, h.2⟩) (run_value (F := Bits) m ρ same_bits)

end Cert.KernelIdeal.Form

end
-- ==== Proof.Units.lean ====
/-
  The two activations. The kernel writes each as a quotient by one plus a power of two; the reference writes the Gaussian unit
  by a hyperbolic tangent and the sigmoid-weighted unit by an exponential. On every extended real they are the same number.
-/
module

public import Idealize.ShloMosaic.PureOps.Ideal
public import Mathlib.Analysis.SpecialFunctions.Pow.Real
public import Mathlib.Analysis.SpecialFunctions.Trigonometric.DerivHyp

@[expose] public section

noncomputable section

namespace Cert.Units

open Idealize.ShloMosaic

/-- The tangent's scale: the float nearest to `√(2/π)`. -/
def c : ℝ := 6693141 / 8388608

/-- The cubic term's coefficient: the float nearest to `0.044715`. -/
def q : ℝ := 12003091 / 268435456

/-- `-2 c / log 2`. -/
def B : ℝ := -((2 * c) * (Real.log 2)⁻¹)

/-- `-1 / log 2`. -/
def N : ℝ := -((Real.log 2)⁻¹)

/-- The Gaussian unit, as the reference writes it. -/
def gelu (x : EReal) : EReal := x * (((1 / 2 : ℝ) : EReal) * (1 + Ideal.tanh ((c : EReal) * (x + (q : EReal) * (x * x * x)))))

/-- The sigmoid-weighted unit, as the reference writes it. -/
def silu (x : EReal) : EReal := x * Ideal.div 1 (1 + Ideal.exp (-x))

theorem log2_pos : 0 < Real.log 2 := Real.log_pos (by norm_num)

theorem c_pos : 0 < c := by unfold c; norm_num

theorem q_pos : 0 < q := by unfold q; norm_num

theorem B_neg : B < 0 := by
  have := log2_pos; have := c_pos
  unfold B; have : 0 < 2 * c * (Real.log 2)⁻¹ := by positivity
  linarith

theorem N_neg : N < 0 := by
  have := log2_pos
  unfold N; have : 0 < (Real.log 2)⁻¹ := by positivity
  linarith

theorem two_rpow (y : ℝ) : Real.rpow 2 y = Real.exp (Real.log 2 * y) := Real.rpow_def_of_pos (by norm_num) y

/-- A real quotient by one plus a positive number. -/
theorem div_real (x y : ℝ) (hy : 0 < y) : Ideal.div (x : EReal) (1 + (y : EReal)) = ((x / (1 + y) : ℝ) : EReal) := by
  have e : (1 + (y : EReal)) = ((1 + y : ℝ) : EReal) := by rw [EReal.coe_add, EReal.coe_one]
  rw [e, Ideal.div_coe (by positivity), ← EReal.coe_mul, mul_one_div]

theorem div_one (x : EReal) : Ideal.div x 1 = x := by
  have h := Ideal.div_coe (y := 1) one_ne_zero x
  rwa [EReal.coe_one, div_self (one_ne_zero : (1 : ℝ) ≠ 0), EReal.coe_one, mul_one] at h

theorem div_top (x : EReal) : Ideal.div x ⊤ = 0 := by
  unfold Ideal.div
  rw [if_neg (by simp), EReal.inv_top, mul_zero]

theorem tanh_half (w : ℝ) : 1 / 2 * (1 + Real.tanh w) = 1 / (1 + Real.exp (-(2 * w))) := by
  have h1 : 0 < Real.exp w := Real.exp_pos w
  have e1 : Real.exp (-(2 * w)) = (Real.exp w)⁻¹ * (Real.exp w)⁻¹ := by
    rw [← Real.exp_neg, ← Real.exp_add]; congr 1; ring
  rw [Real.tanh_eq_sinh_div_cosh, Real.sinh_eq, Real.cosh_eq, e1, Real.exp_neg]
  field_simp
  ring

/-- The two spellings of the Gaussian unit agree. -/
theorem gelu_eq (x : EReal) :
    Ideal.div x (1 + Ideal.exp2 (x * (((q * B : ℝ) : EReal) * (x * x) + (B : EReal)))) = gelu x := by
  have hA : q * B < 0 := mul_neg_of_pos_of_neg q_pos B_neg
  unfold gelu
  induction x with
  | bot =>
    rw [EReal.bot_mul_bot, EReal.coe_mul_top_of_neg hA, EReal.bot_add, EReal.bot_mul_bot, Ideal.exp2_top, EReal.top_mul_bot,
      EReal.coe_mul_bot_of_pos q_pos, EReal.bot_add, EReal.coe_mul_bot_of_pos c_pos, Ideal.tanh_bot]
    have e : (1 : EReal) + ⊤ = ⊤ := by rw [← EReal.coe_one]; exact EReal.coe_add_top 1
    have e' : (1 : EReal) + -1 = 0 := by rw [← EReal.coe_one, ← EReal.coe_neg, ← EReal.coe_add]; simp
    rw [e, div_top, e', mul_zero, mul_zero]
  | top =>
    rw [EReal.top_mul_top, EReal.coe_mul_top_of_neg hA, EReal.bot_add, EReal.top_mul_bot, Ideal.exp2_bot, EReal.top_mul_top,
      EReal.coe_mul_top_of_pos q_pos, EReal.top_add_top, EReal.coe_mul_top_of_pos c_pos, Ideal.tanh_top, add_zero, div_one]
    have e : (((1 / 2 : ℝ) : EReal) * (1 + 1)) = 1 := by
      rw [← EReal.coe_one, ← EReal.coe_add, ← EReal.coe_mul]; norm_num
    rw [e, mul_one]
  | coe r =>
    simp only [← EReal.coe_mul, ← EReal.coe_add, Ideal.exp2_coe, Ideal.tanh_coe]
    rw [div_real _ _ (show (0 : ℝ) < Real.rpow 2 _ from Real.rpow_pos_of_pos (by norm_num) _), ← EReal.coe_one, ← EReal.coe_add, ← EReal.coe_mul, ← EReal.coe_mul]
    congr 1
    rw [tanh_half, two_rpow]
    have e : Real.log 2 * (r * (q * B * (r * r) + B)) = -(2 * (c * (r + q * (r * r * r)))) := by
      have := log2_pos.ne'
      unfold B; field_simp; ring
    rw [e, mul_one_div]

/-- The two spellings of the sigmoid-weighted unit agree. -/
theorem silu_eq (x : EReal) : Ideal.div x (1 + Ideal.exp2 (x * (N : EReal))) = silu x := by
  unfold silu
  induction x with
  | bot =>
    have e : (1 : EReal) + ⊤ = ⊤ := by rw [← EReal.coe_one]; exact EReal.coe_add_top 1
    rw [EReal.bot_mul_coe_of_neg N_neg, Ideal.exp2_top, EReal.neg_bot, Ideal.exp_top, e, div_top, div_top, mul_zero]
  | top =>
    rw [EReal.top_mul_coe_of_neg N_neg, Ideal.exp2_bot, EReal.neg_top, Ideal.exp_bot, add_zero, div_one, div_one, mul_one]
  | coe r =>
    rw [← EReal.coe_mul, Ideal.exp2_coe, ← EReal.coe_neg, Ideal.exp_coe, div_real _ _ (show (0 : ℝ) < Real.rpow 2 _ from Real.rpow_pos_of_pos (by norm_num) _)]
    conv_rhs => rw [← EReal.coe_one]
    rw [EReal.coe_one]
    have h := div_real 1 _ (Real.exp_pos (-r))
    rw [EReal.coe_one] at h
    rw [h, ← EReal.coe_mul]
    congr 1
    rw [two_rpow]
    have e : Real.log 2 * (r * N) = -r := by
      have := log2_pos.ne'
      unfold N; field_simp
    rw [e, mul_one_div]

end Cert.Units

end
-- ==== Proof.Model.lean ====
/-
  The layer on extended reals, plainly: what a chunk of 128 rows becomes. Each row is scaled by its root mean square and
  projected to three halves; the middle half passes the Gaussian unit, is normalised along the row, and is mixed over the
  chunk's rows head by head; its product with the two other halves is projected back, scaled, and added to the row.
-/
module

public import proofs.«01_k».proof.Proof.Units
public import Idealize.ShloMosaic.Lib.Pointwise.Index

@[expose] public section

noncomputable section

namespace Cert.Model

open Idealize.ShloMosaic Cert.Units

/-- `1024.0`, `2048.0` and the small number under each root, by their words. -/
def n1024 : EReal := Ideal.ofBits .f32 0x44800000#32
def n2048 : EReal := Ideal.ofBits .f32 0x45000000#32
def eps : EReal := Ideal.ofBits .f32 0x358637BD#32

/-- The layer's weights: two gains, the input projection, the heads' mixing matrices and biases, the middle half's gain and
    bias, the output projection. -/
structure Weights where
  g1 : Fin 1024 → EReal
  g3 : Fin 1024 → EReal
  win : Fin 1024 → Fin 6144 → EReal
  ws : Fin 16 → Fin 128 → Fin 128 → EReal
  bs : Fin 16 → Fin 128 → EReal
  vg : Fin 2048 → EReal
  vb : Fin 2048 → EReal
  wo : Fin 2048 → Fin 1024 → EReal

/-- A row over the root of its mean square, times a gain. -/
def rms (x g : Fin 1024 → EReal) (d : Fin 1024) : EReal :=
  x d * Ideal.rsqrt (Ideal.div (∑ k : Fin 1024, x k * x k) n1024 + eps) * g d

/-- A row's projection. -/
def pre (P : Weights) (x : Fin 1024 → EReal) (c : Fin 6144) : EReal := ∑ k : Fin 1024, rms x P.g1 k * P.win k c

/-- Column `j` of each half. -/
def colU (j : Fin 2048) : Fin 6144 := ⟨j.val, by omega⟩
def colV (j : Fin 2048) : Fin 6144 := ⟨2048 + j.val, by omega⟩
def colG (j : Fin 2048) : Fin 6144 := ⟨4096 + j.val, by omega⟩

/-- The middle half, centred along the row. -/
def cent (P : Weights) (x : Fin 1024 → EReal) (j : Fin 2048) : EReal :=
  gelu (pre P x (colV j)) - Ideal.div (∑ k : Fin 2048, gelu (pre P x (colV k))) n2048

/-- A centred row over the root of its mean square, with a gain and a bias. -/
def norm (v g b : Fin 2048 → EReal) (j : Fin 2048) : EReal :=
  v j * Ideal.rsqrt (Ideal.div (∑ k : Fin 2048, v k * v k) n2048 + eps) * g j + b j

/-- The middle half, normalised. -/
def vn (P : Weights) (x : Fin 1024 → EReal) (j : Fin 2048) : EReal := norm (cent P x) P.vg P.vb j

/-- The head of a column. -/
def head (j : Fin 2048) : Fin 16 := ⟨j.val / 128, by omega⟩

/-- The middle half mixed over the chunk's rows. -/
def mix (P : Weights) (X : Fin 128 → Fin 1024 → EReal) (t : Fin 128) (j : Fin 2048) : EReal :=
  (∑ s : Fin 128, P.ws (head j) t s * vn P (X s) j) + P.bs (head j) t

/-- The product of the three halves. -/
def gate (P : Weights) (X : Fin 128 → Fin 1024 → EReal) (t : Fin 128) (j : Fin 2048) : EReal :=
  gelu (pre P (X t) (colU j)) * silu (pre P (X t) (colG j)) * mix P X t j

/-- Its projection back. -/
def proj (P : Weights) (X : Fin 128 → Fin 1024 → EReal) (t : Fin 128) (d : Fin 1024) : EReal :=
  ∑ j : Fin 2048, gate P X t j * P.wo j d

/-- The chunk's result. -/
def res (P : Weights) (X : Fin 128 → Fin 1024 → EReal) (t : Fin 128) (d : Fin 1024) : EReal :=
  X t d + rms (proj P X t) P.g3 d

/-- The weights, from the argument arrays. -/
def weights (a1 a2 : (⟨2, ![2, 1024]⟩ : Shape).Idx → EReal) (a3 : (⟨3, ![1, 1024, 6144]⟩ : Shape).Idx → EReal)
    (a4 : (⟨4, ![1, 16, 128, 128]⟩ : Shape).Idx → EReal) (a5 : (⟨3, ![1, 16, 128]⟩ : Shape).Idx → EReal)
    (a6 a7 : (⟨2, ![1, 2048]⟩ : Shape).Idx → EReal) (a8 : (⟨3, ![1, 2048, 1024]⟩ : Shape).Idx → EReal) : Weights where
  g1 d := a1 (ix2 0 d)
  g3 d := a2 (ix2 0 d)
  win k c := a3 (ix3 0 k c)
  ws h t s := a4 (ix4 0 h t s)
  bs h t := a5 (ix3 0 h t)
  vg j := a6 (ix2 0 j)
  vb j := a7 (ix2 0 j)
  wo j d := a8 (ix3 0 j d)

/-- The chunk of rows that row `i` of sequence `b` lies in. -/
def chunk (a0 : (⟨3, ![2, 8192, 1024]⟩ : Shape).Idx → EReal) (b : Fin 2) (i : Fin 8192) (s : Fin 128) (d : Fin 1024) : EReal :=
  a0 (ix3 b ⟨128 * (i.val / 128) + s.val, by omega⟩ d)

/-- The layer's result at row `i` of sequence `b`. -/
def layer (P : Weights) (a0 : (⟨3, ![2, 8192, 1024]⟩ : Shape).Idx → EReal) (b : Fin 2) (i : Fin 8192) (d : Fin 1024) : EReal :=
  res P (chunk a0 b i) ⟨i.val % 128, Nat.mod_lt _ (by decide)⟩ d

/-- The layer's result, its two sequences' rows one after another. -/
def flat (P : Weights) (a0 : (⟨3, ![2, 8192, 1024]⟩ : Shape).Idx → EReal) : (⟨2, ![16384, 1024]⟩ : Shape).Idx → EReal := fun x =>
  layer P a0 ⟨(x 0).val / 8192, by have h : (x 0).val < 16384 := (x 0).isLt; omega⟩ ⟨(x 0).val % 8192, Nat.mod_lt _ (by decide)⟩ (x 1)

end Cert.Model

end
-- ==== Proof.Consts.lean ====
/-
  The float constants the programs spell, as the extended reals their words denote.
-/
module

public import Idealize.ShloMosaic.PureOps.Ideal

@[expose] public section

noncomputable section

namespace Cert.Consts

open Idealize.ShloMosaic

/-- `1.0`. -/
theorem one : Ideal.ofBits .f32 0x3F800000#32 = (1 : EReal) := by
  simp [Ideal.ofBits, Ideal.ieee, -EReal.coe_mul]; norm_num

/-- `0.5`. -/
theorem half : Ideal.ofBits .f32 0x3F000000#32 = (((1 : ℝ) / 2 : ℝ) : EReal) := by
  simp [Ideal.ofBits, Ideal.ieee, -EReal.coe_mul]; norm_num

/-- `0.0`. -/
theorem zero : Ideal.ofBits .f32 0x00000000#32 = (0 : EReal) := by
  simp [Ideal.ofBits, Ideal.ieee]

/-- The tangent's scale. -/
theorem scale : Ideal.ofBits .f32 0x3F4C422A#32 = (((6693141 : ℝ) / 8388608 : ℝ) : EReal) := by
  simp [Ideal.ofBits, Ideal.ieee, -EReal.coe_mul]; norm_num

/-- The cubic term's coefficient. -/
theorem cubic : Ideal.ofBits .f32 0x3D372713#32 = (((12003091 : ℝ) / 268435456 : ℝ) : EReal) := by
  simp [Ideal.ofBits, Ideal.ieee, -EReal.coe_mul]; norm_num

end Cert.Consts

end
-- ==== Proof.Stages.lean ====
/-
  The kernel's vector values, read at an index: each is the layer's number there.
-/
module

public import proofs.«01_k».proof.Proof.Compute
public import proofs.«01_k».proof.Proof.Model
public import proofs.«01_k».proof.Proof.Consts
public import Idealize.ShloMosaic.Lib.Pointwise

@[expose] public section

set_option maxRecDepth 16384

noncomputable section

namespace Cert.KernelIdeal.Stages

open Cert.KernelIdeal Cert.KernelIdeal.Gen Cert.KernelIdeal.Form
open Idealize.ShloMosaic

theorem geluV_at {s : Shape} (x : FVec Ideal s .f32) (i : s.Idx) : geluV x i = Units.gelu (x i) := by
  rw [← Units.gelu_eq]
  unfold geluV
  pointwise
  rfl

theorem siluV_at {s : Shape} (x : FVec Ideal s .f32) (i : s.Idx) : siluV x i = Units.silu (x i) := by
  rw [← Units.silu_eq]
  unfold siluV
  pointwise
  rfl

theorem rms_at (x : FVec Ideal S512x1024 .f32) (g : FVec Ideal S1x1024 .f32) (r : Fin 512) (d : Fin 1024) :
    rms x g (ix2 r d) = Model.rms (fun k => x (ix2 r k)) (fun k => g (ix2 0 k)) d := by
  unfold Model.rms
  pointwise [rms]
  rfl

theorem vcent_at (h : FVec Ideal S512x1024 .bf16) (w : FVec Ideal S1024x2048 .bf16) (r : Fin 512) (j : Fin 2048) :
    vcent h w (ix2 r j) = Units.gelu (∑ k : Fin 1024, h (ix2 r k) * w (ix2 k j))
      - Ideal.div (∑ l : Fin 2048, Units.gelu (∑ k : Fin 1024, h (ix2 r k) * w (ix2 k l))) Model.n2048 := by
  pointwise [vcent, geluV_at]
  rfl

theorem vnorm_at (v : FVec Ideal S512x2048 .f32) (g b : FVec Ideal S1x2048 .f32) (r : Fin 512) (j : Fin 2048) :
    vnorm v g b (ix2 r j) = Model.norm (fun k => v (ix2 r k)) (fun k => g (ix2 0 k)) (fun k => b (ix2 0 k)) j := by
  unfold Model.norm
  pointwise [vnorm]
  rfl

theorem ugV_at (h : FVec Ideal S512x1024 .bf16) (w : FVec Ideal S1024x512 .bf16) (r : Fin 512) (l : Fin 256) :
    ugV h w (ix2 r l) = Units.gelu (∑ k : Fin 1024, h (ix2 r k) * w (ix2 k ⟨l.val, by omega⟩))
      * Units.silu (∑ k : Fin 1024, h (ix2 r k) * w (ix2 k ⟨256 + l.val, by omega⟩)) := by
  pointwise [ugV, geluV_at, siluV_at]

theorem sub2_at {α : Type} {n m h w : ℕ} (hn : 0 < n) (hm : 0 < m) (X : (⟨2, ![n, m]⟩ : Shape).Idx → α) (r d : ℕ) (i : Fin h) (j : Fin w)
    (a : Fin n) (b : Fin m) (ha : (r + i.val) % n = a.val) (hb : (d + j.val) % m = b.val) :
    sub2 h w hn hm X r d (ix2 i j) = X (ix2 a b) := by
  unfold sub2
  rw [← ix2_eq_valueIdx]
  exact congrArg X (congrArg₂ ix2 (Fin.ext ha) (Fin.ext hb))

theorem sub3_at {α : Type} (X : S16x128x128.Idx → α) (k : Fin 16) (z : Fin 1) (i j : Fin 128) :
    sub3 X k.val (ix3 z i j) = X (ix3 k i j) := by
  refine (congrArg X (ix3_eq_valueIdx (⟨k.val % 16, Nat.mod_lt _ (by decide)⟩ : Fin 16) i j).symm).trans ?_
  exact congrArg X (congrArg (fun a => ix3 a i j) (Fin.ext (Nat.mod_eq_of_lt k.isLt)))

/-- One block taken whole. -/
theorem sub2_whole {α : Type} {n m : ℕ} (hn : 0 < n) (hm : 0 < m) (X : (⟨2, ![n, m]⟩ : Shape).Idx → α) : sub2 n m hn hm X 0 0 = X := by
  funext x
  obtain ⟨i, j, rfl⟩ : ∃ i j, x = ix2 i j := ⟨x 0, x 1, by funext a; match a with | ⟨0, _⟩ => rfl | ⟨1, _⟩ => rfl⟩
  exact sub2_at hn hm X 0 0 i j i j (by rw [Nat.zero_add]; exact Nat.mod_eq_of_lt i.isLt) (by rw [Nat.zero_add]; exact Nat.mod_eq_of_lt j.isLt)

theorem mixV_at (ws : FVec Ideal S1x128x128 .f32) (a b c d : FVec Ideal S128x128 .bf16) (t : Fin 128) (o : Fin 512) :
    mixV ws a b c d (ix2 t o) = ∑ s : Fin 128, ws (ix3 0 t s) * (if h : o.val < 128 then a (ix2 s ⟨o.val, h⟩)
      else if h : o.val - 128 < 128 then b (ix2 s ⟨o.val - 128, h⟩)
      else if h : o.val - 128 - 128 < 128 then c (ix2 s ⟨o.val - 128 - 128, h⟩)
      else d (ix2 s ⟨o.val - 128 - 128 - 128, by omega⟩)) := by
  pointwise [mixV]

/-- Head `k`'s mix at row block `q`, column `l`. -/
theorem headV_at (V : FVec Ideal S512x2048 .bf16) (ws : FVec Ideal S16x128x128 .f32) (k : Fin 16) (t : Fin 128) (q : ℕ) (hq : q < 4) (l : Fin 128)
    (o : Fin 512) (ho : o.val = 128 * q + l.val) :
    headV V ws k.val (ix2 t o) = ∑ s : Fin 128, ws (ix3 k t s) * V (ix2 ⟨128 * q + s.val, by omega⟩ ⟨128 * k.val + l.val, by omega⟩) := by
  unfold headV
  rw [mixV_at]
  refine Finset.sum_congr rfl fun s _ => ?_
  rw [sub3_at]
  refine congrArg (ws (ix3 k t s) * ·) ?_
  have hl := l.isLt
  have hs := s.isLt
  have hk := k.isLt
  by_cases h0 : o.val < 128
  · rw [dif_pos h0]
    exact sub2_at _ _ V _ _ _ _ _ _ (by show (0 + s.val) % 512 = 128 * q + s.val; omega) (by show (128 * k.val + o.val) % 2048 = 128 * k.val + l.val; omega)
  rw [dif_neg h0]
  by_cases h1 : o.val - 128 < 128
  · rw [dif_pos h1]
    exact sub2_at _ _ V _ _ _ _ _ _ (by show (128 + s.val) % 512 = 128 * q + s.val; omega) (by show (128 * k.val + (o.val - 128)) % 2048 = 128 * k.val + l.val; omega)
  rw [dif_neg h1]
  by_cases h2 : o.val - 128 - 128 < 128
  · rw [dif_pos h2]
    exact sub2_at _ _ V _ _ _ _ _ _ (by show (256 + s.val) % 512 = 128 * q + s.val; omega) (by show (128 * k.val + (o.val - 128 - 128)) % 2048 = 128 * k.val + l.val; omega)
  rw [dif_neg h2]
  exact sub2_at _ _ V _ _ _ _ _ _ (by show (384 + s.val) % 512 = 128 * q + s.val; omega) (by show (128 * k.val + (o.val - 128 - 128 - 128)) % 2048 = 128 * k.val + l.val; omega)

/-- The rows scaled. -/
theorem hV_at (x : FVec Ideal S512x1024 .f32) (g : FVec Ideal S1x1024 .f32) (r : Fin 512) (d : Fin 1024) :
    hV x g (ix2 r d) = Model.rms (fun k => x (ix2 r k)) (fun k => g (ix2 0 k)) d := by
  unfold hV
  rw [truncf_apply, Ideal.truncf_def, rms_at, shapeCast_self, shapeCast_self]

/-! ## A block of 512 rows

  `P` are the weights, `x` the block's rows; the resident input weight `Wr` holds the projection's columns permuted. -/

section block

variable (P : Model.Weights) (x : FVec Ideal S512x1024 .f32) (g g3 : FVec Ideal S1x1024 .f32) (ws bs : FVec Ideal S16x128x128 .f32)
  (vg vb : FVec Ideal S1x2048 .f32) (Wr : S1024x6144.Idx → EReal) (Wo : S2048x1024.Idx → EReal)

/-- Row `r` of the block. -/
def rowOf (r : Fin 512) (d : Fin 1024) : EReal := x (ix2 r d)

/-- The chunk that row `r` lies in. -/
def chunkOf (r : Fin 512) (s : Fin 128) (d : Fin 1024) : EReal := x (ix2 ⟨128 * (r.val / 128) + s.val, by omega⟩ d)

/-- The arrays hold the weights. -/
structure Holds : Prop where
  g1 : ∀ d, g (ix2 0 d) = P.g1 d
  g3 : ∀ d, g3 (ix2 0 d) = P.g3 d
  win : ∀ k c, Wr (ix2 k c) = P.win k ⟨perm c.val % 6144, Nat.mod_lt _ (by decide)⟩
  ws : ∀ h t s, ws (ix3 h t s) = P.ws h t s
  bs : ∀ h t s, bs (ix3 h t s) = P.bs h t
  vg : ∀ j, vg (ix2 0 j) = P.vg j
  vb : ∀ j, vb (ix2 0 j) = P.vb j
  wo : ∀ j d, Wo (ix2 j d) = P.wo j d

variable {P x g g3 ws bs vg vb Wr Wo}

theorem h_at (H : Holds P g g3 ws bs vg vb Wr Wo) (r : Fin 512) (d : Fin 1024) : hV x g (ix2 r d) = Model.rms (rowOf x r) P.g1 d := by
  rw [hV_at, show (fun k => g (ix2 0 k)) = P.g1 from funext H.g1]
  rfl

/-- The projection's column `c` through a block of the resident weight whose column `l` holds it. -/
theorem pre_at (H : Holds P g g3 ws bs vg vb Wr Wo) (r : Fin 512) (f : Fin 1024 → EReal) (c : Fin 6144)
    (hf : ∀ k, f k = P.win k c) : ∑ k : Fin 1024, hV x g (ix2 r k) * f k = Model.pre P (rowOf x r) c := by
  unfold Model.pre
  exact Finset.sum_congr rfl fun k _ => by rw [h_at H, hf]

theorem v_at (H : Holds P g g3 ws bs vg vb Wr Wo) (r : Fin 512) (j : Fin 2048) : vV (hV x g) Wr vg vb (ix2 r j) = Model.vn P (rowOf x r) j := by
  have key : ∀ j : Fin 2048, ∑ k : Fin 1024, hV x g (ix2 r k) * sub2 1024 2048 (by decide) (by decide) Wr 0 0 (ix2 k j) = Model.pre P (rowOf x r) (Model.colV j) := by
    intro j
    refine pre_at H r _ _ fun k => ?_
    have hj := j.isLt
    have hk := k.isLt
    rw [sub2_at (by decide) (by decide) Wr 0 0 k j k ⟨j.val, by omega⟩ (by omega) (by show (0 + j.val) % 6144 = j.val; omega), H.win]
    refine congrArg (P.win k) (Fin.ext ?_)
    show perm j.val % 6144 = 2048 + j.val
    unfold perm
    rw [if_pos hj]; omega
  unfold vV Model.vn
  rw [vnorm_at, sub2_whole, sub2_whole, show (fun k => vg (ix2 0 k)) = P.vg from funext H.vg, show (fun k => vb (ix2 0 k)) = P.vb from funext H.vb]
  refine congrArg (fun v => Model.norm v P.vg P.vb j) (funext fun k => ?_)
  rw [vcent_at]
  simp only [key]
  rfl

theorem u_at (H : Holds P g g3 ws bs vg vb Wr Wo) (r : Fin 512) (j : Fin 2048) : uV (hV x g) Wr (ix2 r j)
    = Units.gelu (Model.pre P (rowOf x r) (Model.colU j)) * Units.silu (Model.pre P (rowOf x r) (Model.colG j)) := by
  have hj := j.isLt
  unfold uV
  refine (congrArg (ugV (hV x g) (sub2 1024 512 (by decide) (by decide) Wr 0 (2048 + 512 * (j.val / 256))))
    (ix2_eq_valueIdx r (⟨j.val % 256, Nat.mod_lt _ (by decide)⟩ : Fin 256)).symm).trans ?_
  refine (ugV_at _ _ _ _).trans ?_
  refine congrArg₂ (· * ·) (congrArg Units.gelu (pre_at H r _ _ fun k => ?_)) (congrArg Units.silu (pre_at H r _ _ fun k => ?_))
  · rw [sub2_at (by decide) (by decide) Wr 0 _ k _ k ⟨2048 + 512 * (j.val / 256) + j.val % 256, by omega⟩ (by omega) (by show (2048 + 512 * (j.val / 256) + j.val % 256) % 6144 = 2048 + 512 * (j.val / 256) + j.val % 256; omega), H.win]
    refine congrArg (P.win k) (Fin.ext ?_)
    show perm (2048 + 512 * (j.val / 256) + j.val % 256) % 6144 = j.val
    unfold perm
    rw [if_neg (by omega), if_neg (by omega)]; omega
  · rw [sub2_at (by decide) (by decide) Wr 0 _ k _ k ⟨2048 + 512 * (j.val / 256) + (256 + j.val % 256), by omega⟩ (by omega) (by show (2048 + 512 * (j.val / 256) + (256 + j.val % 256)) % 6144 = 2048 + 512 * (j.val / 256) + (256 + j.val % 256); omega), H.win]
    refine congrArg (P.win k) (Fin.ext ?_)
    show perm (2048 + 512 * (j.val / 256) + (256 + j.val % 256)) % 6144 = 4096 + j.val
    unfold perm
    rw [if_neg (by omega), if_pos (by omega)]; omega

theorem g_at (H : Holds P g g3 ws bs vg vb Wr Wo) (r : Fin 512) (j : Fin 2048) :
    gV (vV (hV x g) Wr vg vb) (uV (hV x g) Wr) ws bs (ix2 r j) = Model.gate P (chunkOf x r) ⟨r.val % 128, Nat.mod_lt _ (by decide)⟩ j := by
  have hj := j.isLt
  have hr := r.isLt
  unfold gV Model.gate Model.mix
  simp only [← ix2_eq_valueIdx, ← ix3_eq_valueIdx]
  rw [Ideal.truncf_def, Ideal.mulf_def, Ideal.addf_def, u_at H]
  have hrow : chunkOf x r ⟨r.val % 128, Nat.mod_lt _ (by decide)⟩ = rowOf x r := by
    funext d
    exact congrArg (fun a => x (ix2 a d)) (Fin.ext (by show 128 * (r.val / 128) + r.val % 128 = r.val; omega))
  rw [hrow]
  refine congrArg₂ (· * ·) rfl (congrArg₂ (· + ·) ?_ ?_)
  · refine (headV_at _ ws (Model.head j) _ (r.val / 128) (by omega) ⟨j.val % 128, by omega⟩ _ (by show (128 * (r.val / 128) + j.val % 128) % 512 = 128 * (r.val / 128) + j.val % 128; omega)).trans ?_
    refine Finset.sum_congr rfl fun s _ => congrArg₂ (· * ·) (H.ws _ _ _) ?_
    rw [show (⟨128 * (Model.head j).val + j.val % 128, by show 128 * (j.val / 128) + j.val % 128 < 2048; omega⟩ : Fin 2048) = j from Fin.ext (by show 128 * (j.val / 128) + j.val % 128 = j.val; omega), v_at H]
    rfl
  · exact (sub3_at bs (Model.head j) _ _ _).trans (H.bs _ _ _)

/-- What the block becomes. -/
theorem block_at (H : Holds P g g3 ws bs vg vb Wr Wo) (r : Fin 512) (d : Fin 1024) :
    oV x (gV (vV (hV x g) Wr vg vb) (uV (hV x g) Wr) ws bs) Wo g3 (ix2 r d) = Model.res P (chunkOf x r) ⟨r.val % 128, Nat.mod_lt _ (by decide)⟩ d := by
  have hr := r.isLt
  unfold oV Model.res
  rw [sub2_whole, sub2_whole, sub2_whole, shapeCast_self, shapeCast_self, addf_apply, Ideal.addf_def, rms_at]
  refine congrArg₂ (· + ·) (congrArg (fun a => x (ix2 a d)) (Fin.ext (by show r.val = 128 * (r.val / 128) + r.val % 128; omega))) ?_
  rw [show (fun k => g3 (ix2 0 k)) = P.g3 from funext H.g3]
  refine congrArg (fun v => Model.rms v P.g3 d) (funext fun k => ?_)
  unfold Model.proj
  pointwise
  refine Finset.sum_congr rfl fun j _ => ?_
  rw [g_at H, H.wo]

end block

end Cert.KernelIdeal.Stages

end
-- ==== Proof.Arrays.lean ====
/-
  The result array of the kernel after its run: the layer of the argument arrays.
-/
module

public import proofs.«01_k».proof.Proof.Run
public import proofs.«01_k».proof.Proof.Stages
public import Idealize.ShloMosaic.Lib.Claim

@[expose] public section

set_option maxRecDepth 16384

noncomputable section

namespace Cert.KernelIdeal.Arrays

open Cert.KernelIdeal Cert.KernelIdeal.Gen Cert.KernelIdeal.Form Cert.KernelIdeal.Stages
open Idealize.ShloMosaic Idealize.ShloMosaic.TcCoe Idealize.ShloMosaic.Tactic
open Idealize.SL.Sem
open Idealize.ShloMosaic.Pipeline (Dat Cfg Window)

/-! ## The arrays the call reads, from the arguments -/

section launch

variable {F : FTy → Type} [FloatOps F] [Named F]
variable (m : (ℓ : Loc nD τ sig) → Buf (Elt F) ℓ)

theorem V_v2 (c : Dev nD) : V m c main_v2 = broadcastInDim S16x128x128 ![0, 1, 2] bcast_S16x128x1_S16x128x128_0_1_2
    (broadcastInDim S16x128x1 ![0, 1] bcast_S16x128_S16x128x1_0_1 (shapeCast S16x128 (m ((c : Thread nD τ).loc main_arg5)) shapeCasts_S1x16x128_S16x128)) := by
  unfold_abbrev_sides
  after_results_simp <;> rfl

theorem V_v3 (c : Dev nD) : V m c main_v3 = shapeCast S16384x1024 (m ((c : Thread nD τ).loc main_arg0)) shapeCasts_S2x8192x1024_S16384x1024 := by
  unfold_abbrev_sides
  after_results_simp <;> rfl

theorem V_v4 (c : Dev nD) : V m c main_v4 = extractStridedSlice S1x1024 ![0, 0] (m ((c : Thread nD τ).loc main_arg1)) slices_S2x1024_S1x1024_0_0 := by
  unfold_abbrev_sides
  after_results_simp <;> rfl

theorem V_v5 (c : Dev nD) : V m c main_v5 = extractStridedSlice S1x1024 ![0, 0] (m ((c : Thread nD τ).loc main_arg2)) slices_S2x1024_S1x1024_0_0 := by
  unfold_abbrev_sides
  after_results_simp <;> rfl

theorem V_v6 (c : Dev nD) : V m c main_v6 = shapeCast S16x128x128 (m ((c : Thread nD τ).loc main_arg4)) shapeCasts_S1x16x128x128_S16x128x128 := by
  unfold_abbrev_sides
  after_results_simp <;> rfl

end launch

/-! ## Those arrays at an index -/

section reads

theorem row_at (v : Vec Ideal S2x1024 .f32) (d : Fin 1024) : extractStridedSlice S1x1024 ![0, 0] v slices_S2x1024_S1x1024_0_0 (ix2 0 d) = v (ix2 0 d) := by pointwise

theorem heads_at (v : Vec Ideal S1x16x128x128 .f32) (h : Fin 16) (i s : Fin 128) : shapeCast S16x128x128 v shapeCasts_S1x16x128x128_S16x128x128 (ix3 h i s) = v (ix4 0 h i s) := by
  pointwise

theorem bias_at (v : Vec Ideal S1x16x128 .f32) (h : Fin 16) (i s : Fin 128) :
    broadcastInDim S16x128x128 ![0, 1, 2] bcast_S16x128x1_S16x128x128_0_1_2 (broadcastInDim S16x128x1 ![0, 1] bcast_S16x128_S16x128x1_0_1 (shapeCast S16x128 v shapeCasts_S1x16x128_S16x128)) (ix3 h i s)
      = v (ix3 0 h i) := by
  pointwise

/-- Row `R` of the flat input is row `R % 8192` of example `R / 8192`. -/
theorem flat_at (v : Vec Ideal S2x8192x1024 .f32) (R : Fin 16384) (d : Fin 1024) : shapeCast S16384x1024 v shapeCasts_S2x8192x1024_S16384x1024 (ix2 R d)
    = v (ix3 ⟨R.val / 8192, by have := R.isLt; omega⟩ ⟨R.val % 8192, Nat.mod_lt _ (by decide)⟩ d) := by
  refine shapeCast_apply _ _ _ _ ?_
  refine (Shape.rowMajor_val_three ..).trans (Eq.trans ?_ (Shape.rowMajor_val_two ..).symm)
  have := R.isLt
  have := d.isLt
  show (R.val / 8192 * 8192 + R.val % 8192) * 1024 + d.val = R.val * 1024 + d.val
  omega

/-- The first of the projection's loaded weights, at an index. -/
theorem resIn_at (X : Vec Ideal S1x1024x6144 .f32) (k : Fin 1024) (e : Fin 6144) : resIn (F := Ideal) X (ix2 k e) = X (ix3 0 k ⟨perm e.val % 6144, Nat.mod_lt _ (by decide)⟩) := by
  have he := e.isLt
  have hp : perm e.val < 6144 := by unfold perm; split_ifs <;> omega
  show atRC (F := Ideal) (n := 1024) (w := 6144) X k.val (perm e.val) = _
  unfold atRC
  rw [dif_pos ⟨k.isLt, hp⟩, ← ix3_eq_valueIdx]
  exact congrArg (fun j => X (ix3 0 k j)) (Fin.ext (Nat.mod_eq_of_lt hp).symm)

theorem resOut_at (X : Vec Ideal S1x2048x1024 .f32) (j : Fin 2048) (d : Fin 1024) : resOut (F := Ideal) X (ix2 j d) = X (ix3 0 j d) := by
  show atRC (F := Ideal) (n := 2048) (w := 1024) X j.val d.val = _
  unfold atRC
  rw [dif_pos ⟨j.isLt, d.isLt⟩, ← ix3_eq_valueIdx]

end reads

/-! ## The windows' blocks -/

theorem index0 : ∀ t : Fin cfg0.N, win0_0.index t (0 : Fin 2) = t.val ∧ win0_0.index t (1 : Fin 2) = 0 := (by decide +kernel : ∀ t : Fin grid0.N, _)
theorem index1 : ∀ t : Fin cfg0.N, win0_1.index t (0 : Fin 2) = 0 ∧ win0_1.index t (1 : Fin 2) = 0 := (by decide +kernel : ∀ t : Fin grid0.N, _)
theorem index2 : ∀ t : Fin cfg0.N, win0_2.index t (0 : Fin 2) = 0 ∧ win0_2.index t (1 : Fin 2) = 0 := (by decide +kernel : ∀ t : Fin grid0.N, _)
theorem index3 : ∀ t : Fin cfg0.N, win0_3.index t (0 : Fin 3) = 0 ∧ win0_3.index t (1 : Fin 3) = 0 ∧ win0_3.index t (2 : Fin 3) = 0 := (by decide +kernel : ∀ t : Fin grid0.N, _)
theorem index4 : ∀ t : Fin cfg0.N, win0_4.index t (0 : Fin 3) = 0 ∧ win0_4.index t (1 : Fin 3) = 0 ∧ win0_4.index t (2 : Fin 3) = 0 := (by decide +kernel : ∀ t : Fin grid0.N, _)
theorem index5 : ∀ t : Fin cfg0.N, win0_5.index t (0 : Fin 2) = 0 ∧ win0_5.index t (1 : Fin 2) = 0 := (by decide +kernel : ∀ t : Fin grid0.N, _)
theorem index6 : ∀ t : Fin cfg0.N, win0_6.index t (0 : Fin 2) = 0 ∧ win0_6.index t (1 : Fin 2) = 0 := (by decide +kernel : ∀ t : Fin grid0.N, _)
theorem index7 : ∀ t : Fin cfg0.N, win0_7.index t (0 : Fin 2) = t.val ∧ win0_7.index t (1 : Fin 2) = 0 := (by decide +kernel : ∀ t : Fin grid0.N, _)

/-- The array's row of row `r` of point `t`'s block. -/
def rowAt (t : Fin cfg0.N) (r : Fin 512) : Fin 16384 := ⟨512 * t.val + r.val, by have h : t.val < 32 := t.isLt; omega⟩

theorem emb0 (t : Fin cfg0.N) (r : Fin 512) (d : Fin 1024) : ((cfg0.win 0).blk t).view.emb (ix2 r d) = ix2 (rowAt t r) d := by
  obtain ⟨e0, e1⟩ := index0 t
  funext a; apply Fin.ext
  match a with
  | ⟨0, _⟩ => show win0_0.index t (0 : Fin 2) * 512 + 1 * r.val = 512 * t.val + r.val; omega
  | ⟨1, _⟩ => show win0_0.index t (1 : Fin 2) * 1024 + 1 * d.val = d.val; omega

theorem emb7 (t : Fin cfg0.N) (r : Fin 512) (d : Fin 1024) : ((cfg0.win 7).blk t).view.emb (ix2 r d) = ix2 (rowAt t r) d := by
  obtain ⟨e0, e1⟩ := index7 t
  funext a; apply Fin.ext
  match a with
  | ⟨0, _⟩ => show win0_7.index t (0 : Fin 2) * 512 + 1 * r.val = 512 * t.val + r.val; omega
  | ⟨1, _⟩ => show win0_7.index t (1 : Fin 2) * 1024 + 1 * d.val = d.val; omega

theorem emb1 (t : Fin cfg0.N) (j : S1x1024.Idx) : ((cfg0.win 1).blk t).view.emb j = j := by
  obtain ⟨e0, e1⟩ := index1 t
  funext a; apply Fin.ext
  match a with
  | ⟨0, _⟩ => show win0_1.index t (0 : Fin 2) * 1 + 1 * (j 0).val = (j 0).val; omega
  | ⟨1, _⟩ => show win0_1.index t (1 : Fin 2) * 1024 + 1 * (j 1).val = (j 1).val; omega

theorem emb2 (t : Fin cfg0.N) (j : S1x1024.Idx) : ((cfg0.win 2).blk t).view.emb j = j := by
  obtain ⟨e0, e1⟩ := index2 t
  funext a; apply Fin.ext
  match a with
  | ⟨0, _⟩ => show win0_2.index t (0 : Fin 2) * 1 + 1 * (j 0).val = (j 0).val; omega
  | ⟨1, _⟩ => show win0_2.index t (1 : Fin 2) * 1024 + 1 * (j 1).val = (j 1).val; omega

theorem emb3 (t : Fin cfg0.N) (j : S16x128x128.Idx) : ((cfg0.win 3).blk t).view.emb j = j := by
  obtain ⟨e0, e1, e2⟩ := index3 t
  funext a; apply Fin.ext
  match a with
  | ⟨0, _⟩ => show win0_3.index t (0 : Fin 3) * 16 + 1 * (j 0).val = (j 0).val; omega
  | ⟨1, _⟩ => show win0_3.index t (1 : Fin 3) * 128 + 1 * (j 1).val = (j 1).val; omega
  | ⟨2, _⟩ => show win0_3.index t (2 : Fin 3) * 128 + 1 * (j 2).val = (j 2).val; omega

theorem emb4 (t : Fin cfg0.N) (j : S16x128x128.Idx) : ((cfg0.win 4).blk t).view.emb j = j := by
  obtain ⟨e0, e1, e2⟩ := index4 t
  funext a; apply Fin.ext
  match a with
  | ⟨0, _⟩ => show win0_4.index t (0 : Fin 3) * 16 + 1 * (j 0).val = (j 0).val; omega
  | ⟨1, _⟩ => show win0_4.index t (1 : Fin 3) * 128 + 1 * (j 1).val = (j 1).val; omega
  | ⟨2, _⟩ => show win0_4.index t (2 : Fin 3) * 128 + 1 * (j 2).val = (j 2).val; omega

theorem emb5 (t : Fin cfg0.N) (j : S1x2048.Idx) : ((cfg0.win 5).blk t).view.emb j = j := by
  obtain ⟨e0, e1⟩ := index5 t
  funext a; apply Fin.ext
  match a with
  | ⟨0, _⟩ => show win0_5.index t (0 : Fin 2) * 1 + 1 * (j 0).val = (j 0).val; omega
  | ⟨1, _⟩ => show win0_5.index t (1 : Fin 2) * 2048 + 1 * (j 1).val = (j 1).val; omega

theorem emb6 (t : Fin cfg0.N) (j : S1x2048.Idx) : ((cfg0.win 6).blk t).view.emb j = j := by
  obtain ⟨e0, e1⟩ := index6 t
  funext a; apply Fin.ext
  match a with
  | ⟨0, _⟩ => show win0_6.index t (0 : Fin 2) * 1 + 1 * (j 0).val = (j 0).val; omega
  | ⟨1, _⟩ => show win0_6.index t (1 : Fin 2) * 2048 + 1 * (j 1).val = (j 1).val; omega

/-! ## The result -/

variable (m : (ℓ : Loc nD τ sig) → Buf (Elt Ideal) ℓ)

/-- The weights as launched on device `c`. -/
def P (c : Dev nD) : Model.Weights :=
  Model.weights (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8))

/-- What the call's result array holds in the end. -/
def G (c : Dev nD) : S16384x1024.Idx → EReal := Model.flat (P m c) (m ((c : Thread nD τ).loc main_arg0))

/-- The windows and the resident weights hold the weights. -/
theorem holds (c : Dev nD) (t : Fin cfg0.N) : Holds (P m c) (iblk m c 1 t) (iblk m c 2 t) (iblk m c 3 t) (iblk m c 4 t) (iblk m c 5 t) (iblk m c 6 t) (WrV m c) (WoV m c) where
  g1 d := by
    show V m c main_v4 (((cfg0.win 1).blk t).view.emb (ix2 0 d)) = _
    rw [emb1, V_v4]; exact row_at _ d
  g3 d := by
    show V m c main_v5 (((cfg0.win 2).blk t).view.emb (ix2 0 d)) = _
    rw [emb2, V_v5]; exact row_at _ d
  win k e := by
    show resIn (F := Ideal) (V m c main_arg3) (ix2 k e) = _
    rw [V_main_arg3]; exact resIn_at _ k e
  ws h i s := by
    show V m c main_v6 (((cfg0.win 3).blk t).view.emb (ix3 h i s)) = _
    rw [emb3, V_v6]; exact heads_at _ h i s
  bs h i s := by
    show V m c main_v2 (((cfg0.win 4).blk t).view.emb (ix3 h i s)) = _
    rw [emb4, V_v2]; exact bias_at _ h i s
  vg j := by
    show V m c main_arg6 (((cfg0.win 5).blk t).view.emb (ix2 0 j)) = _
    rw [emb5, V_main_arg6]; rfl
  vb j := by
    show V m c main_arg7 (((cfg0.win 6).blk t).view.emb (ix2 0 j)) = _
    rw [emb6, V_main_arg7]; rfl
  wo j d := by
    show resOut (F := Ideal) (V m c main_arg8) (ix2 j d) = _
    rw [V_main_arg8]; exact resOut_at _ j d

/-- Row `r` of point `t`'s block of rows. -/
theorem x_at (c : Dev nD) (t : Fin cfg0.N) (r : Fin 512) (d : Fin 1024) : iblk m c 0 t (ix2 r d)
    = m ((c : Thread nD τ).loc main_arg0) (ix3 ⟨(rowAt t r).val / 8192, by have := (rowAt t r).isLt; omega⟩ ⟨(rowAt t r).val % 8192, Nat.mod_lt _ (by decide)⟩ d) := by
  show V m c main_v3 (((cfg0.win 0).blk t).view.emb (ix2 r d)) = _
  rw [emb0, V_v3]
  exact flat_at _ _ d

/-- Point `t` leaves its rows of the layer's result. -/
theorem out_at (c : Dev nD) (t : Fin cfg0.N) (r : Fin 512) (d : Fin 1024) : outBlk m c t (ix2 r d) = G m c (ix2 (rowAt t r) d) := by
  unfold outBlk blockV
  rw [sub2_whole, sub2_whole]
  refine (block_at (holds m c t) r d).trans ?_
  show Model.res (P m c) _ _ d = Model.res (P m c) _ _ d
  have hr := r.isLt
  have ht : t.val < 32 := t.isLt
  congr 1
  · funext s e
    have hs := s.isLt
    refine (x_at m c t _ e).trans (congrArg (m ((c : Thread nD τ).loc main_arg0)) (congrArg₂ (fun a b => ix3 a b e) (Fin.ext ?_) (Fin.ext ?_)))
    · show (512 * t.val + (128 * (r.val / 128) + s.val)) / 8192 = (512 * t.val + r.val) / 8192; omega
    · show (512 * t.val + (128 * (r.val / 128) + s.val)) % 8192 = 128 * ((512 * t.val + r.val) % 8192 / 128) + s.val; omega
  · exact Fin.ext (by show r.val % 128 = (512 * t.val + r.val) % 8192 % 128; omega)

theorem flushed_eq (c : Dev nD) (t : Fin cfg0.N) : (data m 0 c).flushed 7 t = ((cfg0.win 7).blk t).view.read (Elt Ideal) (G m c) := by
  show (cfg0.win 7).cut (cfg0.grid.coords t) ((data m 0 c).after 7 t) = _
  rw [after7]
  funext j
  obtain ⟨r, d, rfl⟩ : ∃ (r : Fin 512) (d : Fin 1024), j = ix2 r d := ⟨j 0, j 1, by funext a; match a with | ⟨0, _⟩ => rfl | ⟨1, _⟩ => rfl⟩
  show outBlk m c t (ix2 r d) = G m c (((cfg0.win 7).blk t).view.emb (ix2 r d))
  rw [emb7, out_at]

theorem covered (i : S16384x1024.Idx) : ∃ t : Fin cfg0.N, (cfg0.win 7).flush t = true ∧ i ∈ ((cfg0.win 7).blk t).view.set := by
  have h0 : (i 0).val < 16384 := (i 0).isLt
  obtain ⟨t, ht⟩ : ∃ t : Fin cfg0.N, t.val = (i 0).val / 512 := ⟨⟨(i 0).val / 512, by show (i 0).val / 512 < 32; omega⟩, rfl⟩
  have h := ((cfg0.win 7).blk t).view.emb_mem_set (ix2 (⟨(i 0).val % 512, Nat.mod_lt _ (by decide)⟩ : Fin 512) (i 1 : Fin 1024))
  have e : ((cfg0.win 7).blk t).view.emb (ix2 (⟨(i 0).val % 512, Nat.mod_lt _ (by decide)⟩ : Fin 512) (i 1 : Fin 1024)) = i := by
    refine (emb7 t _ _).trans ?_
    funext a; apply Fin.ext
    match a with
    | ⟨0, _⟩ => show 512 * t.val + (i 0).val % 512 = (i 0).val; omega
    | ⟨1, _⟩ => rfl
  exact ⟨t, flush0_7 t, e ▸ h⟩

/-- The result array after the run. -/
theorem final (c : Dev nD) : (data m 0 c).arrAt 7 cfg0.N = G m c :=
  (data m 0 c).arrAt_eq_of_cover 7 (G m c) (fun t _ => flushed_eq m c t) covered

end Cert.KernelIdeal.Arrays

end
-- ==== Proof.RefStages.lean ====
/-
  The reference's values, read at an index: each is the layer's number there.
-/
module

public import proofs.«01_k».proof.Proof.Gen.ReferenceIdeal.Read
public import proofs.«01_k».proof.Proof.Model
public import proofs.«01_k».proof.Proof.Consts
public import Idealize.ShloMosaic.Lib.Pointwise

@[expose] public section

set_option maxRecDepth 16384

noncomputable section

namespace Cert.ReferenceIdeal.Stages

open Cert.ReferenceIdeal Cert.ReferenceIdeal.Gen Cert.ReferenceIdeal.Read
open Idealize.ShloMosaic

variable (x0 : FVec Ideal S2x8192x1024 .f32) (x1 x2 : FVec Ideal S2x1024 .f32) (x3 : FVec Ideal S1x1024x6144 .f32)
  (x4 : FVec Ideal S1x16x128x128 .f32) (x5 : FVec Ideal S1x16x128 .f32) (x6 x7 : FVec Ideal S1x2048 .f32) (x8 : FVec Ideal S1x2048x1024 .f32)
  (b : Fin 2) (i : Fin 8192)

theorem gain_at (d : Fin 1024) : val_main_v13 (F := Ideal) x1 (ix3 b i d) = x1 (ix2 0 d) := by
  pointwise [val_main_v13, val_main_v12, val_main_v1, val_main_v0]

theorem rms_at (d : Fin 1024) : val_main_v14 (F := Ideal) x0 x1 (ix3 b i d) = Model.rms (fun k => x0 (ix3 b i k)) (fun k => x1 (ix2 0 k)) d := by
  unfold Model.rms
  pointwise [val_main_v14, gain_at, val_main_v11, val_main_v10, val_main_v9, val_main_v8, val_main_v7, val_main_v6, val_main_v5, val_main_v4, val_main_v3, val_main_v2, val_main_cst, val_main_cst_0, val_main_cst_1]
  rfl

/-- The layer's weights, from the arguments. -/
abbrev wts : Model.Weights := Model.weights x1 x2 x3 x4 x5 x6 x7 x8

/-- Row `i` of sequence `b`. -/
def row (d : Fin 1024) : EReal := x0 (ix3 b i d)

theorem pre_at (c : Fin 6144) : val_main_v21 (F := Ideal) x0 x1 x3 (ix3 b i c) = Model.pre (wts x1 x2 x3 x4 x5 x6 x7 x8) (row x0 b i) c := by
  unfold Model.pre
  pointwise [val_main_v21, rms_at, val_main_v15]
  rfl

theorem gelu_u (j : Fin 2048) : val_main_v37 (F := Ideal) x0 x1 x3 (ix3 b i j) = Units.gelu (Model.pre (wts x1 x2 x3 x4 x5 x6 x7 x8) (row x0 b i) (Model.colU j)) := by
  rw [← pre_at x0 x1 x2 x3 x4 x5 x6 x7 x8 b i]
  unfold Units.gelu Units.c Units.q
  rw [← Consts.one, ← Consts.half, ← Consts.scale, ← Consts.cubic]
  pointwise [val_main_v37, val_main_v36, val_main_v35, val_main_v34, val_main_v33, val_main_v32, val_main_v31, val_main_v30, val_main_v29, val_main_v28, val_main_v27, val_main_v26, val_main_v25, val_main_v22, val_main_cst_2, val_main_cst_3, val_main_cst_4, val_main_cst_5]
  rfl

theorem gelu_v (j : Fin 2048) : val_main_v50 (F := Ideal) x0 x1 x3 (ix3 b i j) = Units.gelu (Model.pre (wts x1 x2 x3 x4 x5 x6 x7 x8) (row x0 b i) (Model.colV j)) := by
  rw [← pre_at x0 x1 x2 x3 x4 x5 x6 x7 x8 b i]
  unfold Units.gelu Units.c Units.q
  rw [← Consts.one, ← Consts.half, ← Consts.scale, ← Consts.cubic]
  pointwise [val_main_v50, val_main_v49, val_main_v48, val_main_v47, val_main_v46, val_main_v45, val_main_v44, val_main_v43, val_main_v42, val_main_v41, val_main_v40, val_main_v39, val_main_v38, val_main_v23, val_main_cst_6, val_main_cst_7, val_main_cst_8, val_main_cst_9]
  rfl

theorem silu_g (j : Fin 2048) : val_main_v82 (F := Ideal) x0 x1 x3 (ix3 b i j) = Units.silu (Model.pre (wts x1 x2 x3 x4 x5 x6 x7 x8) (row x0 b i) (Model.colG j)) := by
  rw [← pre_at x0 x1 x2 x3 x4 x5 x6 x7 x8 b i]
  unfold Units.silu
  rw [← Consts.one]
  pointwise [val_main_v82, val_main_call0_v5, val_main_call0_v4, val_main_call0_v3, val_main_call0_v2, val_main_call0_v1, val_main_call0_v0, val_main_v24, val_main_call0_cst, val_main_call0_cst_0]
  rfl

theorem cent_at (j : Fin 2048) : val_main_v56 (F := Ideal) x0 x1 x3 (ix3 b i j) = Model.cent (wts x1 x2 x3 x4 x5 x6 x7 x8) (row x0 b i) j := by
  unfold Model.cent
  pointwise [val_main_v56, val_main_v55, val_main_v54, val_main_v53, val_main_v52, val_main_v51, val_main_cst_10, val_main_cst_11, gelu_v x0 x1 x2 x3 x4 x5 x6 x7 x8]
  rfl

theorem vn_at (j : Fin 2048) : val_main_v72 (F := Ideal) x0 x1 x3 x6 x7 (ix3 b i j) = Model.vn (wts x1 x2 x3 x4 x5 x6 x7 x8) (row x0 b i) j := by
  unfold Model.vn Model.norm
  pointwise [val_main_v72, val_main_v71, val_main_v70, val_main_v69, val_main_v68, val_main_v67, val_main_v66, val_main_v65, val_main_v64, val_main_v63, val_main_v62, val_main_v61, val_main_v60, val_main_v59, val_main_v58, val_main_v57, val_main_v18, val_main_v19, val_main_cst_12, val_main_cst_13, val_main_cst_14, cent_at x0 x1 x2 x3 x4 x5 x6 x7 x8]
  rfl

theorem ws_at (h : Fin 16) (t s : Fin 128) : val_main_v16 (F := Ideal) x4 (ix3 h t s) = x4 (ix4 0 h t s) := by pointwise [val_main_v16]

theorem bs_at (h : Fin 16) (t : Fin 128) : val_main_v17 (F := Ideal) x5 (ix2 h t) = x5 (ix3 0 h t) := by pointwise [val_main_v17]

theorem mix_at (j : Fin 2048) : val_main_v80 (F := Ideal) x0 x1 x3 x4 x5 x6 x7 (ix3 b i j)
    = Model.mix (wts x1 x2 x3 x4 x5 x6 x7 x8) (Model.chunk x0 b i) ⟨i.val % 128, Nat.mod_lt _ (by decide)⟩ j := by
  rw [val_main_v80_apply, val_main_v79_apply, val_main_v75_apply, val_main_v74_apply, val_main_v78_apply, val_main_v77_apply, val_main_v76_apply]
  have hb := b.isLt
  have hi := i.isLt
  have hj := j.isLt
  unfold Model.mix
  refine congrArg₂ (fun p q : EReal => p + q) (Finset.sum_congr rfl fun s _ => ?_) ?_
  · have hs := s.isLt
    rw [val_main_v73_apply, mul_comm]
    refine congrArg₂ (fun p q : EReal => p * q) ?_ ?_
    · refine (congrArg (val_main_v16 (F := Ideal) x4) (a₂ := ix3 (Model.head j) ⟨i.val % 128, Nat.mod_lt _ (by decide)⟩ s) ?_).trans (ws_at x4 _ _ _)
      funext a; apply Fin.ext
      match a with
      | ⟨0, _⟩ => show ((b.val * 8192 + i.val) * 2048 + j.val) / 128 % 16 = j.val / 128; omega
      | ⟨1, _⟩ => show ((b.val * 8192 + i.val) * 2048 + j.val) / 2048 % 128 = i.val % 128; omega
      | ⟨2, _⟩ => rfl
    · refine (congrArg (val_main_v72 (F := Ideal) x0 x1 x3 x6 x7) (a₂ := ix3 b (⟨128 * (i.val / 128) + s.val, by omega⟩ : Fin 8192) j) ?_).trans (vn_at x0 x1 x2 x3 x4 x5 x6 x7 x8 b _ j)
      obtain ⟨p, hp⟩ : ∃ p, p = (b.val * 8192 + i.val) * 2048 + j.val := ⟨_, rfl⟩
      have e : (((p / 16777216 * 64 + p / 262144 % 64) * 128 + s.val) * 16 + p / 128 % 16) * 128 + p % 128 = (b.val * 8192 + (128 * (i.val / 128) + s.val)) * 2048 + j.val := by omega
      funext a; apply Fin.ext
      match a with
      | ⟨0, _⟩ =>
        show ((((((b.val * 8192 + i.val) * 2048 + j.val) / 16777216 * 64 + ((b.val * 8192 + i.val) * 2048 + j.val) / 262144 % 64) * 128 + s.val) * 16 + ((b.val * 8192 + i.val) * 2048 + j.val) / 128 % 16) * 128 + ((b.val * 8192 + i.val) * 2048 + j.val) % 128) / 16777216 = b.val
        rw [← hp, e]; omega
      | ⟨1, _⟩ =>
        show ((((((b.val * 8192 + i.val) * 2048 + j.val) / 16777216 * 64 + ((b.val * 8192 + i.val) * 2048 + j.val) / 262144 % 64) * 128 + s.val) * 16 + ((b.val * 8192 + i.val) * 2048 + j.val) / 128 % 16) * 128 + ((b.val * 8192 + i.val) * 2048 + j.val) % 128) / 2048 % 8192 = 128 * (i.val / 128) + s.val
        rw [← hp, e]; omega
      | ⟨2, _⟩ =>
        show ((((((b.val * 8192 + i.val) * 2048 + j.val) / 16777216 * 64 + ((b.val * 8192 + i.val) * 2048 + j.val) / 262144 % 64) * 128 + s.val) * 16 + ((b.val * 8192 + i.val) * 2048 + j.val) / 128 % 16) * 128 + ((b.val * 8192 + i.val) * 2048 + j.val) % 128) % 2048 = j.val
        rw [← hp, e]; omega
  · refine (congrArg (val_main_v17 (F := Ideal) x5) (a₂ := ix2 (Model.head j) ⟨i.val % 128, Nat.mod_lt _ (by decide)⟩) ?_).trans (bs_at x5 _ _)
    funext a; apply Fin.ext
    match a with
    | ⟨0, _⟩ => show ((b.val * 8192 + i.val) * 2048 + j.val) / 128 % 16 = j.val / 128; omega
    | ⟨1, _⟩ => show ((b.val * 8192 + i.val) * 2048 + j.val) / 2048 % 128 = i.val % 128; omega

/-- A row is its chunk's row at its place. -/
theorem row_eq : row x0 b i = Model.chunk x0 b i ⟨i.val % 128, Nat.mod_lt _ (by decide)⟩ := by
  funext d
  exact congrArg (fun r => x0 (ix3 b r d)) (Fin.ext (show i.val = 128 * (i.val / 128) + i.val % 128 by omega))

theorem gate_at (j : Fin 2048) : val_main_v83 (F := Ideal) x0 x1 x3 x4 x5 x6 x7 (ix3 b i j)
    = Model.gate (wts x1 x2 x3 x4 x5 x6 x7 x8) (Model.chunk x0 b i) ⟨i.val % 128, Nat.mod_lt _ (by decide)⟩ j := by
  unfold Model.gate
  rw [← row_eq, ← gelu_u x0 x1 x2 x3 x4 x5 x6 x7 x8, ← silu_g x0 x1 x2 x3 x4 x5 x6 x7 x8, ← mix_at x0 x1 x2 x3 x4 x5 x6 x7 x8]
  show val_main_v37 (F := Ideal) x0 x1 x3 (ix3 b i j) * val_main_v80 (F := Ideal) x0 x1 x3 x4 x5 x6 x7 (ix3 b i j) * val_main_v82 (F := Ideal) x0 x1 x3 (ix3 b i j) = _
  exact mul_right_comm _ _ _

theorem proj_at (d : Fin 1024) : val_main_v84 (F := Ideal) x0 x1 x3 x4 x5 x6 x7 x8 (ix3 b i d)
    = Model.proj (wts x1 x2 x3 x4 x5 x6 x7 x8) (Model.chunk x0 b i) ⟨i.val % 128, Nat.mod_lt _ (by decide)⟩ d := by
  unfold Model.proj
  pointwise [val_main_v84, val_main_v20, gate_at x0 x1 x2 x3 x4 x5 x6 x7 x8]
  rfl

theorem layer_at (d : Fin 1024) : val_main_v100 (F := Ideal) x0 x1 x2 x3 x4 x5 x6 x7 x8 (ix3 b i d) = Model.layer (wts x1 x2 x3 x4 x5 x6 x7 x8) x0 b i d := by
  unfold Model.layer Model.res Model.rms
  rw [← row_eq]
  pointwise [val_main_v100, val_main_v99, val_main_v98, val_main_v97, val_main_v96, val_main_v95, val_main_v94, val_main_v93, val_main_v92, val_main_v91, val_main_v90, val_main_v89, val_main_v88, val_main_v87, val_main_v86, val_main_v85,
    val_main_cst_15, val_main_cst_16, val_main_cst_17, proj_at x0 x1 x2 x3 x4 x5 x6 x7 x8]
  rfl

/-- The reference's result. -/
theorem result_eq : val_main_v101 (F := Ideal) x0 x1 x2 x3 x4 x5 x6 x7 x8 = Model.flat (wts x1 x2 x3 x4 x5 x6 x7 x8) x0 := by
  funext x
  have h0 : (x 0).val < 16384 := (x 0).isLt
  have h1 : (x 1).val < 1024 := (x 1).isLt
  rw [val_main_v101_apply]
  refine (congrArg (val_main_v100 (F := Ideal) x0 x1 x2 x3 x4 x5 x6 x7 x8)
    (a₂ := ix3 (⟨(x 0).val / 8192, by omega⟩ : Fin 2) (⟨(x 0).val % 8192, Nat.mod_lt _ (by decide)⟩ : Fin 8192) (x 1 : Fin 1024)) ?_).trans (layer_at x0 x1 x2 x3 x4 x5 x6 x7 x8 _ _ _)
  funext a; apply Fin.ext
  match a with
  | ⟨0, _⟩ => show ((x 0).val * 1024 + (x 1).val) / 8388608 = (x 0).val / 8192; omega
  | ⟨1, _⟩ => show ((x 0).val * 1024 + (x 1).val) / 1024 % 8192 = (x 0).val % 8192; omega
  | ⟨2, _⟩ => show ((x 0).val * 1024 + (x 1).val) % 1024 = (x 1).val; omega

end Cert.ReferenceIdeal.Stages

end
-- ==== Proof.FormEq.lean ====
/-
  The printed body is the structured form of it, effect by effect.
-/
module

public import proofs.«01_k».proof.Proof.Form
public import Idealize.ShloMosaic.PureOps.Ideal

@[expose] public section

set_option maxRecDepth 65536
set_option maxHeartbeats 0

namespace Cert.KernelIdeal.Form

open Idealize.ShloMosaic
open scoped Idealize.ShloMosaic.ProgEq

prog_eq bodyEq : Cert.KernelIdeal.cc0_gmlp_layer Cert.KernelIdeal.Form.body from Cert.KernelIdeal to Cert.KernelIdeal at Ideal inferInstance by intros; rfl

end Cert.KernelIdeal.Form
-- ==== Proof.Claims.lean ====
/-
  The claims about the idealized kernel and the reference: each runs and leaves its arguments as they were, and both end with
  the same layer of the same arguments.
-/
module

public import proofs.«01_k».proof.Defs
public import proofs.«01_k».proof.Proof.Arrays
public import proofs.«01_k».proof.Proof.RefStages
public import proofs.«01_k».proof.Proof.FormEq
public import Idealize.ShloMosaic.Lib.Quiescent

@[expose] public section

set_option maxRecDepth 16384

noncomputable section

open Idealize.ShloMosaic Idealize.ShloMosaic.TcCoe Idealize.SL.Sem

namespace Cert.KernelIdeal.Arrays

open Cert.KernelIdeal Cert.KernelIdeal.Gen Cert.KernelIdeal.Form

/-- At a point the printed body is the structured one. -/
theorem same (t : Fin cfg0.N) : bodyAt0 (F := Ideal) t = bodyF t := by
  unfold bodyAt0 bodyF; exact bodyEq ..

end Cert.KernelIdeal.Arrays

namespace Cert.Proof

theorem frame_pi : Cert.quiescent_KernelIdeal := fun m ρ _ =>
  (θ_run Cert.KernelIdeal.defs _ _).mono (fun _ h => ⟨fun c => (h.1 c).2, h.2⟩) (Cert.KernelIdeal.Form.run_value (F := Ideal) m ρ Cert.KernelIdeal.Arrays.same)

theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Each named number is the value its table gives it. -/
theorem preserves : Cert.preserves_Kernel_KernelIdeal :=
  ⟨IdealRules.named_const.statement Cert.KernelIdeal.κ "gelu_a" .f32 _ _ rfl, IdealRules.named_const.statement Cert.KernelIdeal.κ "gelu_b" .f32 _ _ rfl,
    IdealRules.named_const.statement Cert.KernelIdeal.κ "neg_log2e" .f32 _ _ rfl⟩

/-- The layer of equal arrays is one layer. -/
theorem flat_congr {a0 b0 : (⟨3, ![2, 8192, 1024]⟩ : Shape).Idx → EReal} {a1 b1 a2 b2 : (⟨2, ![2, 1024]⟩ : Shape).Idx → EReal}
    {a3 b3 : (⟨3, ![1, 1024, 6144]⟩ : Shape).Idx → EReal} {a4 b4 : (⟨4, ![1, 16, 128, 128]⟩ : Shape).Idx → EReal}
    {a5 b5 : (⟨3, ![1, 16, 128]⟩ : Shape).Idx → EReal} {a6 b6 a7 b7 : (⟨2, ![1, 2048]⟩ : Shape).Idx → EReal} {a8 b8 : (⟨3, ![1, 2048, 1024]⟩ : Shape).Idx → EReal}
    (h0 : a0 = b0) (h1 : a1 = b1) (h2 : a2 = b2) (h3 : a3 = b3) (h4 : a4 = b4) (h5 : a5 = b5) (h6 : a6 = b6) (h7 : a7 = b7) (h8 : a8 = b8) :
    Model.flat (Model.weights a1 a2 a3 a4 a5 a6 a7 a8) a0 = Model.flat (Model.weights b1 b2 b3 b4 b5 b6 b7 b8) b0 := by
  rw [h0, h1, h2, h3, h4, h5, h6, h7, h8]

/-- From memories with the same arguments both programs end with the same layer. -/
theorem algebraic : Cert.algebraic_KernelIdeal_ReferenceIdeal := by
  intro m ρ m' ρ' _ hagree
  refine ⟨fun c => Cert.KernelIdeal.Arrays.G m c, (θ_run Cert.KernelIdeal.defs _ _).mono (fun _ h c => ⟨(h.1 c).1.trans (Cert.KernelIdeal.Arrays.final m c), (h.1 c).2⟩) (Cert.KernelIdeal.Form.run_value (F := Ideal) m ρ Cert.KernelIdeal.Arrays.same), ?_⟩
  refine (θ_run Cert.ReferenceIdeal.defs _ _).mono (fun _ h c => ⟨(h c).1.trans ?_, (h c).2⟩) (Cert.ReferenceIdeal.Value.run (F := Ideal) m' ρ')
  obtain ⟨e0, e1, e2, e3, e4, e5, e6, e7, e8⟩ := hagree c
  refine (Cert.ReferenceIdeal.Read.val_main_v101_eq _).trans ((Cert.ReferenceIdeal.Stages.result_eq ..).trans ?_)
  exact flat_congr e0 e1 e2 e3 e4 e5 e6 e7 e8

end Cert.Proof

end
-- ==== Proof.QkvForm.lean ====
/-
  The projection kernel's body written once more, with its unrolled copies, strided reads and column chunks as uses of one
  definition each.
-/
module

public import proofs.«01_k».proof.Proof.Gen.QkvIdeal
public import Idealize.ShloMosaic.Lib.Tactic.ProgEq

@[expose] public section

set_option maxRecDepth 16384

noncomputable section

namespace Cert.QkvIdeal.Form

open Cert.QkvIdeal
open Idealize.ShloMosaic Idealize.SL.Sem
open Facts₀

variable {F : FTy → Type} [FloatOps F] [Named F]
variable [Facts]

/-! ## Bounds of the rectangles, at any offset -/

theorem inb4 {s : ℕ} (hs : s < 4) : ∀ a, (![s] : Fin 1 → ℕ) a + S1.size a ≤ S4.size a := by
  intro a; fin_cases a; simp; omega

theorem inb10 {s : ℕ} (hs : s < 4) : ∀ a, (![s, 0, 0] : Fin 3 → ℕ) a + S1x32x9216.size a ≤ S4x32x9216.size a := by
  intro a; fin_cases a <;> simp; omega

theorem inb2 {n m h w r d : ℕ} (hr : r + h ≤ n) (hd : d + w ≤ m) :
    ∀ a, (![r, d] : Fin 2 → ℕ) a + (![h, w] : Fin 2 → ℕ) a ≤ (![n, m] : Fin 2 → ℕ) a := by
  intro a; fin_cases a <;> simp <;> omega

theorem inb8 {k : ℕ} (hk : k < 8) : ∀ a, (![k, 0, 0] : Fin 3 → ℕ) a + S1x512x128.size a ≤ S8x512x128.size a := by
  intro a; fin_cases a <;> simp; omega

/-- Every `d`-th row of a slab from row `p` on, `h` rows of it. -/
theorem inbStep {h k p d : ℕ} (hk : k < 8) (hp : p + d * (h - 1) < 512) :
    ∀ a, (![1, h, 128] : Fin 3 → ℕ) a = 0 ∨ (![k, p, 0] : Fin 3 → ℕ) a + (![1, d, 1] : Fin 3 → ℕ) a * ((![1, h, 128] : Fin 3 → ℕ) a - 1) < S8x512x128.size a := by
  intro a; fin_cases a <;> simp <;> omega

theorem inbOut {d r c : ℕ} (hc : c + 512 ≤ 3072) :
    ∀ a, (![0, 0, 0, c] : Fin 4 → ℕ) a + (![1, d, r, 512] : Fin 4 → ℕ) a ≤ (![1, d, r, 3072] : Fin 4 → ℕ) a := by
  intro a; fin_cases a <;> simp; omega

/-- A block whose first row and whose height are even fills whole packed words of a two-byte array. -/
theorem packed2 {n m h w r d : ℕ} (hb) (hr : 2 ∣ r) (hh : 2 ∣ h) :
    (Rect.unit (s := ⟨2, ![n, m]⟩) ![r, d] ![h, w] hb).PackedRows (EltTy.packing .bf16) :=
  Or.inr ⟨le_refl 2, rfl, Or.inl ⟨hr, hh⟩⟩

theorem packedOut {d r c : ℕ} (hb) (hr : 2 ∣ r) :
    (Rect.unit (s := ⟨4, ![1, d, r, 3072]⟩) ![0, 0, 0, c] ![1, d, r, 512] hb).PackedRows (EltTy.packing .bf16) :=
  Or.inr ⟨(show 2 ≤ 4 by decide), rfl, Or.inl ⟨⟨0, rfl⟩, by change 2 ∣ (![1, d, r, 512] : Fin 4 → ℕ) 2; exact hr⟩⟩

/-! ## The weight's copies and their casts -/

/-- The semaphore of slot `s`. -/
abbrev semAt (arg11 : DmaSems sig S4) (s : ℕ) (hs : s < 4) : DmaSem sig :=
  ((arg11.slice (Rect.unit (s := S4) ![s] S1.size (inb4 hs))).squeeze S_ squeezes_S1_S_).sem

/-- Start the copy of rows `r … r+31`, of their first 9216 columns, into slot `s`. -/
def startW (arg4 : Memref sig .tc .hbm S1x1024x10240 .f32) (arg10 : Memref sig .tc .vmem S4x32x9216 .f32) (arg11 : DmaSems sig S4)
    (r s : ℕ) (hr : r + 32 ≤ 1024) (hs : s < 4) : Prog (TpuEff nD τ sig (Elt F) Λ₀ .tc) PUnit := do
  let s0 : DmaSems sig S1 := arg11.slice (Rect.unit (s := S4) ![s] S1.size (inb4 hs))
  let s1 : DmaSems sig S_ := s0.squeeze S_ squeezes_S1_S_
  let b0 : Memref sig .tc .vmem S1x32x9216 .f32 := arg10.slice (Rect.unit (s := S4x32x9216) ![s, 0, 0] S1x32x9216.size (inb10 hs)) (fun _ => rfl)
  let b1 : Memref sig .tc .vmem S32x9216 .f32 := b0.squeeze S32x9216 squeezes_S1x32x9216_S32x9216
  let w0 : Memref sig .tc .hbm S1x1024x9216 .f32 := arg4.slice (Rect.unit (s := S1x1024x10240) ![0, 0, 0] S1x1024x9216.size inb_S1x1024x10240_S1x1024x9216_0_0_0) (fun _ => rfl)
  let w1 : Memref sig .tc .hbm S1024x9216 .f32 := w0.squeeze S1024x9216 squeezes_S1x1024x9216_S1024x9216
  let w2 : Memref sig .tc .hbm S32x9216 .f32 := w1.slice (Rect.unit (s := S1024x9216) ![r, 0] S32x9216.size (inb2 hr (by decide))) (fun _ => rfl)
  Prog.lift (.enqueueDma w2 (.here b1) (.dma s1.sem) (View.wordExact_bits rfl) ((View.wordExact_bits rfl).reshape _ _) ⟨Or.inl rfl, trivial⟩)

/-- Rows `r … r+31` of the weight, in memory off the core. -/
abbrev srcW (arg4 : Memref sig .tc .hbm S1x1024x10240 .f32) (r : ℕ) (hr : r + 32 ≤ 1024) : Memref sig .tc .hbm S32x9216 .f32 :=
  ((arg4.slice (Rect.unit (s := S1x1024x10240) ![0, 0, 0] S1x1024x9216.size inb_S1x1024x10240_S1x1024x9216_0_0_0) (fun _ => rfl)).squeeze
    S1024x9216 squeezes_S1x1024x9216_S1024x9216).slice (Rect.unit (s := S1024x9216) ![r, 0] S32x9216.size (inb2 hr (by decide))) (fun _ => rfl)

/-- Rows `r … r+31`, landed in slot `s`: wait for them and cast them to rows `r … r+31` of the resident weight. -/
def landW (arg4 : Memref sig .tc .hbm S1x1024x10240 .f32) (arg9 : Memref sig .tc .vmem S1024x9216 .bf16) (harg9 : arg9.IsWhole)
    (arg10 : Memref sig .tc .vmem S4x32x9216 .f32) (arg11 : DmaSems sig S4) (r s : ℕ) (hr : r + 32 ≤ 1024) (hp : 2 ∣ r) (hs : s < 4) :
    Prog (TpuEff nD τ sig (Elt F) Λ₀ .tc) PUnit := do
  let s0 : DmaSems sig S1 := arg11.slice (Rect.unit (s := S4) ![s] S1.size (inb4 hs))
  let s1 : DmaSems sig S_ := s0.squeeze S_ squeezes_S1_S_
  let b0 : Memref sig .tc .vmem S1x32x9216 .f32 := arg10.slice (Rect.unit (s := S4x32x9216) ![s, 0, 0] S1x32x9216.size (inb10 hs)) (fun _ => rfl)
  let b1 : Memref sig .tc .vmem S32x9216 .f32 := b0.squeeze S32x9216 squeezes_S1x32x9216_S32x9216
  let w0 : Memref sig .tc .hbm S1x1024x9216 .f32 := arg4.slice (Rect.unit (s := S1x1024x10240) ![0, 0, 0] S1x1024x9216.size inb_S1x1024x10240_S1x1024x9216_0_0_0) (fun _ => rfl)
  let w1 : Memref sig .tc .hbm S1024x9216 .f32 := w0.squeeze S1024x9216 squeezes_S1x1024x9216_S1024x9216
  let w2 : Memref sig .tc .hbm S32x9216 .f32 := w1.slice (Rect.unit (s := S1024x9216) ![r, 0] S32x9216.size (inb2 hr (by decide))) (fun _ => rfl)
  Prog.lift (.waitDma2 s1.sem w2 b1 (View.wordExact_bits rfl) ((View.wordExact_bits rfl).reshape _ _))
  let v : Vec F S1x32x9216 .f32 ← Prog.lift (.load arg10 (Rect.unit (s := S4x32x9216) ![s, 0, 0] S1x32x9216.size (inb10 hs)).toLoadRect (View.loadsAt_vmem h_S1x32x9216))
  let _ : Vec F S32x9216 .bf16 ← Prog.lift (.load arg9 (Rect.unit (s := S1024x9216) ![r, 0] S32x9216.size (inb2 hr (by decide))).toLoadRect (View.loadsAt_vmem h_S32x9216))
  Prog.lift (.store arg9 (Rect.unit (s := S1024x9216) ![r, 0] S32x9216.size (inb2 hr (by decide)))
    (shapeCast S32x9216 (truncf .bf16 (shapeCast S32x9216 v shapeCasts_S1x32x9216_S32x9216) bitsLt_bf16_f32) shapeCasts_S32x9216_S32x9216)
    Finset.univ (View.stores_vmem h_S32x9216 (harg9.storeExact_slice rfl _ (packed2 _ hp (by decide))) (fun _ => rfl)) (.inl rfl))

/-- The weight: four copies in flight, each slot refilled once its rows are cast. -/
def fillW (arg4 : Memref sig .tc .hbm S1x1024x10240 .f32) (arg9 : Memref sig .tc .vmem S1024x9216 .bf16) (harg9 : arg9.IsWhole)
    (arg10 : Memref sig .tc .vmem S4x32x9216 .f32) (arg11 : DmaSems sig S4) : Prog (TpuEff nD τ sig (Elt F) Λ₀ .tc) PUnit := do
  startW arg4 arg10 arg11 0 0 (by decide) (by decide)
  startW arg4 arg10 arg11 32 1 (by decide) (by decide)
  startW arg4 arg10 arg11 64 2 (by decide) (by decide)
  startW arg4 arg10 arg11 96 3 (by decide) (by decide)
  landW arg4 arg9 harg9 arg10 arg11 0 0 (by decide) (by decide) (by decide)
  startW arg4 arg10 arg11 128 0 (by decide) (by decide)
  landW arg4 arg9 harg9 arg10 arg11 32 1 (by decide) (by decide) (by decide)
  startW arg4 arg10 arg11 160 1 (by decide) (by decide)
  landW arg4 arg9 harg9 arg10 arg11 64 2 (by decide) (by decide) (by decide)
  startW arg4 arg10 arg11 192 2 (by decide) (by decide)
  landW arg4 arg9 harg9 arg10 arg11 96 3 (by decide) (by decide) (by decide)
  startW arg4 arg10 arg11 224 3 (by decide) (by decide)
  landW arg4 arg9 harg9 arg10 arg11 128 0 (by decide) (by decide) (by decide)
  startW arg4 arg10 arg11 256 0 (by decide) (by decide)
  landW arg4 arg9 harg9 arg10 arg11 160 1 (by decide) (by decide) (by decide)
  startW arg4 arg10 arg11 288 1 (by decide) (by decide)
  landW arg4 arg9 harg9 arg10 arg11 192 2 (by decide) (by decide) (by decide)
  startW arg4 arg10 arg11 320 2 (by decide) (by decide)
  landW arg4 arg9 harg9 arg10 arg11 224 3 (by decide) (by decide) (by decide)
  startW arg4 arg10 arg11 352 3 (by decide) (by decide)
  landW arg4 arg9 harg9 arg10 arg11 256 0 (by decide) (by decide) (by decide)
  startW arg4 arg10 arg11 384 0 (by decide) (by decide)
  landW arg4 arg9 harg9 arg10 arg11 288 1 (by decide) (by decide) (by decide)
  startW arg4 arg10 arg11 416 1 (by decide) (by decide)
  landW arg4 arg9 harg9 arg10 arg11 320 2 (by decide) (by decide) (by decide)
  startW arg4 arg10 arg11 448 2 (by decide) (by decide)
  landW arg4 arg9 harg9 arg10 arg11 352 3 (by decide) (by decide) (by decide)
  startW arg4 arg10 arg11 480 3 (by decide) (by decide)
  landW arg4 arg9 harg9 arg10 arg11 384 0 (by decide) (by decide) (by decide)
  startW arg4 arg10 arg11 512 0 (by decide) (by decide)
  landW arg4 arg9 harg9 arg10 arg11 416 1 (by decide) (by decide) (by decide)
  startW arg4 arg10 arg11 544 1 (by decide) (by decide)
  landW arg4 arg9 harg9 arg10 arg11 448 2 (by decide) (by decide) (by decide)
  startW arg4 arg10 arg11 576 2 (by decide) (by decide)
  landW arg4 arg9 harg9 arg10 arg11 480 3 (by decide) (by decide) (by decide)
  startW arg4 arg10 arg11 608 3 (by decide) (by decide)
  landW arg4 arg9 harg9 arg10 arg11 512 0 (by decide) (by decide) (by decide)
  startW arg4 arg10 arg11 640 0 (by decide) (by decide)
  landW arg4 arg9 harg9 arg10 arg11 544 1 (by decide) (by decide) (by decide)
  startW arg4 arg10 arg11 672 1 (by decide) (by decide)
  landW arg4 arg9 harg9 arg10 arg11 576 2 (by decide) (by decide) (by decide)
  startW arg4 arg10 arg11 704 2 (by decide) (by decide)
  landW arg4 arg9 harg9 arg10 arg11 608 3 (by decide) (by decide) (by decide)
  startW arg4 arg10 arg11 736 3 (by decide) (by decide)
  landW arg4 arg9 harg9 arg10 arg11 640 0 (by decide) (by decide) (by decide)
  startW arg4 arg10 arg11 768 0 (by decide) (by decide)
  landW arg4 arg9 harg9 arg10 arg11 672 1 (by decide) (by decide) (by decide)
  startW arg4 arg10 arg11 800 1 (by decide) (by decide)
  landW arg4 arg9 harg9 arg10 arg11 704 2 (by decide) (by decide) (by decide)
  startW arg4 arg10 arg11 832 2 (by decide) (by decide)
  landW arg4 arg9 harg9 arg10 arg11 736 3 (by decide) (by decide) (by decide)
  startW arg4 arg10 arg11 864 3 (by decide) (by decide)
  landW arg4 arg9 harg9 arg10 arg11 768 0 (by decide) (by decide) (by decide)
  startW arg4 arg10 arg11 896 0 (by decide) (by decide)
  landW arg4 arg9 harg9 arg10 arg11 800 1 (by decide) (by decide) (by decide)
  startW arg4 arg10 arg11 928 1 (by decide) (by decide)
  landW arg4 arg9 harg9 arg10 arg11 832 2 (by decide) (by decide) (by decide)
  startW arg4 arg10 arg11 960 2 (by decide) (by decide)
  landW arg4 arg9 harg9 arg10 arg11 864 3 (by decide) (by decide) (by decide)
  startW arg4 arg10 arg11 992 3 (by decide) (by decide)
  landW arg4 arg9 harg9 arg10 arg11 896 0 (by decide) (by decide) (by decide)
  landW arg4 arg9 harg9 arg10 arg11 928 1 (by decide) (by decide) (by decide)
  landW arg4 arg9 harg9 arg10 arg11 960 2 (by decide) (by decide) (by decide)
  landW arg4 arg9 harg9 arg10 arg11 992 3 (by decide) (by decide) (by decide)

/-! ## The block's rows, scaled and read in each group's order -/

/-- The rows' root-mean-square scaling, then the gain. -/
def rms (x : FVec F S512x1024 .f32) (g : FVec F S1x1024 .f32) : FVec F S512x1024 .f32 :=
  mulf (mulf x (broadcastTo S512x1024 (rsqrt (addf
    (divf (shapeCast S512x1 (multiReduction .add [1] S512 (mulf x x) 0x00000000#32 reduces_S512x1024_S512 (.inl rfl) rfl) shapeCasts_S512_S512x1)
      (broadcast S512x1 (Scalar.ofBits .f32 0x44800000#32)))
    (broadcast S512x1 (Scalar.ofBits .f32 0x358637BD#32)))) broadcasts_S512x1_S512x1024))
    (broadcastTo S512x1024 g broadcasts_S1x1024_S512x1024)

/-- Write 128 columns as slab `k`. -/
def storeSlab (arg8 : Memref sig .tc .vmem S8x512x128 .f32) (k : ℕ) (hk : k < 8) (v : FVec F S512x128 .f32) : Prog (TpuEff nD τ sig (Elt F) Λ₀ .tc) PUnit := do
  let _ : Vec F S1x512x128 .f32 ← Prog.lift (.load arg8 (Rect.unit (s := S8x512x128) ![k, 0, 0] S1x512x128.size (inb8 hk)).toLoadRect (View.loadsAt_vmem h_S1x512x128))
  Prog.lift (.store arg8 (Rect.unit (s := S8x512x128) ![k, 0, 0] S1x512x128.size (inb8 hk)) (shapeCast S1x512x128 v shapeCasts_S512x128_S1x512x128)
    Finset.univ (View.stores_vmem_bits_univ h_S1x512x128 rfl) (.inl rfl))

/-- The eight slabs of the scaled block. -/
def storeSlabs (arg8 : Memref sig .tc .vmem S8x512x128 .f32) (y : FVec F S512x1024 .f32) : Prog (TpuEff nD τ sig (Elt F) Λ₀ .tc) PUnit := do
  storeSlab arg8 0 (by decide) (extractStridedSlice S512x128 ![0, 0] y slices_S512x1024_o0_0_S512x128)
  storeSlab arg8 1 (by decide) (extractStridedSlice S512x128 ![0, 128] y slices_S512x1024_o0_128_S512x128)
  storeSlab arg8 2 (by decide) (extractStridedSlice S512x128 ![0, 256] y slices_S512x1024_o0_256_S512x128)
  storeSlab arg8 3 (by decide) (extractStridedSlice S512x128 ![0, 384] y slices_S512x1024_o0_384_S512x128)
  storeSlab arg8 4 (by decide) (extractStridedSlice S512x128 ![0, 512] y slices_S512x1024_o0_512_S512x128)
  storeSlab arg8 5 (by decide) (extractStridedSlice S512x128 ![0, 640] y slices_S512x1024_o0_640_S512x128)
  storeSlab arg8 6 (by decide) (extractStridedSlice S512x128 ![0, 768] y slices_S512x1024_o0_768_S512x128)
  storeSlab arg8 7 (by decide) (extractStridedSlice S512x128 ![0, 896] y slices_S512x1024_o0_896_S512x128)

/-- Slab `k`, read whole. -/
def slab1 (arg8 : Memref sig .tc .vmem S8x512x128 .f32) (k : ℕ) (hk : k < 8) : Prog (TpuEff nD τ sig (Elt F) Λ₀ .tc) (FVec F S512x128 .f32) := do
  let v : Vec F S1x512x128 .f32 ← Prog.lift (.load arg8 (Rect.unit (s := S8x512x128) ![k, 0, 0] S1x512x128.size (inb8 hk)).toLoadRect (View.loadsAt_vmem h_S1x512x128))
  pure (shapeCast S512x128 v shapeCasts_S1x512x128_S512x128)

/-- Every `d`-th row of slab `k` from row `p` on, 32 rows of it. -/
def piece32 (arg8 : Memref sig .tc .vmem S8x512x128 .f32) (k p d : ℕ) (hk : k < 8) (hp : p + d * (32 - 1) < 512) : Prog (TpuEff nD τ sig (Elt F) Λ₀ .tc) (FVec F S32x128 .f32) := do
  let v : Vec F S1x32x128 .f32 ← Prog.lift (.load arg8 (⟨![k, p, 0], S1x32x128.size, ![1, d, 1], inbStep (h := 32) hk hp⟩ : LoadRect S8x512x128) (View.loadsAt_vmem h_S1x32x128))
  pure (shapeCast S32x128 v shapeCasts_S1x32x128_S32x128)

/-- Every `d`-th row of slab `k` from row `p` on, 128 rows of it. -/
def piece128 (arg8 : Memref sig .tc .vmem S8x512x128 .f32) (k p d : ℕ) (hk : k < 8) (hp : p + d * (128 - 1) < 512) : Prog (TpuEff nD τ sig (Elt F) Λ₀ .tc) (FVec F S128x128 .f32) := do
  let v : Vec F S1x128x128 .f32 ← Prog.lift (.load arg8 (⟨![k, p, 0], S1x128x128.size, ![1, d, 1], inbStep (h := 128) hk hp⟩ : LoadRect S8x512x128) (View.loadsAt_vmem h_S1x128x128))
  pure (shapeCast S128x128 v shapeCasts_S1x128x128_S128x128)

/-- Slab `k` in pieces of 32 rows, piece `j` from row `pj` on in steps of `d`. -/
def slab16 (arg8 : Memref sig .tc .vmem S8x512x128 .f32) (k : ℕ) (hk : k < 8) (p0 p1 p2 p3 p4 p5 p6 p7 p8 p9 p10 p11 p12 p13 p14 p15 : ℕ) (d : ℕ) (hf : ∀ p ∈ [p0, p1, p2, p3, p4, p5, p6, p7, p8, p9, p10, p11, p12, p13, p14, p15], p + d * (32 - 1) < 512) :
    Prog (TpuEff nD τ sig (Elt F) Λ₀ .tc) (FVec F S512x128 .f32) := do
  let v0 ← piece32 arg8 k p0 d hk (hf p0 (by simp))
  let v1 ← piece32 arg8 k p1 d hk (hf p1 (by simp))
  let v2 ← piece32 arg8 k p2 d hk (hf p2 (by simp))
  let v3 ← piece32 arg8 k p3 d hk (hf p3 (by simp))
  let v4 ← piece32 arg8 k p4 d hk (hf p4 (by simp))
  let v5 ← piece32 arg8 k p5 d hk (hf p5 (by simp))
  let v6 ← piece32 arg8 k p6 d hk (hf p6 (by simp))
  let v7 ← piece32 arg8 k p7 d hk (hf p7 (by simp))
  let v8 ← piece32 arg8 k p8 d hk (hf p8 (by simp))
  let v9 ← piece32 arg8 k p9 d hk (hf p9 (by simp))
  let v10 ← piece32 arg8 k p10 d hk (hf p10 (by simp))
  let v11 ← piece32 arg8 k p11 d hk (hf p11 (by simp))
  let v12 ← piece32 arg8 k p12 d hk (hf p12 (by simp))
  let v13 ← piece32 arg8 k p13 d hk (hf p13 (by simp))
  let v14 ← piece32 arg8 k p14 d hk (hf p14 (by simp))
  let v15 ← piece32 arg8 k p15 d hk (hf p15 (by simp))
  pure (concatenate S512x128 0 [⟨S32x128, v0⟩, ⟨S32x128, v1⟩, ⟨S32x128, v2⟩, ⟨S32x128, v3⟩, ⟨S32x128, v4⟩, ⟨S32x128, v5⟩, ⟨S32x128, v6⟩, ⟨S32x128, v7⟩, ⟨S32x128, v8⟩, ⟨S32x128, v9⟩, ⟨S32x128, v10⟩, ⟨S32x128, v11⟩, ⟨S32x128, v12⟩, ⟨S32x128, v13⟩, ⟨S32x128, v14⟩, ⟨S32x128, v15⟩] concatenates_S32x128_S32x128_S32x128_S32x128_S32x128_S32x128_S32x128_S32x128_S32x128_S32x128_S32x128_S32x128_S32x128_S32x128_S32x128_S32x128_S512x128_d0)

/-- Slab `k` in pieces of 128 rows, piece `j` from row `pj` on in steps of `d`. -/
def slab4 (arg8 : Memref sig .tc .vmem S8x512x128 .f32) (k : ℕ) (hk : k < 8) (p0 p1 p2 p3 : ℕ) (d : ℕ) (hf : ∀ p ∈ [p0, p1, p2, p3], p + d * (128 - 1) < 512) :
    Prog (TpuEff nD τ sig (Elt F) Λ₀ .tc) (FVec F S512x128 .f32) := do
  let v0 ← piece128 arg8 k p0 d hk (hf p0 (by simp))
  let v1 ← piece128 arg8 k p1 d hk (hf p1 (by simp))
  let v2 ← piece128 arg8 k p2 d hk (hf p2 (by simp))
  let v3 ← piece128 arg8 k p3 d hk (hf p3 (by simp))
  pure (concatenate S512x128 0 [⟨S128x128, v0⟩, ⟨S128x128, v1⟩, ⟨S128x128, v2⟩, ⟨S128x128, v3⟩] concatenates_S128x128_S128x128_S128x128_S128x128_S512x128_d0)

/-- Eight slabs side by side, in the products' type. -/
def wide (sl : ∀ k < 8, Prog (TpuEff nD τ sig (Elt F) Λ₀ .tc) (FVec F S512x128 .f32)) : Prog (TpuEff nD τ sig (Elt F) Λ₀ .tc) (FVec F S512x1024 .bf16) := do
  let v0 ← sl 0 (by decide)
  let v1 ← sl 1 (by decide)
  let v2 ← sl 2 (by decide)
  let v3 ← sl 3 (by decide)
  let v4 ← sl 4 (by decide)
  let v5 ← sl 5 (by decide)
  let v6 ← sl 6 (by decide)
  let v7 ← sl 7 (by decide)
  pure (truncf .bf16 (concatenate S512x1024 1 [⟨S512x128, v0⟩, ⟨S512x128, v1⟩, ⟨S512x128, v2⟩, ⟨S512x128, v3⟩, ⟨S512x128, v4⟩, ⟨S512x128, v5⟩, ⟨S512x128, v6⟩, ⟨S512x128, v7⟩] concatenates_S512x128_S512x128_S512x128_S512x128_S512x128_S512x128_S512x128_S512x128_S512x1024_d1) bitsLt_bf16_f32)

/-! ## The products -/

/-- The scale of the queries' logits. -/
def scale (v : FVec F S512x512 .f32) : FVec F S512x512 .f32 := mulf v (broadcast S512x512 (Named.named κ "logit_scale" 0x3E38AA3B#32))

/-- Columns `c … c+511` of the first group's block, from columns `w … w+511` of the resident weight. -/
def chunk0 (arg9 : Memref sig .tc .vmem S1024x9216 .bf16) (out : Memref sig .tc .vmem S1x1x512x3072 .bf16) (hout : out.IsWhole)
    (sc : FVec F S512x512 .f32 → FVec F S512x512 .f32) (h : FVec F S512x1024 .bf16) (w c : ℕ) (hw : w + 512 ≤ 9216) (hc : c + 512 ≤ 3072) : Prog (TpuEff nD τ sig (Elt F) Λ₀ .tc) PUnit := do
  let v : Vec F S1024x512 .bf16 ← Prog.lift (.load arg9 (Rect.unit (s := S1024x9216) ![0, w] S1024x512.size (inb2 (by decide) hw)).toLoadRect (View.loadsAt_vmem h_S1024x512))
  let _ : Vec F S1x1x512x512 .bf16 ← Prog.lift (.load out (Rect.unit (s := S1x1x512x3072) ![0, 0, 0, c] S1x1x512x512.size (inbOut hc)).toLoadRect (View.loadsAt_vmem h_S1x1x512x512))
  Prog.lift (.store out (Rect.unit (s := S1x1x512x3072) ![0, 0, 0, c] S1x1x512x512.size (inbOut hc))
    (shapeCast S1x1x512x512 (truncf .bf16 (shapeCast S1x512x512
      (sc (matmul dot_S512x1024_S1024x512_S512x512_1_0_0_1_n_n none h v (constant S512x512 .f32 0x00000000#32))) shapeCasts_S512x512_S1x512x512) bitsLt_bf16_f32) shapeCasts_S1x512x512_S1x1x512x512)
    Finset.univ (View.stores_vmem h_S1x1x512x512 (hout.storeExact_slice rfl _ (packedOut (d := 1) (r := 512) _ (by decide))) (fun _ => rfl)) (.inl rfl))

/-- Columns `c … c+511` of the second group's block, from columns `w … w+511` of the resident weight. -/
def chunk1 (arg9 : Memref sig .tc .vmem S1024x9216 .bf16) (out : Memref sig .tc .vmem S1x4x128x3072 .bf16) (hout : out.IsWhole)
    (sc : FVec F S512x512 .f32 → FVec F S512x512 .f32) (h : FVec F S512x1024 .bf16) (w c : ℕ) (hw : w + 512 ≤ 9216) (hc : c + 512 ≤ 3072) : Prog (TpuEff nD τ sig (Elt F) Λ₀ .tc) PUnit := do
  let v : Vec F S1024x512 .bf16 ← Prog.lift (.load arg9 (Rect.unit (s := S1024x9216) ![0, w] S1024x512.size (inb2 (by decide) hw)).toLoadRect (View.loadsAt_vmem h_S1024x512))
  let _ : Vec F S1x4x128x512 .bf16 ← Prog.lift (.load out (Rect.unit (s := S1x4x128x3072) ![0, 0, 0, c] S1x4x128x512.size (inbOut hc)).toLoadRect (View.loadsAt_vmem h_S1x4x128x512))
  Prog.lift (.store out (Rect.unit (s := S1x4x128x3072) ![0, 0, 0, c] S1x4x128x512.size (inbOut hc))
    (shapeCast S1x4x128x512 (truncf .bf16 (shapeCast S4x128x512
      (sc (matmul dot_S512x1024_S1024x512_S512x512_1_0_0_1_n_n none h v (constant S512x512 .f32 0x00000000#32))) shapeCasts_S512x512_S4x128x512) bitsLt_bf16_f32) shapeCasts_S4x128x512_S1x4x128x512)
    Finset.univ (View.stores_vmem h_S1x4x128x512 (hout.storeExact_slice rfl _ (packedOut (d := 4) (r := 128) _ (by decide))) (fun _ => rfl)) (.inl rfl))

/-- Columns `c … c+511` of the third group's block, from columns `w … w+511` of the resident weight. -/
def chunk2 (arg9 : Memref sig .tc .vmem S1024x9216 .bf16) (out : Memref sig .tc .vmem S1x16x32x3072 .bf16) (hout : out.IsWhole)
    (sc : FVec F S512x512 .f32 → FVec F S512x512 .f32) (h : FVec F S512x1024 .bf16) (w c : ℕ) (hw : w + 512 ≤ 9216) (hc : c + 512 ≤ 3072) : Prog (TpuEff nD τ sig (Elt F) Λ₀ .tc) PUnit := do
  let v : Vec F S1024x512 .bf16 ← Prog.lift (.load arg9 (Rect.unit (s := S1024x9216) ![0, w] S1024x512.size (inb2 (by decide) hw)).toLoadRect (View.loadsAt_vmem h_S1024x512))
  let _ : Vec F S1x16x32x512 .bf16 ← Prog.lift (.load out (Rect.unit (s := S1x16x32x3072) ![0, 0, 0, c] S1x16x32x512.size (inbOut hc)).toLoadRect (View.loadsAt_vmem h_S1x16x32x512))
  Prog.lift (.store out (Rect.unit (s := S1x16x32x3072) ![0, 0, 0, c] S1x16x32x512.size (inbOut hc))
    (shapeCast S1x16x32x512 (truncf .bf16 (shapeCast S16x32x512
      (sc (matmul dot_S512x1024_S1024x512_S512x512_1_0_0_1_n_n none h v (constant S512x512 .f32 0x00000000#32))) shapeCasts_S512x512_S16x32x512) bitsLt_bf16_f32) shapeCasts_S16x32x512_S1x16x32x512)
    Finset.univ (View.stores_vmem h_S1x16x32x512 (hout.storeExact_slice rfl _ (packedOut (d := 16) (r := 32) _ (by decide))) (fun _ => rfl)) (.inl rfl))

/-- The first group's block: its queries' rows are read in an order of their own. -/
def group0 (arg5 : Memref sig .tc .vmem S1x1x512x3072 .bf16) (harg5 : arg5.IsWhole) (arg8 : Memref sig .tc .vmem S8x512x128 .f32) (arg9 : Memref sig .tc .vmem S1024x9216 .bf16) :
    Prog (TpuEff nD τ sig (Elt F) Λ₀ .tc) PUnit := do
  let hp ← wide fun k hk => slab1 arg8 k hk
  let hq ← wide fun k hk => slab16 arg8 k hk 0 1 2 3 128 129 130 131 256 257 258 259 384 385 386 387 4 (by decide)
  chunk0 arg9 arg5 harg5 scale hq 0 0 (by decide) (by decide)
  chunk0 arg9 arg5 harg5 scale hq 512 512 (by decide) (by decide)
  chunk0 arg9 arg5 harg5 id hp 1024 1024 (by decide) (by decide)
  chunk0 arg9 arg5 harg5 id hp 1536 1536 (by decide) (by decide)
  chunk0 arg9 arg5 harg5 id hp 2048 2048 (by decide) (by decide)
  chunk0 arg9 arg5 harg5 id hp 2560 2560 (by decide) (by decide)

/-- The second group's block. -/
def group1 (arg6 : Memref sig .tc .vmem S1x4x128x3072 .bf16) (harg6 : arg6.IsWhole) (arg8 : Memref sig .tc .vmem S8x512x128 .f32) (arg9 : Memref sig .tc .vmem S1024x9216 .bf16) :
    Prog (TpuEff nD τ sig (Elt F) Λ₀ .tc) PUnit := do
  let h ← wide fun k hk => slab4 arg8 k hk 0 1 2 3 4 (by decide)
  chunk1 arg9 arg6 harg6 scale h 3072 0 (by decide) (by decide)
  chunk1 arg9 arg6 harg6 scale h 3584 512 (by decide) (by decide)
  chunk1 arg9 arg6 harg6 id h 4096 1024 (by decide) (by decide)
  chunk1 arg9 arg6 harg6 id h 4608 1536 (by decide) (by decide)
  chunk1 arg9 arg6 harg6 id h 5120 2048 (by decide) (by decide)
  chunk1 arg9 arg6 harg6 id h 5632 2560 (by decide) (by decide)

/-- The third group's block. -/
def group2 (arg7 : Memref sig .tc .vmem S1x16x32x3072 .bf16) (harg7 : arg7.IsWhole) (arg8 : Memref sig .tc .vmem S8x512x128 .f32) (arg9 : Memref sig .tc .vmem S1024x9216 .bf16) :
    Prog (TpuEff nD τ sig (Elt F) Λ₀ .tc) PUnit := do
  let h ← wide fun k hk => slab16 arg8 k hk 0 1 2 3 4 5 6 7 8 9 10 11 12 13 14 15 16 (by decide)
  chunk2 arg9 arg7 harg7 scale h 6144 0 (by decide) (by decide)
  chunk2 arg9 arg7 harg7 scale h 6656 512 (by decide) (by decide)
  chunk2 arg9 arg7 harg7 id h 7168 1024 (by decide) (by decide)
  chunk2 arg9 arg7 harg7 id h 7680 1536 (by decide) (by decide)
  chunk2 arg9 arg7 harg7 id h 8192 2048 (by decide) (by decide)
  chunk2 arg9 arg7 harg7 id h 8704 2560 (by decide) (by decide)

/-- What the body computes at every point. -/
def block (arg2 : Memref sig .tc .vmem S1x512x1024 .f32) (arg3 : Memref sig .tc .vmem S1x1024 .f32) (arg5 : Memref sig .tc .vmem S1x1x512x3072 .bf16) (harg5 : arg5.IsWhole)
    (arg6 : Memref sig .tc .vmem S1x4x128x3072 .bf16) (harg6 : arg6.IsWhole) (arg7 : Memref sig .tc .vmem S1x16x32x3072 .bf16) (harg7 : arg7.IsWhole)
    (arg8 : Memref sig .tc .vmem S8x512x128 .f32) (arg9 : Memref sig .tc .vmem S1024x9216 .bf16) : Prog (TpuEff nD τ sig (Elt F) Λ₀ .tc) PUnit := do
  let x : Vec F S1x512x1024 .f32 ← Prog.lift (.load arg2 (Rect.unit (s := S1x512x1024) ![0, 0, 0] S1x512x1024.size inb_S1x512x1024_S1x512x1024_0_0_0).toLoadRect (View.loadsAt_vmem h_S1x512x1024))
  let g : Vec F S1x1024 .f32 ← Prog.lift (.load arg3 (Rect.unit (s := S1x1024) ![0, 0] S1x1024.size inb_S1x1024_S1x1024_0_0).toLoadRect (View.loadsAt_vmem h_S1x1024))
  storeSlabs arg8 (rms (shapeCast S512x1024 x shapeCasts_S1x512x1024_S512x1024) (shapeCast S1x1024 g shapeCasts_S1x1024_S1x1024))
  group0 arg5 harg5 arg8 arg9
  group1 arg6 harg6 arg8 arg9
  group2 arg7 harg7 arg8 arg9
  pure ⟨⟩

/-- The body: at the first point the weight is made resident, then the block is computed. -/
def body (i : grid0.Coords) (arg2 : Memref sig .tc .vmem S1x512x1024 .f32) (harg2 : arg2.IsWhole) (arg3 : Memref sig .tc .vmem S1x1024 .f32) (harg3 : arg3.IsWhole) (arg4 : Memref sig .tc .hbm S1x1024x10240 .f32) (harg4 : arg4.IsWhole) (arg5 : Memref sig .tc .vmem S1x1x512x3072 .bf16) (harg5 : arg5.IsWhole) (arg6 : Memref sig .tc .vmem S1x4x128x3072 .bf16) (harg6 : arg6.IsWhole) (arg7 : Memref sig .tc .vmem S1x16x32x3072 .bf16) (harg7 : arg7.IsWhole) (arg8 : Memref sig .tc .vmem S8x512x128 .f32) (harg8 : arg8.IsWhole) (arg9 : Memref sig .tc .vmem S1024x9216 .bf16) (harg9 : arg9.IsWhole) (arg10 : Memref sig .tc .vmem S4x32x9216 .f32) (harg10 : arg10.IsWhole) (arg11 : DmaSems sig S4) :
    Prog (TpuEff nD τ sig (Elt F) Λ₀ .tc) PUnit := do
  if h1 : Scalar.cmpi .ne (Scalar.extui (Scalar.andi (Scalar.cmpi .eq (BitVec.ofNat 32 (i 0).val) 0#32) (Scalar.cmpi .eq (BitVec.ofNat 32 (i 1).val) 0#32)) : BitVec 32) 0#32 = 1#1 then do
    fillW arg4 arg9 harg9 arg10 arg11
  else do
    pure ⟨⟩
  block arg2 arg3 arg5 harg5 arg6 harg6 arg7 harg7 arg8 arg9

end Cert.QkvIdeal.Form

end
-- ==== Proof.QkvSteps.lean ====
/-
  The rules by which the projection body's pieces are verified: a statement "from `P` the program runs to `Q`", its composition
  and its frame, a load and a store of a memref whose contents are known, and the copy of some rows of a weight into
  one slot of a staging buffer.
-/
module

public import proofs.«01_k».proof.Proof.QkvForm
public import proofs.«01_k».proof.Proof.Gen.QkvIdeal.Frame
public import Idealize.ShloMosaic.PureOps.Ideal

@[expose] public section

set_option maxRecDepth 16384

noncomputable section

namespace Cert.QkvIdeal.Form

open Cert.QkvIdeal Cert.QkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-- A program of the core. -/
abbrev P (F : FTy → Type) (α : Type) := Prog (TpuEff nD τ sig (Elt F) Λ₀ .tc) α

/-- What must hold for the core to run `p` and end at `K`. -/
abbrev W (c : Dev nD) {α : Type} (p : P F α) (K : α → sProp 𝕄) : sProp 𝕄 :=
  wp frame (wpE (defs₀ (F := F)) Variants.none (c : Thread nD τ) none) Set.univ p K

/-- From `A` the program runs to `B`. -/
def Runs (c : Dev nD) (A : sProp 𝕄) (p : P F PUnit) (B : sProp 𝕄) : Prop := A ⊢ W c p (fun _ => B)

/-- Two programs one after the other. -/
theorem Runs.seq {c : Dev nD} {A B C : sProp 𝕄} {p : P F PUnit} {k : PUnit → P F PUnit}
    (h : Runs c A p B) (h' : Runs c B (k ⟨⟩) C) : Runs c A (p >>= k) C := by
  unfold Runs W
  rw [wp_bind]
  exact h.trans (wp_mono _ _ _ fun _ => h')

/-- A program run beside what it does not touch. -/
theorem Runs.frame_r {c : Dev nD} {A B : sProp 𝕄} {p : P F PUnit} (R : sProp 𝕄) (h : Runs c A p B) :
    Runs c iprop(A ∗ R) p iprop(B ∗ R) :=
  (sep_mono_left h).trans (wp_frame_r _ _ _)

/-- A stronger start and a weaker end. -/
theorem Runs.conseq {c : Dev nD} {A A' B B' : sProp 𝕄} {p : P F PUnit} (hA : A' ⊢ A) (hB : B ⊢ B') (h : Runs c A p B) :
    Runs c A' p B' :=
  hA.trans (BIBase.Entails.trans h (wp_mono _ _ _ fun _ => hB))

/-- A program that does nothing. -/
theorem Runs.done {c : Dev nD} {A B : sProp 𝕄} (h : A ⊢ B) : Runs c A (pure ⟨⟩) B :=
  h.trans (le_wp_ret (M := 𝕄) _ _ _ PUnit.unit (fun _ => B))

/-- To run a program up to a continuation it is enough to run it to the state the continuation wants. -/
theorem Runs.use {c : Dev nD} {A B : sProp 𝕄} {p : P F PUnit} (h : Runs c A p B) {k : PUnit → P F PUnit} {K : PUnit → sProp 𝕄} :
    A ⊢ iprop((B -∗ W c (k ⟨⟩) K) -∗ W c (p >>= k) K) := by
  unfold W; rw [wp_bind]
  have h' : A ⊢ W c p (fun _ => B) := h
  iintro HA Hk
  ihave Hw := h' $$ HA
  iapply (wp_wand_r (M := 𝕄)) $$ [Hw Hk]
  isplitl [Hw]; · iexact Hw
  iintro %a HB
  iapply Hk; iexact HB

/-- What a store through a rectangle leaves: the payload inside, what was there outside. -/
theorem read_access_write {sp : Space} {s : Shape} {e : EltTy} (m : Memref sig .tc sp s e) (r : Rect s)
    (f : m.view.ty.Contents (Elt F)) (w : r.shape.Idx → Elt F e) :
    (∀ j, m.view.read (Elt F) ((m.access r).write (Elt F) f w Finset.univ) (r.emb j) = w j)
    ∧ ∀ x, x ∉ r.set → m.view.read (Elt F) ((m.access r).write (Elt F) f w Finset.univ) x = m.view.read (Elt F) f x := by
  constructor
  · intro j
    exact View.read_slice_write_emb (v := m.view) r f w (Finset.mem_univ j)
  · intro x hx
    exact View.read_slice_write_of_not_mem (v := m.view) r f w _ (by rw [Rect.map_emb_univ]; exact hx)

/-- A load of a memref whose contents are known. -/
theorem load_owns (c : Dev nD) {cs : CoreSpace} {s : Shape} {e : EltTy} (m : Memref sig .tc cs s e) (q : PosShare TreeShare)
    (X : s.Idx → Elt F e) (r : Rect s) {hl : m.view.LoadsAt r.toLoadRect} {α : Type} {k : (r.shape.Idx → Elt F e) → P F α} {K : α → sProp 𝕄} :
    (owns (c : Thread nD τ) m q X : sProp 𝕄)
      ⊢ iprop((owns (c : Thread nD τ) m q X -∗ W c (k (fun j => X (r.emb j))) K) -∗ W c (Prog.lift (.load m r.toLoadRect hl) >>= k) K) := by
  unfold owns
  iintro ⟨%f, %hf, H⟩ Hk
  subst hf
  iapply (wp_load Variants.none (c : Thread nD τ) none Set.univ (m := m) (r := r.toLoadRect) (hl := hl) (k := k) (S := m.view.set)
    (View.setOn_subset_set _ _)) $$ H
  iintro H
  iapply Hk
  iexists f; isplitr
  · ipureintro; rfl
  iexact H

/-- A store into a memref held whole. -/
theorem store_owns (c : Dev nD) {cs : CoreSpace} {s : Shape} {e : EltTy} (m : Memref sig .tc cs s e)
    (X : s.Idx → Elt F e) (r : Rect s) {w : r.shape.Idx → Elt F e} {hx : (m.access r).Stores Finset.univ} {hm}
    {K : PUnit → sProp 𝕄} :
    (owns (c : Thread nD τ) m fullShare X : sProp 𝕄)
      ⊢ iprop((∀ Y, ⌜(∀ j, Y (r.emb j) = w j) ∧ ∀ x, x ∉ r.set → Y x = X x⌝ -∗ owns (c : Thread nD τ) m fullShare Y -∗ K ⟨⟩)
        -∗ W c (Prog.lift (.store m r w Finset.univ hx hm)) K) := by
  unfold owns
  iintro ⟨%f, %hf, H⟩ Hk
  subst hf
  iapply (wp_store Variants.none (c : Thread nD τ) none Set.univ (m := m) (r := r) (w := w) (hx := hx) (hm := hm) (k := Prog.ret) (S := m.view.set)
    (Finset.Subset.trans (View.setOn_subset_set _ _) (View.set_slice_subset m.view r))) $$ H
  iintro H
  iapply (le_wp_ret (M := 𝕄))
  iapply Hk $$ %(m.view.read (Elt F) ((m.access r).write (Elt F) f w Finset.univ)) [] [H]
  · ipureintro; exact read_access_write m r f w
  iexists _; isplitr
  swap
  · iexact H
  · ipureintro; rfl

end Cert.QkvIdeal.Form

end
-- ==== Proof.QkvSlots.lean ====
/-
  One slot of a staging buffer of four: the first columns of a weight's rows are copied into it and read there once they have
  landed.
-/
module

public import proofs.«01_k».proof.Proof.QkvSteps
public import Idealize.ShloMosaic.Lib.ValueLayout

@[expose] public section

set_option maxRecDepth 16384

noncomputable section

namespace Cert.QkvIdeal.Form

open Cert.QkvIdeal Cert.QkvIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

variable {n h w w' : ℕ}

/-- The weight at a row and a column, given as numbers. -/
def atRC (X : (⟨3, ![1, n, w']⟩ : Shape).Idx → F .f32) (a b : ℕ) : F .f32 :=
  if hab : a < n ∧ b < w' then X (ix3 (0 : Fin 1) ⟨a, hab.1⟩ ⟨b, hab.2⟩) else Scalar.ofBits .f32 0x00000000#32

/-- The elements of slot `s`. -/
def slotSet (buf : Memref sig .tc .vmem ⟨3, ![4, h, w]⟩ .f32) (s : ℕ) : Finset (buf.view.ty.Idx) :=
  buf.view.setOn (Finset.univ.filter fun x => (x 0).val = s)

/-- Slot `s` holds rows `r …` of the weight. -/
def Landed (c : Dev nD) (buf : Memref sig .tc .vmem ⟨3, ![4, h, w]⟩ .f32) (X : (⟨3, ![1, n, w']⟩ : Shape).Idx → F .f32) (s r : ℕ) : sProp 𝕄 :=
  iprop(∃ f, ⌜∀ x : (⟨3, ![4, h, w]⟩ : Shape).Idx, (x 0).val = s → buf.view.read (Elt F) f x = atRC X (r + (x 1).val) (x 2).val⌝
    ∗ (buf.view.loc (c : Thread nD τ) ↦[slotSet buf s]{fullShare} f))

/-- Slot `s` holds something. -/
def Any (c : Dev nD) (buf : Memref sig .tc .vmem ⟨3, ![4, h, w]⟩ .f32) (s : ℕ) : sProp 𝕄 :=
  iprop(∃ f, (buf.view.loc (c : Thread nD τ) ↦[slotSet buf s]{fullShare} f))

/-- A share of the weight in memory off the core. -/
def Src (c : Dev nD) (a : Memref sig .tc .hbm ⟨3, ![1, n, w']⟩ .f32) (q : PosShare TreeShare) (fs : a.view.ty.Contents (Elt F)) : sProp 𝕄 :=
  iprop(a.view.loc (c : Thread nD τ) ↦[a.view.set]{q} fs)

/-- Slot `s` is idle. -/
def Idle (c : Dev nD) (a : Memref sig .tc .hbm ⟨3, ![1, n, w']⟩ .f32) (buf : Memref sig .tc .vmem ⟨3, ![4, h, w]⟩ .f32) (sem : DmaSem sig)
    (q : PosShare TreeShare) (fs : a.view.ty.Contents (Elt F)) (s : ℕ) : sProp 𝕄 :=
  iprop(Any c buf s ∗ semVal ((c : Thread nD τ), SemLoc.dma sem) 0 ∗ Src c a q fs)

/-- Rows `r …` of the weight are on their way into slot `s`. -/
def Busy (c : Dev nD) (a : Memref sig .tc .hbm ⟨3, ![1, n, w']⟩ .f32) (buf : Memref sig .tc .vmem ⟨3, ![4, h, w]⟩ .f32) (sem : DmaSem sig)
    (q : PosShare TreeShare) (fs : a.view.ty.Contents (Elt F)) (s r : ℕ) : sProp 𝕄 :=
  iprop(∃ S, ⌜S ⊆ a.view.set⌝ ∗ Transfers.Flight countersEmb (c : Thread nD τ) (SemLoc.dma sem) () (buf.view.ref.dmaCredit ⟨2, ![h, w]⟩ .f32)
      iprop(Landed c buf (a.view.read (Elt F) fs) s r ∗ (a.view.loc (c : Thread nD τ) ↦[S]{q} fs))
    ∗ (a.view.loc (c : Thread nD τ) ↦[a.view.set \ S]{q} fs))

/-- The index of a slot's view, in the staging buffer. -/
theorem slot_emb (buf : Memref sig .tc .vmem ⟨3, ![4, h, w]⟩ .f32) (s : ℕ) (hb) (h1) (hq) (i : Fin h) (j : Fin w) (hs : s < 4) :
    ((buf.slice (Rect.unit (s := ⟨3, ![4, h, w]⟩) ![s, 0, 0] ![1, h, w] hb) h1).squeeze ⟨2, ![h, w]⟩ hq).view.emb (ix2 i j)
      = buf.view.emb (ix3 (⟨s, hs⟩ : Fin 4) i j) := by
  show buf.view.emb ((Rect.unit (s := ⟨3, ![4, h, w]⟩) ![s, 0, 0] ![1, h, w] hb).emb (Shape.reshapeEquiv _ (ix2 i j))) = _
  congr 1
  erw [reshapeEquiv_ix2_1ab]
  funext a
  apply Fin.ext
  rw [Rect.emb_apply]
  match a with
  | ⟨0, _⟩ => show s + 1 * 0 = s; omega
  | ⟨1, _⟩ => show 0 + 1 * i.val = i.val; omega
  | ⟨2, _⟩ => show 0 + 1 * j.val = j.val; omega

/-- The index of a block of rows of the weight, in the weight. -/
theorem rows_emb (a : Memref sig .tc .hbm ⟨3, ![1, n, w']⟩ .f32) (r : ℕ) (ha) (h1) (hq) (hr) (h2) (i : Fin h) (j : Fin w) (hi : r + i.val < n) (hw : w ≤ w') :
    (((a.slice (Rect.unit (s := ⟨3, ![1, n, w']⟩) ![0, 0, 0] ![1, n, w] ha) h1).squeeze ⟨2, ![n, w]⟩ hq).slice
      (Rect.unit (s := ⟨2, ![n, w]⟩) ![r, 0] ![h, w] hr) h2).view.emb (ix2 i j)
      = a.view.emb (ix3 (0 : Fin 1) ⟨r + i.val, hi⟩ (⟨j.val, Nat.lt_of_lt_of_le j.isLt hw⟩ : Fin w')) := by
  show a.view.emb ((Rect.unit (s := ⟨3, ![1, n, w']⟩) ![0, 0, 0] ![1, n, w] ha).emb (Shape.reshapeEquiv _
    ((Rect.unit (s := ⟨2, ![n, w]⟩) ![r, 0] ![h, w] hr).emb (ix2 i j)))) = _
  congr 1
  have e : (Rect.unit (s := ⟨2, ![n, w]⟩) ![r, 0] ![h, w] hr).emb (ix2 i j) = ix2 (⟨r + i.val, hi⟩ : Fin n) j := by
    funext a
    apply Fin.ext
    rw [Rect.emb_apply]
    match a with
    | ⟨0, _⟩ => show r + 1 * i.val = r + i.val; omega
    | ⟨1, _⟩ => show 0 + 1 * j.val = j.val; omega
  rw [e]
  erw [reshapeEquiv_ix2_1ab]
  funext a
  apply Fin.ext
  rw [Rect.emb_apply]
  match a with
  | ⟨0, _⟩ => rfl
  | ⟨1, _⟩ => show 0 + 1 * (r + i.val) = r + i.val; omega
  | ⟨2, _⟩ => show 0 + 1 * j.val = j.val; omega

/-- Two views of one buffer read the same element where their embeddings meet. -/
theorem read_same (buf : Memref sig .tc .vmem ⟨3, ![4, h, w]⟩ .f32) (s : ℕ) (hb) (h1) (hq) (hs : s < 4) (f : buf.view.ty.Contents (Elt F))
    (x : (⟨3, ![4, h, w]⟩ : Shape).Idx) (hx : (x 0).val = s) :
    buf.view.read (Elt F) f x
      = ((buf.slice (Rect.unit (s := ⟨3, ![4, h, w]⟩) ![s, 0, 0] ![1, h, w] hb) h1).squeeze ⟨2, ![h, w]⟩ hq).view.read (Elt F) f (ix2 (x 1) (x 2)) := by
  rw [View.read_apply, View.read_apply]
  have e : buf.view.emb x = ((buf.slice (Rect.unit (s := ⟨3, ![4, h, w]⟩) ![s, 0, 0] ![1, h, w] hb) h1).squeeze ⟨2, ![h, w]⟩ hq).view.emb (ix2 (x 1) (x 2)) := by
    rw [slot_emb buf s hb h1 hq (x 1) (x 2) hs]
    congr 1
    funext a
    match a with
    | ⟨0, _⟩ => exact Fin.ext hx
    | ⟨1, _⟩ => rfl
    | ⟨2, _⟩ => rfl
  rw [e]

/-- A block of rows of the weight reads the weight. -/
theorem read_rows (a : Memref sig .tc .hbm ⟨3, ![1, n, w']⟩ .f32) (r : ℕ) (ha) (h1) (hq) (hr) (h2) (f : a.view.ty.Contents (Elt F))
    (i : Fin h) (j : Fin w) (hi : r + i.val < n) (hw : w ≤ w') :
    (((a.slice (Rect.unit (s := ⟨3, ![1, n, w']⟩) ![0, 0, 0] ![1, n, w] ha) h1).squeeze ⟨2, ![n, w]⟩ hq).slice
      (Rect.unit (s := ⟨2, ![n, w]⟩) ![r, 0] ![h, w] hr) h2).view.read (Elt F) f (ix2 i j)
      = atRC (a.view.read (Elt F) f) (r + i.val) j.val := by
  unfold atRC
  rw [dif_pos ⟨hi, Nat.lt_of_lt_of_le j.isLt hw⟩, View.read_apply, View.read_apply, rows_emb a r ha h1 hq hr h2 i j hi hw]

/-- Starting a copy into an idle slot. -/
theorem start_slot (c : Dev nD) (a : Memref sig .tc .hbm ⟨3, ![1, n, w']⟩ .f32) (buf : Memref sig .tc .vmem ⟨3, ![4, h, w]⟩ .f32) (sem : DmaSem sig)
    (q : PosShare TreeShare) (fs : a.view.ty.Contents (Elt F)) (s r : ℕ) (hs : s < 4) (hrn : r + h ≤ n) (hpos : 0 < h ∧ 0 < w) (hw : w ≤ w')
    (ha) (h1) (hq) (hr) (h2) (hb) (h3) (hq') (e1) (e2) (e3) :
    Runs c (Idle c a buf sem q fs s)
      (Prog.lift (.enqueueDma (((a.slice (Rect.unit (s := ⟨3, ![1, n, w']⟩) ![0, 0, 0] ![1, n, w] ha) h1).squeeze ⟨2, ![n, w]⟩ hq).slice
          (Rect.unit (s := ⟨2, ![n, w]⟩) ![r, 0] ![h, w] hr) h2)
        (.here ((buf.slice (Rect.unit (s := ⟨3, ![4, h, w]⟩) ![s, 0, 0] ![1, h, w] hb) h3).squeeze ⟨2, ![h, w]⟩ hq')) (.dma sem) e1 e2 e3))
      (Busy c a buf sem q fs s r) := by
  unfold Runs W Idle Any Src Busy
  have hsub : (((a.slice (Rect.unit (s := ⟨3, ![1, n, w']⟩) ![0, 0, 0] ![1, n, w] ha) h1).squeeze ⟨2, ![n, w]⟩ hq).slice
      (Rect.unit (s := ⟨2, ![n, w]⟩) ![r, 0] ![h, w] hr) h2).view.set ⊆ a.view.set := by
    intro i hi
    obtain ⟨y, -, rfl⟩ := Finset.mem_map.1 hi
    have hy : r + (y 0).val < n := by have := (y 0).isLt; have : (y 0).val < h := this; omega
    have ey : y = ix2 (y 0 : Fin h) (y 1 : Fin w) := eq_ix2 _
    rw [ey]; erw [rows_emb a r ha h1 hq hr h2 (y 0) (y 1) hy hw]
    exact Finset.mem_map_of_mem _ (Finset.mem_univ _)
  have hdst : ((buf.slice (Rect.unit (s := ⟨3, ![4, h, w]⟩) ![s, 0, 0] ![1, h, w] hb) h3).squeeze ⟨2, ![h, w]⟩ hq').view.set ⊆ slotSet buf s := by
    intro i hi
    obtain ⟨y, -, rfl⟩ := Finset.mem_map.1 hi
    have ey : y = ix2 (y 0 : Fin h) (y 1 : Fin w) := eq_ix2 _
    rw [ey]; erw [slot_emb buf s hb h3 hq' (y 0) (y 1) hs]
    exact Finset.mem_map_of_mem _ (Finset.mem_filter.2 ⟨Finset.mem_univ _, rfl⟩)
  have hcr : 0 < ((buf.slice (Rect.unit (s := ⟨3, ![4, h, w]⟩) ![s, 0, 0] ![1, h, w] hb) h3).squeeze ⟨2, ![h, w]⟩ hq').view.dmaCredit := by
    refine View.dmaCredit_pos _ ?_
    exact Finset.prod_pos fun i _ => by fin_cases i; exacts [hpos.1, hpos.2]
  iintro ⟨⟨%fd, Hd⟩, Hv, Hs⟩
  ihave Hs2 := (pointsTo_split_subset (Ix := Unit) (Name := ℕ) (U := Pipeline.UD sig nD τ) (Lvl := ℕ) (q := q) (f := fs) (ℓ := a.view.loc (c : Thread nD τ)) hsub).1 $$ Hs
  icases Hs2 with ⟨Hs1, Hs2⟩
  iapply (Transfers.wp_dmaLocal countersEmb Variants.none (c : Thread nD τ) none (sm := SemLoc.dma sem) (k := Prog.ret)
    (dst := ((buf.slice (Rect.unit (s := ⟨3, ![4, h, w]⟩) ![s, 0, 0] ![1, h, w] hb) h3).squeeze ⟨2, ![h, w]⟩ hq'))
    (Sd := slotSet buf s) (fd := fd) (q := q) (fs := fs) () (buf.view.ref.dmaCredit ⟨2, ![h, w]⟩ .f32) rfl hcr hdst) $$ [Hs1 Hd Hv]
  · isplitl [Hs1]; · iexact Hs1
    isplitl [Hd]; · iexact Hd
    iexact Hv
  iintro HF
  iapply (le_wp_ret (M := 𝕄))
  iexists _; isplitr
  · ipureintro; exact hsub
  isplitl [HF]
  · iapply (Transfers.Flight_mono countersEmb ?_) $$ HF
    refine sep_mono_left ?_
    unfold Landed
    iintro H
    iexists _; isplitr
    swap
    · iexact H
    ipureintro
    intro x hx
    rw [read_same buf s hb h3 hq' hs _ x hx]
    erw [View.read_write_univ]
    have hi : r + (x 1).val < n := by have : (x 1).val < h := (x 1).isLt; omega
    exact read_rows a r ha h1 hq hr h2 fs (x 1) (x 2) hi hw
  · iexact Hs2

/-- Waiting for the copy into a slot: its rows have landed, and its cell and its share of the weight are back. -/
theorem wait_slot (c : Dev nD) (a : Memref sig .tc .hbm ⟨3, ![1, n, w']⟩ .f32) (buf : Memref sig .tc .vmem ⟨3, ![4, h, w]⟩ .f32) (sem : DmaSem sig)
    (q : PosShare TreeShare) (fs : a.view.ty.Contents (Elt F)) (s r : ℕ)
    {sp : Space} {s' : Shape} {e : EltTy} (src : Memref sig .tc sp s' e) (hb) (h3) (hq') (e1) (e2) :
    Runs c iprop(Busy c a buf sem q fs s r ∗ (∃ W, owes (c : Thread nD τ) 0 W))
      (Prog.lift (.waitDma2 sem src ((buf.slice (Rect.unit (s := ⟨3, ![4, h, w]⟩) ![s, 0, 0] ![1, h, w] hb) h3).squeeze ⟨2, ![h, w]⟩ hq') e1 e2))
      iprop(Landed c buf (a.view.read (Elt F) fs) s r ∗ semVal ((c : Thread nD τ), SemLoc.dma sem) 0 ∗ Src c a q fs
        ∗ (∃ W, owes (c : Thread nD τ) 0 W)) := by
  unfold Runs W Busy Src
  iintro ⟨⟨%S, %hS, HF, Hs2⟩, ⟨%W0, HW⟩⟩
  iapply (Transfers.wp_waitLocal countersEmb Variants.none (c : Thread nD τ) none (sem := sem) (k := Prog.ret)
    (dstw := ((buf.slice (Rect.unit (s := ⟨3, ![4, h, w]⟩) ![s, 0, 0] ![1, h, w] hb) h3).squeeze ⟨2, ![h, w]⟩ hq'))
    () (N := buf.view.ref.dmaCredit ⟨2, ![h, w]⟩ .f32) rfl) $$ [HF HW]
  · isplitl [HF]; · iexact HF
    iexact HW
  iintro ⟨⟨HL, Hs1⟩, Hv, HW⟩
  iapply (le_wp_ret (M := 𝕄))
  isplitl [HL]; · iexact HL
  isplitl [Hv]; · iexact Hv
  isplitl [Hs1 Hs2]
  · iapply (pointsTo_split_subset (Ix := Unit) (Name := ℕ) (U := Pipeline.UD sig nD τ) (Lvl := ℕ) (q := q) (f := fs) (ℓ := a.view.loc (c : Thread nD τ)) hS).2
    isplitl [Hs1]; · iexact Hs1
    iexact Hs2
  · iexists _; iexact HW

/-- A slot whose rows have been read is idle again. -/
theorem Landed.any (c : Dev nD) (buf : Memref sig .tc .vmem ⟨3, ![4, h, w]⟩ .f32) (X : (⟨3, ![1, n, w']⟩ : Shape).Idx → F .f32) (s r : ℕ) :
    (Landed c buf X s r : sProp 𝕄) ⊢ Any c buf s := by
  unfold Landed Any
  iintro ⟨%f, -, H⟩
  iexists f; iexact H

/-- A load from a slot whose rows have landed. -/
theorem load_landed (c : Dev nD) (buf : Memref sig .tc .vmem ⟨3, ![4, h, w]⟩ .f32) (X : (⟨3, ![1, n, w']⟩ : Shape).Idx → F .f32) (s r : ℕ)
    (rc : Rect ⟨3, ![4, h, w]⟩) (hrc : ∀ j, (rc.emb j 0).val = s) {hl : buf.view.LoadsAt rc.toLoadRect} {α : Type} {k : (rc.shape.Idx → Elt F .f32) → P F α} {K : α → sProp 𝕄} :
    (Landed c buf X s r : sProp 𝕄)
      ⊢ iprop((∀ v, ⌜∀ j, v j = atRC X (r + (rc.emb j 1).val) (rc.emb j 2).val⌝ -∗ Landed c buf X s r -∗ W c (k v) K)
        -∗ W c (Prog.lift (.load buf rc.toLoadRect hl) >>= k) K) := by
  unfold Landed
  iintro ⟨%f, %hf, H⟩ Hk
  have hsub : buf.view.setOn rc.toLoadRect.set ⊆ slotSet buf s := by
    intro i hi
    obtain ⟨y, hy, rfl⟩ := Finset.mem_map.1 hi
    refine Finset.mem_map_of_mem _ (Finset.mem_filter.2 ⟨Finset.mem_univ _, ?_⟩)
    have hy' : y ∈ rc.set := hy
    rw [← Rect.map_emb_univ] at hy'
    obtain ⟨j, -, rfl⟩ := Finset.mem_map.1 hy'
    exact hrc j
  iapply (wp_load Variants.none (c : Thread nD τ) none Set.univ (m := buf) (r := rc.toLoadRect) (hl := hl) (k := k) (S := slotSet buf s) hsub) $$ H
  iintro H
  iapply Hk $$ %(buf.view.readAt (Elt F) rc.toLoadRect f) [] [H]
  · ipureintro
    intro j
    exact hf _ (hrc j)
  iexists f; isplitr
  · ipureintro; exact hf
  iexact H

/-! ## The four slots of a buffer, and four shares of a weight -/

theorem slotSet_disjoint (buf : Memref sig .tc .vmem ⟨3, ![4, h, w]⟩ .f32) {s s' : ℕ} (hne : s ≠ s') : Disjoint (slotSet buf s) (slotSet buf s') := by
  rw [Finset.disjoint_left]
  intro i h1 h2
  obtain ⟨x, hx, rfl⟩ := Finset.mem_map.1 h1
  obtain ⟨y, hy, e⟩ := Finset.mem_map.1 h2
  have exy : y = x := buf.view.emb.injective e
  subst exy
  exact hne ((Finset.mem_filter.1 hx).2.symm.trans (Finset.mem_filter.1 hy).2)

theorem slotSet_union (buf : Memref sig .tc .vmem ⟨3, ![4, h, w]⟩ .f32) :
    slotSet buf 0 ∪ (slotSet buf 1 ∪ (slotSet buf 2 ∪ slotSet buf 3)) = buf.view.set := by
  ext i
  constructor
  · intro hi
    simp only [Finset.mem_union] at hi
    rcases hi with hi | hi | hi | hi <;> exact View.setOn_subset_set _ _ hi
  · intro hi
    obtain ⟨x, -, rfl⟩ := Finset.mem_map.1 hi
    have h4 : (x 0).val < 4 := (x 0).isLt
    have hm : buf.view.emb x ∈ slotSet buf (x 0).val := Finset.mem_map_of_mem _ (Finset.mem_filter.2 ⟨Finset.mem_univ _, rfl⟩)
    simp only [Finset.mem_union]
    have : (x 0).val = 0 ∨ (x 0).val = 1 ∨ (x 0).val = 2 ∨ (x 0).val = 3 := by omega
    rcases this with e | e | e | e <;> rw [e] at hm
    · exact Or.inl hm
    · exact Or.inr (Or.inl hm)
    · exact Or.inr (Or.inr (Or.inl hm))
    · exact Or.inr (Or.inr (Or.inr hm))

theorem slotSet_disjoint3 (buf : Memref sig .tc .vmem ⟨3, ![4, h, w]⟩ .f32) :
    Disjoint (slotSet buf 0) (slotSet buf 1 ∪ (slotSet buf 2 ∪ slotSet buf 3)) ∧ Disjoint (slotSet buf 1) (slotSet buf 2 ∪ slotSet buf 3)
      ∧ Disjoint (slotSet buf 2) (slotSet buf 3) :=
  ⟨Finset.disjoint_union_right.2 ⟨slotSet_disjoint buf (by decide), Finset.disjoint_union_right.2 ⟨slotSet_disjoint buf (by decide), slotSet_disjoint buf (by decide)⟩⟩,
    Finset.disjoint_union_right.2 ⟨slotSet_disjoint buf (by decide), slotSet_disjoint buf (by decide)⟩, slotSet_disjoint buf (by decide)⟩

/-- A staging buffer is its four slots. -/
theorem slots_split (c : Dev nD) (buf : Memref sig .tc .vmem ⟨3, ![4, h, w]⟩ .f32) :
    iprop(∃ f, owns (c : Thread nD τ) buf fullShare f) ⊢ (iprop(Any c buf 0 ∗ Any c buf 1 ∗ Any c buf 2 ∗ Any c buf 3) : sProp 𝕄) := by
  obtain ⟨d0, d1, d2⟩ := slotSet_disjoint3 buf
  unfold owns Any
  rw [← slotSet_union]
  iintro ⟨%d, %f, -, H⟩
  ihave H' := (pointsTo_union (Ix := Unit) (Name := ℕ) (U := Pipeline.UD sig nD τ) (Lvl := ℕ) (ℓ := buf.view.loc (c : Thread nD τ)) d0).1 $$ H
  icases H' with ⟨H0, H⟩
  ihave H' := (pointsTo_union (Ix := Unit) (Name := ℕ) (U := Pipeline.UD sig nD τ) (Lvl := ℕ) (ℓ := buf.view.loc (c : Thread nD τ)) d1).1 $$ H
  icases H' with ⟨H1, H⟩
  ihave H' := (pointsTo_union (Ix := Unit) (Name := ℕ) (U := Pipeline.UD sig nD τ) (Lvl := ℕ) (ℓ := buf.view.loc (c : Thread nD τ)) d2).1 $$ H
  icases H' with ⟨H2, H3⟩
  isplitl [H0]; · iexists _; iexact H0
  isplitl [H1]; · iexists _; iexact H1
  isplitl [H2]; · iexists _; iexact H2
  iexists _; iexact H3

/-- and the four slots are the buffer. -/
theorem slots_join (c : Dev nD) (buf : Memref sig .tc .vmem ⟨3, ![4, h, w]⟩ .f32) :
    (iprop(Any c buf 0 ∗ Any c buf 1 ∗ Any c buf 2 ∗ Any c buf 3) : sProp 𝕄) ⊢ iprop(∃ f, owns (c : Thread nD τ) buf fullShare f) := by
  obtain ⟨d0, d1, d2⟩ := slotSet_disjoint3 buf
  unfold owns Any
  rw [← slotSet_union]
  iintro ⟨⟨%f0, H0⟩, ⟨%f1, H1⟩, ⟨%f2, H2⟩, ⟨%f3, H3⟩⟩
  ihave H := (pointsTo_join (Ix := Unit) (Name := ℕ) (U := Pipeline.UD sig nD τ) (Lvl := ℕ) (ℓ := buf.view.loc (c : Thread nD τ)) d2) $$ [H2 H3]
  · isplitl [H2]; · iexact H2
    iexact H3
  ihave H' := (pointsTo_join (Ix := Unit) (Name := ℕ) (U := Pipeline.UD sig nD τ) (Lvl := ℕ) (ℓ := buf.view.loc (c : Thread nD τ)) d1) $$ [H1 H]
  · isplitl [H1]; · iexact H1
    iexact H
  ihave H'' := (pointsTo_join (Ix := Unit) (Name := ℕ) (U := Pipeline.UD sig nD τ) (Lvl := ℕ) (ℓ := buf.view.loc (c : Thread nD τ)) d0) $$ [H0 H']
  · isplitl [H0]; · iexact H0
    iexact H'
  iexists _; iexists _; isplitr
  swap
  · iexact H''
  · ipureintro; rfl

/-- A quarter of a share, for each slot. -/
def quarter (s : ℕ) : PosShare TreeShare :=
  if s = 0 then (fullShare : PosShare TreeShare).left.left else if s = 1 then (fullShare : PosShare TreeShare).left.right
  else if s = 2 then (fullShare : PosShare TreeShare).right.left else (fullShare : PosShare TreeShare).right.right

/-- The weight's four quarters. -/
theorem src_quarters (c : Dev nD) (a : Memref sig .tc .hbm ⟨3, ![1, n, w']⟩ .f32) (fs : a.view.ty.Contents (Elt F)) :
    (Src c a fullShare fs : sProp 𝕄) ⊣⊢ iprop((Src c a (quarter 0) fs ∗ Src c a (quarter 1) fs) ∗ Src c a (quarter 2) fs ∗ Src c a (quarter 3) fs) := by
  unfold Src
  have h0 := pointsTo_share (Ix := Unit) (Name := ℕ) (U := Pipeline.UD sig nD τ) (Lvl := ℕ) (ℓ := a.view.loc (c : Thread nD τ)) (I := a.view.set) (f := fs)
    (PosShare.mem_left_op_right (fullShare : PosShare TreeShare))
  have h1 := pointsTo_share (Ix := Unit) (Name := ℕ) (U := Pipeline.UD sig nD τ) (Lvl := ℕ) (ℓ := a.view.loc (c : Thread nD τ)) (I := a.view.set) (f := fs)
    (PosShare.mem_left_op_right (fullShare : PosShare TreeShare).left)
  have h2 := pointsTo_share (Ix := Unit) (Name := ℕ) (U := Pipeline.UD sig nD τ) (Lvl := ℕ) (ℓ := a.view.loc (c : Thread nD τ)) (I := a.view.set) (f := fs)
    (PosShare.mem_left_op_right (fullShare : PosShare TreeShare).right)
  refine ⟨h0.1.trans (BIClass.sep_mono h1.1 h2.1), (BIClass.sep_mono h1.2 h2.2).trans h0.2⟩

/-! ## Four slots in turn -/

section ring

variable {c : Dev nD} (Sl Id Kn : ℕ → sProp (MT nD τ sig Unit (Elt F) ℕ (Pipeline.UD sig nD τ) ℕ)) (Wt : sProp (MT nD τ sig Unit (Elt F) ℕ (Pipeline.UD sig nD τ) ℕ))

/-- Before step `j`: copies `j … j+3` are on their way, what came before is in place. -/
def Turn (j : ℕ) : sProp 𝕄 := iprop(Sl j ∗ Sl (j + 1) ∗ Sl (j + 2) ∗ Sl (j + 3) ∗ Kn j ∗ Wt)

/-- Within step `j`: copy `j` is in place and its slot idle. -/
def Turned (j : ℕ) : sProp 𝕄 := iprop(Id j ∗ Sl (j + 1) ∗ Sl (j + 2) ∗ Sl (j + 3) ∗ Kn (j + 1) ∗ Wt)

variable {Sl Id Kn Wt}

theorem Turn.land {j : ℕ} {p : P F PUnit} (hl : Runs c iprop(Sl j ∗ Kn j ∗ Wt) p iprop(Id j ∗ Kn (j + 1) ∗ Wt)) :
    Runs c (Turn Sl Kn Wt j) p (Turned Sl Id Kn Wt j) := by
  refine Runs.conseq ?_ ?_ (hl.frame_r iprop(Sl (j + 1) ∗ Sl (j + 2) ∗ Sl (j + 3)))
  · unfold Turn
    iintro ⟨H0, H1, H2, H3, HK, HW⟩
    isplitl [H0 HK HW]
    · isplitl [H0]; · iexact H0
      isplitl [HK]; · iexact HK
      iexact HW
    isplitl [H1]; · iexact H1
    isplitl [H2]; · iexact H2
    iexact H3
  · unfold Turned
    iintro ⟨⟨H0, HK, HW⟩, H1, H2, H3⟩
    isplitl [H0]; · iexact H0
    isplitl [H1]; · iexact H1
    isplitl [H2]; · iexact H2
    isplitl [H3]; · iexact H3
    isplitl [HK]; · iexact HK
    iexact HW

theorem Turned.next {j : ℕ} (hs : Id j ⊢ Sl (j + 4)) : (Turned Sl Id Kn Wt j : sProp 𝕄) ⊢ Turn Sl Kn Wt (j + 1) := by
  unfold Turned Turn
  iintro ⟨H0, H1, H2, H3, HK, HW⟩
  isplitl [H1]; · iexact H1
  isplitl [H2]; · iexact H2
  isplitl [H3]; · iexact H3
  isplitl [H0]; · iapply hs $$ H0
  isplitl [HK]; · iexact HK
  iexact HW

theorem Turned.start {j : ℕ} {p : P F PUnit} (hs : Runs c (Id j) p (Sl (j + 4))) : Runs c (Turned Sl Id Kn Wt j) p (Turn Sl Kn Wt (j + 1)) := by
  refine Runs.conseq .rfl ?_ (hs.frame_r iprop(Sl (j + 1) ∗ Sl (j + 2) ∗ Sl (j + 3) ∗ Kn (j + 1) ∗ Wt))
  unfold Turn
  iintro ⟨H0, H1, H2, H3, HK, HW⟩
  isplitl [H1]; · iexact H1
  isplitl [H2]; · iexact H2
  isplitl [H3]; · iexact H3
  isplitl [H0]; · iexact H0
  isplitl [HK]; · iexact HK
  iexact HW

/-- The first four copies. -/
theorem Turn.begin {p0 p1 p2 p3 k : P F PUnit} {C : sProp 𝕄} (h0 : Runs c (Id 0) p0 (Sl 0)) (h1 : Runs c (Id 1) p1 (Sl 1))
    (h2 : Runs c (Id 2) p2 (Sl 2)) (h3 : Runs c (Id 3) p3 (Sl 3)) (hk : Runs c (Turn Sl Kn Wt 0) k C) :
    Runs c iprop((Id 0 ∗ Id 1 ∗ Id 2 ∗ Id 3) ∗ Kn 0 ∗ Wt) (p0 >>= fun _ => p1 >>= fun _ => p2 >>= fun _ => p3 >>= fun _ => k) C := by
  unfold Runs
  iintro ⟨⟨H0, H1, H2, H3⟩, HK, HW⟩
  iapply (Runs.use h0) $$ H0
  iintro H0
  iapply (Runs.use h1) $$ H1
  iintro H1
  iapply (Runs.use h2) $$ H2
  iintro H2
  iapply (Runs.use h3) $$ H3
  iintro H3
  have hk' : Turn Sl Kn Wt 0 ⊢ W c k (fun _ => C) := hk
  iapply hk'
  unfold Turn
  isplitl [H0]; · iexact H0
  isplitl [H1]; · iexact H1
  isplitl [H2]; · iexact H2
  isplitl [H3]; · iexact H3
  isplitl [HK]; · iexact HK
  iexact HW

end ring

end Cert.QkvIdeal.Form

end
-- ==== Proof.QkvFill.lean ====
/-
  Making the projection's weight resident: each block of landed rows is cast to its place, slot by slot, until all rows are
  there.
-/
module

public import proofs.«01_k».proof.Proof.QkvSlots

@[expose] public section

set_option maxRecDepth 16384

noncomputable section

namespace Cert.QkvIdeal.Form

open Cert.QkvIdeal Cert.QkvIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-- A buffer that agrees with `X` at the indices of `p`. -/
def Known (c : Dev nD) {cs : CoreSpace} {s : Shape} {e : EltTy} (m : Memref sig .tc cs s e) (p : s.Idx → Prop) (X : s.Idx → Elt F e) : sProp 𝕄 :=
  iprop(∃ f, ⌜∀ x, p x → f x = X x⌝ ∗ owns (c : Thread nD τ) m fullShare f)

section known

variable (c : Dev nD) {cs : CoreSpace} {s : Shape} {e : EltTy} (m : Memref sig .tc cs s e) (X : s.Idx → Elt F e)

/-- Any contents agree nowhere. -/
theorem Known.start (p : s.Idx → Prop) (hp : ∀ x, ¬p x) : iprop(∃ f, owns (c : Thread nD τ) m fullShare f) ⊢ (Known c m p X : sProp 𝕄) := by
  unfold Known
  iintro ⟨%f, H⟩
  iexists f; isplitr
  · ipureintro; exact fun x hx => absurd hx (hp x)
  iexact H

/-- Contents known everywhere are the contents. -/
theorem Known.all (p : s.Idx → Prop) (hp : ∀ x, p x) : (Known c m p X : sProp 𝕄) ⊢ owns (c : Thread nD τ) m fullShare X := by
  unfold Known
  iintro ⟨%f, %hf, H⟩
  have e : f = X := funext fun x => hf x (hp x)
  subst e
  iexact H

/-- Less is known at fewer indices. -/
theorem Known.mono (p p' : s.Idx → Prop) (hp : ∀ x, p' x → p x) : (Known c m p X : sProp 𝕄) ⊢ Known c m p' X := by
  unfold Known
  iintro ⟨%f, %hf, H⟩
  iexists f; isplitr
  · ipureintro; exact fun x hx => hf x (hp x hx)
  iexact H

/-- A load of a buffer whose contents do not matter. -/
theorem load_known (p : s.Idx → Prop) (r : Rect s) {hl : m.view.LoadsAt r.toLoadRect} {α : Type} {k : (r.shape.Idx → Elt F e) → P F α} {K : α → sProp 𝕄} :
    (Known c m p X : sProp 𝕄)
      ⊢ iprop((∀ v, Known c m p X -∗ W c (k v) K) -∗ W c (Prog.lift (.load m r.toLoadRect hl) >>= k) K) := by
  unfold Known
  iintro ⟨%f, %hf, H⟩ Hk
  iapply (load_owns c m fullShare f r) $$ H
  iintro H
  iapply Hk
  iexists f; isplitr
  · ipureintro; exact hf
  iexact H

/-- A store of the right values: they are known inside the rectangle too. -/
theorem store_known (p p' : s.Idx → Prop) (r : Rect s) {w : r.shape.Idx → Elt F e} {hx : (m.access r).Stores Finset.univ} {hm}
    (hw : ∀ j, w j = X (r.emb j)) (hp : ∀ x, p' x → x ∈ r.set ∨ p x) {K : PUnit → sProp 𝕄} :
    (Known c m p X : sProp 𝕄)
      ⊢ iprop((Known c m p' X -∗ K ⟨⟩) -∗ W c (Prog.lift (.store m r w Finset.univ hx hm)) K) := by
  unfold Known
  iintro ⟨%f, %hf, H⟩ Hk
  iapply (store_owns c m f r) $$ H
  iintro %Y %hY H
  iapply Hk
  iexists Y; isplitr
  · ipureintro
    intro x hx'
    by_cases hr : x ∈ r.set
    · have hr' := hr
      rw [← Rect.map_emb_univ] at hr'
      obtain ⟨j, -, rfl⟩ := Finset.mem_map.1 hr'
      rw [hY.1 j, hw j]
    · rw [hY.2 x hr]
      exact hf x ((hp x hx').resolve_left hr)
  iexact H

end known

/-- The core's record of its waits, whatever it is. -/
def Waited (c : Dev nD) : sProp 𝕄 := iprop(∃ W, owes (c : Thread nD τ) 0 W)

/-! ## The ring: `m` copies through four slots -/

section slots

variable {n h w w' : ℕ} (c : Dev nD) (a : Memref sig .tc .hbm ⟨3, ![1, n, w']⟩ .f32) (buf : Memref sig .tc .vmem ⟨3, ![4, h, w]⟩ .f32) (sem : DmaSems sig S4)
    (fs : a.view.ty.Contents (Elt F)) (m : ℕ)

/-- Slot `k % 4` idle, with its own quarter of the weight. -/
def Rest (k : ℕ) : sProp 𝕄 := Idle c a buf (semAt sem (k % 4) (Nat.mod_lt _ (by decide))) (quarter (k % 4)) fs (k % 4)

/-- Copy `k` of `m`: on its way to its slot, which is idle when there is no such copy. -/
def Slot (k : ℕ) : sProp 𝕄 :=
  if k < m then Busy c a buf (semAt sem (k % 4) (Nat.mod_lt _ (by decide))) (quarter (k % 4)) fs (k % 4) (h * k) else Rest c a buf sem fs k

variable {c a buf sem fs m}

theorem Rest.mod {k k' : ℕ} (e : k % 4 = k' % 4) : (Rest c a buf sem fs k : sProp 𝕄) = Rest c a buf sem fs k' := by
  unfold Rest
  have : ∀ (s s' : ℕ) (hs : s < 4) (hs' : s' < 4), s = s' → (Idle c a buf (semAt sem s hs) (quarter s) fs s : sProp 𝕄)
      = Idle c a buf (semAt sem s' hs') (quarter s') fs s' := by
    intro s s' hs hs' e; subst e; rfl
  exact this _ _ _ _ e

variable {Kn : ℕ → sProp (MT nD τ sig Unit (Elt F) ℕ (Pipeline.UD sig nD τ) ℕ)} {Wt : sProp (MT nD τ sig Unit (Elt F) ℕ (Pipeline.UD sig nD τ) ℕ)}

/-- One of the first four copies is started. -/
theorem Slot.first (j : ℕ) {r s : ℕ} (hj : j < m) (er : r = h * j) (es : s = j % 4) (hs : s < 4) {p : P F PUnit}
    (hp : Runs c (Idle c a buf (semAt sem s hs) (quarter s) fs s) p (Busy c a buf (semAt sem s hs) (quarter s) fs s r)) :
    Runs c (Rest c a buf sem fs j) p (Slot c a buf sem fs m j) := by
  subst er es
  unfold Rest Slot
  rw [if_pos hj]
  exact hp

/-- A copy is put in place. -/
theorem Slot.land (j : ℕ) {r s : ℕ} (hj : j < m) (er : r = h * j) (es : s = j % 4) (hs : s < 4) {p : P F PUnit}
    (hp : Runs c iprop(Busy c a buf (semAt sem s hs) (quarter s) fs s r ∗ Kn j ∗ Wt) p
      iprop(Idle c a buf (semAt sem s hs) (quarter s) fs s ∗ Kn (j + 1) ∗ Wt)) :
    Runs c (Turn (Slot c a buf sem fs m) Kn Wt j) p (Turned (Slot c a buf sem fs m) (Rest c a buf sem fs) Kn Wt j) := by
  subst er es
  refine Turn.land ?_
  unfold Rest
  have e : (Slot c a buf sem fs m j : sProp 𝕄) = Busy c a buf (semAt sem (j % 4) (Nat.mod_lt _ (by decide))) (quarter (j % 4)) fs (j % 4) (h * j) := if_pos hj
  rw [e]
  exact hp

/-- The idle slot takes the fourth copy from here. -/
theorem Slot.start (j : ℕ) {r s : ℕ} (hj : j + 4 < m) (er : r = h * (j + 4)) (es : s = j % 4) (hs : s < 4) {p : P F PUnit}
    (hp : Runs c (Idle c a buf (semAt sem s hs) (quarter s) fs s) p (Busy c a buf (semAt sem s hs) (quarter s) fs s r)) :
    Runs c (Turned (Slot c a buf sem fs m) (Rest c a buf sem fs) Kn Wt j) p (Turn (Slot c a buf sem fs m) Kn Wt (j + 1)) := by
  refine Turned.start ?_
  rw [Rest.mod (k := j) (k' := j + 4) (by omega)]
  exact Slot.first (j + 4) hj er (by omega) hs hp

/-- No copy is left for the idle slot. -/
theorem Slot.over (j : ℕ) (hj : ¬j + 4 < m) :
    (Turned (Slot c a buf sem fs m) (Rest c a buf sem fs) Kn Wt j : sProp 𝕄) ⊢ Turn (Slot c a buf sem fs m) Kn Wt (j + 1) := by
  refine Turned.next ?_
  have e : (Slot c a buf sem fs m (j + 4) : sProp 𝕄) = Rest c a buf sem fs (j + 4) := if_neg hj
  rw [e, Rest.mod (k := j) (k' := j + 4) (by omega)]

/-- All copies are in place: all four slots are idle. -/
theorem Slot.done (hm : m % 4 = 0) : (Turn (Slot c a buf sem fs m) Kn Wt m : sProp 𝕄)
    ⊢ iprop((Rest c a buf sem fs 0 ∗ Rest c a buf sem fs 1 ∗ Rest c a buf sem fs 2 ∗ Rest c a buf sem fs 3) ∗ Kn m ∗ Wt) := by
  have e : ∀ i, (Slot c a buf sem fs m (m + i) : sProp 𝕄) = Rest c a buf sem fs i := fun i =>
    (if_neg (by omega)).trans (Rest.mod (by omega))
  have e0 := e 0
  rw [Nat.add_zero] at e0
  unfold Turn
  rw [e0, e 1, e 2, e 3]
  iintro ⟨H0, H1, H2, H3, HK, HW⟩
  isplitl [H0 H1 H2 H3]
  · isplitl [H0]; · iexact H0
    isplitl [H1]; · iexact H1
    isplitl [H2]; · iexact H2
    iexact H3
  isplitl [HK]; · iexact HK
  iexact HW

end slots

/-! ## The weight -/

/-- The resident weight, the first 9216 columns. -/
def resW (X : S1x1024x10240.Idx → F .f32) : S1024x9216.Idx → F .bf16 :=
  fun x => FloatOps.truncf .bf16 bitsLt_bf16_f32 (atRC (n := 1024) (w' := 10240) X (x 0).val (x 1).val)

/-- Slot `s` on its way with rows `r …` to idle: its rows are in place. -/
theorem landW_runs (c : Dev nD) (arg4 : Memref sig .tc .hbm S1x1024x10240 .f32) (arg9 : Memref sig .tc .vmem S1024x9216 .bf16) (harg9 : arg9.IsWhole)
    (arg10 : Memref sig .tc .vmem S4x32x9216 .f32) (arg11 : DmaSems sig S4) (X : S1x1024x10240.Idx → F .f32)
    (q : PosShare TreeShare) (fs : arg4.view.ty.Contents (Elt F)) (hX : arg4.view.read (Elt F) fs = X)
    (r s : ℕ) (hr : r + 32 ≤ 1024) (hp : 2 ∣ r) (hs : s < 4) :
    Runs c iprop(Busy (h := 32) c arg4 arg10 (semAt arg11 s hs) q fs s r ∗ Known c arg9 (fun x => (x 0).val < r) (resW X) ∗ Waited c)
      (landW arg4 arg9 harg9 arg10 arg11 r s hr hp hs)
      iprop(Idle (h := 32) c arg4 arg10 (semAt arg11 s hs) q fs s ∗ Known c arg9 (fun x => (x 0).val < r + 32) (resW X) ∗ Waited c) := by
  subst hX
  unfold landW
  refine Runs.seq (B := iprop((Landed (h := 32) c arg10 (arg4.view.read (Elt F) fs) s r ∗ semVal ((c : Thread nD τ), SemLoc.dma (semAt arg11 s hs)) 0 ∗ Src c arg4 q fs ∗ Waited c)
    ∗ Known c arg9 (fun x => (x 0).val < r) (resW (arg4.view.read (Elt F) fs)))) ?_ ?_
  · have h := (wait_slot (h := 32) c arg4 arg10 (semAt arg11 s hs) q fs s r (srcW arg4 r hr)
      (inb10 hs) (fun _ => rfl) squeezes_S1x32x9216_S32x9216 (View.wordExact_bits rfl) ((View.wordExact_bits rfl).reshape _ _)).frame_r
      (Known c arg9 (fun x => (x 0).val < r) (resW (arg4.view.read (Elt F) fs)))
    refine Runs.conseq ?_ .rfl h
    unfold Waited
    iintro ⟨HB, HK, HW⟩
    isplitl [HB HW]
    · isplitl [HB]; · iexact HB
      iexact HW
    iexact HK
  unfold Runs
  iintro ⟨⟨HL, Hv, Hs, HW⟩, HK⟩
  iapply (load_landed (h := 32) c arg10 _ s r _ (by intro j; have := (j 0).isLt; have h : (j 0).val < 1 := this; rw [Rect.emb_apply]; show s + 1 * (j 0).val = s; omega)) $$ HL
  iintro %v %hv HL
  iapply (load_known c arg9 _ _ _) $$ HK
  iintro %u HK
  iapply (store_known c arg9 _ _ (fun x => (x 0).val < r + 32) _ ?_ ?_) $$ HK
  · intro j
    obtain ⟨i, o, rfl⟩ : ∃ (i : Fin 32) (o : Fin 9216), j = ix2 i o := ⟨j 0, j 1, eq_ix2 j⟩
    rw [shapeCast_self]
    show FloatOps.truncf .bf16 bitsLt_bf16_f32 (shapeCast S32x9216 v _ (ix2 i o)) = _
    erw [shapeCast_1ab_ab_apply, hv]
    show FloatOps.truncf .bf16 bitsLt_bf16_f32 (atRC _ (r + (0 + 1 * i.val)) (0 + 1 * o.val)) = FloatOps.truncf .bf16 bitsLt_bf16_f32 (atRC _ (r + 1 * i.val) (0 + 1 * o.val))
    rw [Nat.zero_add]
  · intro x hx
    rw [Rect.mem_set_unit]
    by_cases h1 : (x 0).val < r
    · exact Or.inr h1
    refine Or.inl fun a => ?_
    match a with
    | ⟨0, _⟩ => exact ⟨Nat.le_of_not_lt h1, hx⟩
    | ⟨1, _⟩ => exact ⟨Nat.zero_le _, by have := (x 1).isLt; simpa using this⟩
  iintro HK
  unfold Idle
  isplitl [HL Hv Hs]
  · isplitl [HL]; · iapply (Landed.any c arg10 _ s r) $$ HL
    isplitl [Hv]; · iexact Hv
    iexact Hs
  isplitl [HK]; · iexact HK
  iexact HW

/-- The weight becomes resident. -/
theorem fillW_runs (c : Dev nD) (arg4 : Memref sig .tc .hbm S1x1024x10240 .f32) (arg9 : Memref sig .tc .vmem S1024x9216 .bf16) (harg9 : arg9.IsWhole)
    (arg10 : Memref sig .tc .vmem S4x32x9216 .f32) (arg11 : DmaSems sig S4) (X : S1x1024x10240.Idx → F .f32)
    (fs : arg4.view.ty.Contents (Elt F)) (hX : arg4.view.read (Elt F) fs = X) :
    Runs c iprop((Rest (h := 32) c arg4 arg10 arg11 fs 0 ∗ Rest (h := 32) c arg4 arg10 arg11 fs 1 ∗ Rest (h := 32) c arg4 arg10 arg11 fs 2 ∗ Rest (h := 32) c arg4 arg10 arg11 fs 3)
        ∗ Known c arg9 (fun x => (x 0).val < 32 * 0) (resW X) ∗ Waited c)
      (fillW arg4 arg9 harg9 arg10 arg11)
      iprop((Rest (h := 32) c arg4 arg10 arg11 fs 0 ∗ Rest (h := 32) c arg4 arg10 arg11 fs 1 ∗ Rest (h := 32) c arg4 arg10 arg11 fs 2 ∗ Rest (h := 32) c arg4 arg10 arg11 fs 3)
        ∗ Known c arg9 (fun x => (x 0).val < 32 * 32) (resW X) ∗ Waited c) := by
  have st : ∀ (q : PosShare TreeShare) (r s : ℕ) (hr : r + 32 ≤ 1024) (hs : s < 4),
      Runs c (Idle (h := 32) c arg4 arg10 (semAt arg11 s hs) q fs s) (startW arg4 arg10 arg11 r s hr hs) (Busy (h := 32) c arg4 arg10 (semAt arg11 s hs) q fs s r) :=
    fun q r s hr hs => start_slot c arg4 arg10 (semAt arg11 s hs) q fs s r hs hr (by decide) (by decide) _ _ _ _ _ _ _ _ _ _ _
  have ld := fun (q : PosShare TreeShare) (r s : ℕ) (hr : r + 32 ≤ 1024) (hp : 2 ∣ r) (hs : s < 4) => landW_runs c arg4 arg9 harg9 arg10 arg11 X q fs hX r s hr hp hs
  unfold fillW
  refine Turn.begin (Sl := Slot (h := 32) c arg4 arg10 arg11 fs 32) (Id := Rest (h := 32) c arg4 arg10 arg11 fs) (Kn := fun j => Known c arg9 (fun x => (x 0).val < 32 * j) (resW X)) (Wt := Waited c)
    (Slot.first 0 (by decide) rfl rfl (by decide) (st _ _ _ _ _)) (Slot.first 1 (by decide) rfl rfl (by decide) (st _ _ _ _ _))
    (Slot.first 2 (by decide) rfl rfl (by decide) (st _ _ _ _ _)) (Slot.first 3 (by decide) rfl rfl (by decide) (st _ _ _ _ _)) ?_
  iterate 28 refine Runs.seq (Slot.land _ (by decide) rfl rfl (by decide) (ld _ _ _ _ _ _)) (Runs.seq (Slot.start _ (by decide) rfl rfl (by decide) (st _ _ _ _ _)) ?_)
  iterate 3 refine Runs.seq (Runs.conseq .rfl (Slot.over _ (by decide)) (Slot.land _ (by decide) rfl rfl (by decide) (ld _ _ _ _ _ _))) ?_
  exact Runs.conseq .rfl ((Slot.over _ (by decide)).trans (Slot.done (by decide))) (Slot.land _ (by decide) rfl rfl (by decide) (ld _ _ _ _ _ _))

end Cert.QkvIdeal.Form

end
-- ==== Proof.QkvCompute.lean ====
/-
  The body after the weight is resident: the scaled rows go to eight slabs, the slabs' rows are read in each group's
  order, and each group's block is the product of its rows with its columns of the weight.
-/
module

public import proofs.«01_k».proof.Proof.QkvFill

@[expose] public section

set_option maxRecDepth 16384

noncomputable section

namespace Cert.QkvIdeal.Form

open Cert.QkvIdeal Cert.QkvIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-- The same for a program's last part. -/
theorem Runs.last {c : Dev nD} {A B : sProp 𝕄} {p : P F PUnit} (h : Runs c A p B) {K : PUnit → sProp 𝕄} :
    A ⊢ iprop((B -∗ K ⟨⟩) -∗ W c p K) := by
  have h' : A ⊢ W c p (fun _ => B) := h
  unfold W at h' ⊢
  iintro HA Hk
  ihave Hw := h' $$ HA
  iapply (wp_wand_r (M := 𝕄)) $$ [Hw Hk]
  isplitl [Hw]; · iexact Hw
  iintro %a HB
  iapply Hk; iexact HB

/-! ## Blocks of arrays -/

/-- The block at row `r`, column `d`. -/
def sub2 {α : Type} {n m : ℕ} (h w : ℕ) (hn : 0 < n) (hm : 0 < m) (X : (⟨2, ![n, m]⟩ : Shape).Idx → α) (r d : ℕ) : (⟨2, ![h, w]⟩ : Shape).Idx → α :=
  fun j => X (ix2 ⟨(r + (j 0).val) % n, Nat.mod_lt _ hn⟩ ⟨(d + (j 1).val) % m, Nat.mod_lt _ hm⟩)

theorem emb_sub2 {α : Type} {n m h w : ℕ} (hn : 0 < n) (hm : 0 < m) (X : (⟨2, ![n, m]⟩ : Shape).Idx → α) (r d : ℕ)
    (hb : ∀ a, (![r, d] : Fin 2 → ℕ) a + (![h, w] : Fin 2 → ℕ) a ≤ (⟨2, ![n, m]⟩ : Shape).size a) :
    (fun j => X ((Rect.unit (s := ⟨2, ![n, m]⟩) ![r, d] ![h, w] hb).emb j)) = sub2 h w hn hm X r d := by
  funext j
  unfold sub2
  congr 1
  have h0 : r + h ≤ n := hb 0
  have h1 : d + w ≤ m := hb 1
  have j0 : (j 0).val < h := (j 0).isLt
  have j1 : (j 1).val < w := (j 1).isLt
  funext a
  apply Fin.ext
  match a with
  | ⟨0, _⟩ =>
    show r + 1 * (j 0).val = (r + (j 0).val) % n
    rw [Nat.one_mul, Nat.mod_eq_of_lt (by omega)]
  | ⟨1, _⟩ =>
    show d + 1 * (j 1).val = (d + (j 1).val) % m
    rw [Nat.one_mul, Nat.mod_eq_of_lt (by omega)]

/-- A load of a block. -/
theorem load_sub2 (c : Dev nD) {cs : CoreSpace} {n m h w : ℕ} {e : EltTy} (b : Memref sig .tc cs ⟨2, ![n, m]⟩ e) (q : PosShare TreeShare)
    (X : (⟨2, ![n, m]⟩ : Shape).Idx → Elt F e) (hn : 0 < n) (hm : 0 < m) (r d : ℕ)
    {hb : ∀ a, (![r, d] : Fin 2 → ℕ) a + (![h, w] : Fin 2 → ℕ) a ≤ (⟨2, ![n, m]⟩ : Shape).size a}
    {hl : b.view.LoadsAt (Rect.unit (s := ⟨2, ![n, m]⟩) ![r, d] ![h, w] hb).toLoadRect} {α : Type}
    {k : ((⟨2, ![h, w]⟩ : Shape).Idx → Elt F e) → P F α} {K : α → sProp 𝕄} :
    (owns (c : Thread nD τ) b q X : sProp 𝕄)
      ⊢ iprop((owns (c : Thread nD τ) b q X -∗ W c (k (sub2 h w hn hm X r d)) K)
        -∗ W c (Prog.lift (.load b (Rect.unit (s := ⟨2, ![n, m]⟩) ![r, d] ![h, w] hb).toLoadRect hl) >>= k) K) := by
  rw [← emb_sub2 hn hm X r d hb]
  exact load_owns c b q X _

/-! ## Reading a buffer -/

/-- Run over a buffer holding `X`, which it leaves as it is, the program gives `v`. -/
def Reads (c : Dev nD) {cs : CoreSpace} {s : Shape} {e : EltTy} (m : Memref sig .tc cs s e) (X : s.Idx → Elt F e) {α : Type} (p : P F α) (v : α) : Prop :=
  ∀ (k : α → P F PUnit) (K : PUnit → sProp 𝕄), (owns (c : Thread nD τ) m fullShare X : sProp 𝕄)
    ⊢ iprop((owns (c : Thread nD τ) m fullShare X -∗ W c (k v) K) -∗ W c (p >>= k) K)

section reads

variable (c : Dev nD) {cs : CoreSpace} {s : Shape} {e : EltTy} (m : Memref sig .tc cs s e) (X : s.Idx → Elt F e)

/-- A value given outright. -/
theorem Reads.pure {α : Type} (v : α) : Reads c m X (Pure.pure v : P F α) v := by
  intro k K
  rw [pure_bind]
  iintro H Hk
  iapply Hk; iexact H

/-- Two programs one after the other. -/
theorem Reads.bind {α β : Type} {p : P F α} {f : α → P F β} {v : α} {w : β} (h : Reads c m X p v) (h' : Reads c m X (f v) w) :
    Reads c m X (p >>= f) w := by
  intro k K
  rw [bind_assoc]
  iintro H Hk
  iapply (h _ _) $$ H
  iintro H
  iapply (h' _ _) $$ H
  iexact Hk

/-- A load, at any spacing of its rows. -/
theorem Reads.load (r : LoadRect s) {hl : m.view.LoadsAt r} :
    Reads c m X (Prog.lift (.load m r hl) : P F (r.shape.Idx → Elt F e)) (fun j => X (r.idx j)) := by
  intro k K
  unfold owns
  iintro ⟨%f, %hf, H⟩ Hk
  subst hf
  iapply (wp_load Variants.none (c : Thread nD τ) none Set.univ (m := m) (r := r) (hl := hl) (k := k) (S := m.view.set)
    (View.setOn_subset_set _ _)) $$ H
  iintro H
  iapply Hk
  iexists f; isplitr
  · ipureintro; rfl
  iexact H

end reads

/-! ## The slabs' rows in an order -/

/-- Slab `k`, its rows taken in the order `σ`. -/
def slabP {α : Type} (X : S8x512x128.Idx → α) (k : ℕ) (σ : ℕ → ℕ) (h : ℕ) : (⟨2, ![h, 128]⟩ : Shape).Idx → α :=
  fun x => X (ix3 (⟨k % 8, Nat.mod_lt _ (by decide)⟩ : Fin 8) (⟨σ (x 0).val % 512, Nat.mod_lt _ (by decide)⟩ : Fin 512) (x 1 : Fin 128))

/-- All slabs side by side, their rows taken in the order `σ`, in the products' type. -/
def wideP (X : S8x512x128.Idx → F .f32) (σ : ℕ → ℕ) : FVec F S512x1024 .bf16 :=
  fun x => FloatOps.truncf .bf16 bitsLt_bf16_f32 (X (ix3 (⟨(x 1).val / 128 % 8, Nat.mod_lt _ (by decide)⟩ : Fin 8)
    (⟨σ (x 0).val % 512, Nat.mod_lt _ (by decide)⟩ : Fin 512) (⟨(x 1).val % 128, Nat.mod_lt _ (by decide)⟩ : Fin 128)))

section slabs

variable (c : Dev nD) (arg8 : Memref sig .tc .vmem S8x512x128 .f32) (X : S8x512x128.Idx → F .f32) (k : ℕ) (hk : k < 8)

/-- The elements a strided load reads. -/
theorem idx_slab {α : Type} (Y : S8x512x128.Idx → α) (h p d : ℕ) (hi) (hp : p + d * (h - 1) < 512)
    (h1 : (⟨3, ![1, h, 128]⟩ : Shape).ShapeCasts ⟨2, ![h, 128]⟩) (hk : k < 8) :
    shapeCast ⟨2, ![h, 128]⟩ (fun j => Y ((⟨![k, p, 0], ![1, h, 128], ![1, d, 1], hi⟩ : LoadRect S8x512x128).idx j)) h1
      = slabP Y k (fun i => p + d * i) h := by
  funext j
  obtain ⟨i, o, rfl⟩ : ∃ (i : Fin h) (o : Fin 128), j = ix2 i o := ⟨j 0, j 1, eq_ix2 j⟩
  rw [shapeCast_1ab_ab_apply]
  unfold slabP
  congr 1
  have hi' := i.isLt
  have hm : d * i.val ≤ d * (h - 1) := Nat.mul_le_mul_left _ (by omega)
  funext a
  apply Fin.ext
  match a with
  | ⟨0, _⟩ =>
    show k + 1 * 0 = k % 8
    rw [Nat.mod_eq_of_lt hk]; omega
  | ⟨1, _⟩ =>
    show p + d * i.val = (p + d * i.val) % 512
    rw [Nat.mod_eq_of_lt (by omega)]
  | ⟨2, _⟩ => show 0 + 1 * o.val = o.val; omega

theorem piece32_reads (p d : ℕ) (hp : p + d * (32 - 1) < 512) : Reads c arg8 X (piece32 arg8 k p d hk hp) (slabP X k (fun i => p + d * i) 32) := by
  rw [← idx_slab k X 32 p d (inbStep (h := 32) hk hp) hp shapeCasts_S1x32x128_S32x128 hk]
  exact Reads.bind c arg8 X (Reads.load c arg8 X _) (Reads.pure c arg8 X _)

theorem piece128_reads (p d : ℕ) (hp : p + d * (128 - 1) < 512) : Reads c arg8 X (piece128 arg8 k p d hk hp) (slabP X k (fun i => p + d * i) 128) := by
  rw [← idx_slab k X 128 p d (inbStep (h := 128) hk hp) hp shapeCasts_S1x128x128_S128x128 hk]
  exact Reads.bind c arg8 X (Reads.load c arg8 X _) (Reads.pure c arg8 X _)

/-- Equal pieces one below the other are the slab in the order that runs through them. -/
theorem stack_pieces {α : Type} (Y : S8x512x128.Idx → α) (n h d : ℕ) (f : ℕ → ℕ) (hh : 0 < h) (hnh : 512 / h = n) (hm : 512 % h = 0)
    (hc : Shape.Concatenates ((List.ofFn fun j : Fin n => (⟨⟨2, ![h, 128]⟩, slabP Y k (fun i => f j.val + d * i) h⟩ : (s : Shape) × (s.Idx → α))).map (·.1)) S512x128 0) :
    concatenate S512x128 0 (List.ofFn fun j : Fin n => (⟨⟨2, ![h, 128]⟩, slabP Y k (fun i => f j.val + d * i) h⟩ : (s : Shape) × (s.Idx → α))) hc
      = slabP Y k (fun i => f (i / h) + d * (i % h)) 512 := by
  funext x
  have hx : (x 0).val < 512 := (x 0).isLt
  have hl : (x 0).val / h < n := by
    subst hnh
    exact Nat.div_lt_div_of_lt_of_dvd (Nat.dvd_of_mod_eq_zero hm) hx
  refine concatenate_ofFn_apply (s₁ := ⟨2, ![h, 128]⟩) 0 (fun j : Fin n => slabP Y k (fun i => f j.val + d * i) h) hc rfl h rfl x ⟨(x 0).val / h, hl⟩ rfl
    (ix2 (⟨(x 0).val % h, Nat.mod_lt _ hh⟩ : Fin h) (x 1 : Fin 128)) rfl ?_
  intro b hb
  match b with
  | ⟨0, _⟩ => exact absurd rfl hb
  | ⟨1, _⟩ => rfl

/-- The slab in sixteen pieces. -/
theorem slab16_reads (f : ℕ → ℕ) (d : ℕ) (hf) :
    Reads c arg8 X (slab16 arg8 k hk (f 0) (f 1) (f 2) (f 3) (f 4) (f 5) (f 6) (f 7) (f 8) (f 9) (f 10) (f 11) (f 12) (f 13) (f 14) (f 15) d hf)
      (slabP X k (fun i => f (i / 32) + d * (i % 32)) 512) := by
  rw [← stack_pieces k X 16 32 d f (by decide) (by decide) (by decide)
    concatenates_S32x128_S32x128_S32x128_S32x128_S32x128_S32x128_S32x128_S32x128_S32x128_S32x128_S32x128_S32x128_S32x128_S32x128_S32x128_S32x128_S512x128_d0]
  unfold slab16
  iterate 16 refine Reads.bind c arg8 X (piece32_reads c arg8 X k hk _ _ _) ?_
  exact Reads.pure c arg8 X _

/-- The slab in four pieces. -/
theorem slab4_reads (f : ℕ → ℕ) (d : ℕ) (hf) :
    Reads c arg8 X (slab4 arg8 k hk (f 0) (f 1) (f 2) (f 3) d hf) (slabP X k (fun i => f (i / 128) + d * (i % 128)) 512) := by
  rw [← stack_pieces k X 4 128 d f (by decide) (by decide) (by decide) concatenates_S128x128_S128x128_S128x128_S128x128_S512x128_d0]
  unfold slab4
  iterate 4 refine Reads.bind c arg8 X (piece128_reads c arg8 X k hk _ _ _) ?_
  exact Reads.pure c arg8 X _

/-- The slab as it stands. -/
theorem slab1_reads : Reads c arg8 X (slab1 arg8 k hk) (slabP X k (fun i => i) 512) := by
  have e : shapeCast S512x128 (fun j => X ((Rect.unit (s := S8x512x128) ![k, 0, 0] S1x512x128.size (inb8 hk)).toLoadRect.idx j)) shapeCasts_S1x512x128_S512x128
      = slabP X k (fun i => i) 512 := by
    funext j
    obtain ⟨i, o, rfl⟩ : ∃ (i : Fin 512) (o : Fin 128), j = ix2 i o := ⟨j 0, j 1, eq_ix2 j⟩
    refine (shapeCast_1ab_ab_apply _ _ i o).trans ?_
    unfold slabP
    congr 1
    funext a
    apply Fin.ext
    match a with
    | ⟨0, _⟩ =>
      show k + 1 * 0 = k % 8
      rw [Nat.mod_eq_of_lt hk]; omega
    | ⟨1, _⟩ =>
      show 0 + 1 * i.val = i.val % 512
      rw [Nat.mod_eq_of_lt i.isLt]; omega
    | ⟨2, _⟩ => show 0 + 1 * o.val = o.val; omega
  rw [← e]
  exact Reads.bind c arg8 X (Reads.load c arg8 X _) (Reads.pure c arg8 X _)

end slabs

/-- Eight slabs in one order. -/
theorem wide_reads (c : Dev nD) (arg8 : Memref sig .tc .vmem S8x512x128 .f32) (X : S8x512x128.Idx → F .f32) (σ : ℕ → ℕ)
    (sl : ∀ k < 8, P F (FVec F S512x128 .f32)) (h : ∀ k hk, Reads c arg8 X (sl k hk) (slabP X k σ 512)) :
    Reads c arg8 X (wide sl) (wideP X σ) := by
  have e : truncf .bf16 (concatenate S512x1024 1 (List.ofFn fun j : Fin 8 => (⟨⟨2, ![512, 128]⟩, slabP X j.val σ 512⟩ : (s : Shape) × (s.Idx → F .f32)))
      concatenates_S512x128_S512x128_S512x128_S512x128_S512x128_S512x128_S512x128_S512x128_S512x1024_d1) bitsLt_bf16_f32 = wideP X σ := by
    funext x
    have hx : (x 1).val < 1024 := (x 1).isLt
    show FloatOps.truncf .bf16 bitsLt_bf16_f32 (concatenate S512x1024 1 _ _ x) = _
    unfold wideP
    congr 1
    refine (concatenate_ofFn_apply (t := S512x1024) (s₁ := ⟨2, ![512, 128]⟩) 1 (fun j : Fin 8 => slabP X j.val σ 512) _ rfl 128 rfl x ⟨(x 1).val / 128, by omega⟩ rfl
      (ix2 (x 0 : Fin 512) (⟨(x 1).val % 128, Nat.mod_lt _ (by decide)⟩ : Fin 128)) rfl ?_).trans rfl
    intro b hb
    match b with
    | ⟨0, _⟩ => rfl
    | ⟨1, _⟩ => exact absurd rfl hb
  rw [← e]
  unfold wide
  iterate 8 refine Reads.bind c arg8 X (h _ _) ?_
  exact Reads.pure c arg8 X _

/-! ## The slabs are written -/

/-- The slabs of an array's columns. -/
def slabsV {α : Type} (y : S512x1024.Idx → α) : S8x512x128.Idx → α :=
  fun x => y (ix2 (x 1 : Fin 512) (⟨(128 * (x 0).val + (x 2).val) % 1024, Nat.mod_lt _ (by decide)⟩ : Fin 1024))

/-- One slab is written. -/
theorem storeSlab_runs (c : Dev nD) (arg8 : Memref sig .tc .vmem S8x512x128 .f32) (y : FVec F S512x1024 .f32) (k d : ℕ) (hk : k < 8) (hs : S512x1024.Slices ![0, d] S512x128) (hd : d = 128 * k) :
    Runs c (Known c arg8 (fun x => (x 0).val < k) (slabsV y)) (storeSlab arg8 k hk (extractStridedSlice S512x128 ![0, d] y hs))
      (Known c arg8 (fun x => (x 0).val < k + 1) (slabsV y)) := by
  subst hd
  unfold Runs storeSlab
  iintro HK
  iapply (load_known c arg8 (slabsV y) _ _) $$ HK
  iintro %u HK
  iapply (store_known c arg8 (slabsV y) _ (fun x => (x 0).val < k + 1) _ ?_ ?_) $$ HK
  · intro j
    obtain ⟨i, o, q, rfl⟩ : ∃ (i : Fin 1) (o : Fin 512) (q : Fin 128), j = ix3 i o q := ⟨j 0, j 1, j 2, eq_ix3 j⟩
    refine (shapeCast_ab_1ab_apply _ _ i o q).trans ?_
    refine extractStridedSlice_apply _ _ _ _ _ ?_
    have := q.isLt
    have := i.isLt
    intro a
    match a with
    | ⟨0, _⟩ => show 0 + 1 * o.val = 0 + o.val; omega
    | ⟨1, _⟩ => show (128 * (k + 1 * i.val) + (0 + 1 * q.val)) % 1024 = 128 * k + q.val; omega
  · intro x hx
    rw [Rect.mem_set_unit]
    by_cases h1 : (x 0).val < k
    · exact Or.inr h1
    refine Or.inl fun a => ?_
    match a with
    | ⟨0, _⟩ => exact ⟨Nat.le_of_not_lt h1, hx⟩
    | ⟨1, _⟩ => exact ⟨Nat.zero_le _, by have := (x 1).isLt; simpa using this⟩
    | ⟨2, _⟩ => exact ⟨Nat.zero_le _, by have := (x 2).isLt; simpa using this⟩
  iintro HK
  iexact HK

/-- All slabs are written. -/
theorem storeSlabs_runs (c : Dev nD) (arg8 : Memref sig .tc .vmem S8x512x128 .f32) (y : FVec F S512x1024 .f32) :
    Runs c iprop(∃ f, owns (c : Thread nD τ) arg8 fullShare f) (storeSlabs arg8 y) (owns (c : Thread nD τ) arg8 fullShare (slabsV y)) := by
  have one := storeSlab_runs c arg8 y
  unfold storeSlabs
  refine Runs.conseq (Known.start c arg8 (slabsV y) (fun x => (x 0).val < 0) fun _ => Nat.not_lt_zero _) (Known.all c arg8 (slabsV y) (fun x => (x 0).val < 7 + 1) fun x => (x 0).isLt) ?_
  iterate 7 refine Runs.seq (one _ _ _ _ rfl) ?_
  exact one _ _ _ _ rfl

/-! ## A group's block -/

/-- A group's block: columns `512 q … 512 q + 511` hold product `q`, its rows cut into runs of `r`. -/
def outV {d r : ℕ} (Pr : ℕ → FVec F S512x512 .f32) : (⟨4, ![1, d, r, 3072]⟩ : Shape).Idx → F .bf16 :=
  fun x => FloatOps.truncf .bf16 bitsLt_bf16_f32 (Pr ((x 3).val / 512) (ix2 (⟨(r * (x 1).val + (x 2).val) % 512, Nat.mod_lt _ (by decide)⟩ : Fin 512)
    (⟨(x 3).val % 512, Nat.mod_lt _ (by decide)⟩ : Fin 512)))

/-- One chunk's value is its part of the block. -/
theorem chunk_val {d r : ℕ} (hdr : d * r = 512) (Pr : ℕ → FVec F S512x512 .f32) (q : ℕ) (hb)
    (h1 : S512x512.ShapeCasts ⟨3, ![d, r, 512]⟩) (h2 : (⟨3, ![d, r, 512]⟩ : Shape).ShapeCasts ⟨4, ![1, d, r, 512]⟩) (j : (⟨4, ![1, d, r, 512]⟩ : Shape).Idx) :
    shapeCast ⟨4, ![1, d, r, 512]⟩ (truncf .bf16 (shapeCast ⟨3, ![d, r, 512]⟩ (Pr q) h1) bitsLt_bf16_f32) h2 j
      = outV (d := d) (r := r) Pr ((Rect.unit (s := ⟨4, ![1, d, r, 3072]⟩) ![0, 0, 0, 512 * q] ![1, d, r, 512] hb).emb j) := by
  obtain ⟨u, a, b, o, rfl⟩ : ∃ (u : Fin 1) (a : Fin d) (b : Fin r) (o : Fin 512), j = ix4 u a b o := ⟨j 0, j 1, j 2, j 3, eq_ix4 j⟩
  rw [shapeCast_abc_1abc_apply]
  show FloatOps.truncf .bf16 bitsLt_bf16_f32 (shapeCast ⟨3, ![d, r, 512]⟩ (Pr q) h1 (ix3 a b o)) = _
  have hab : r * a.val + b.val < 512 := by
    have ha := a.isLt; have hb := b.isLt
    have : r * a.val + r ≤ r * d := by rw [← Nat.mul_succ]; exact Nat.mul_le_mul_left _ ha
    rw [Nat.mul_comm r d, hdr] at this; omega
  have e : shapeCast ⟨3, ![d, r, 512]⟩ (Pr q) h1 (ix3 a b o) = Pr q (ix2 (⟨r * a.val + b.val, hab⟩ : Fin 512) o) :=
    shapeCast_apply _ _ _ _ (by
      rw [Shape.rowMajor_val_three, Shape.rowMajor_val_two]
      show (r * a.val + b.val) * 512 + o.val = (a.val * r + b.val) * 512 + o.val
      rw [Nat.mul_comm r])
  rw [e]
  have key : ∀ (x : (⟨4, ![1, d, r, 3072]⟩ : Shape).Idx), (x 1).val = a.val → (x 2).val = b.val → (x 3).val = 512 * q + o.val →
      FloatOps.truncf .bf16 bitsLt_bf16_f32 (Pr q (ix2 (⟨r * a.val + b.val, hab⟩ : Fin 512) o)) = outV (d := d) (r := r) Pr x := by
    intro x h1 h2 h3
    have ho := o.isLt
    have eq' : (x 3).val / 512 = q := by omega
    have e1 : (⟨(r * (x 1).val + (x 2).val) % 512, Nat.mod_lt _ (by decide)⟩ : Fin 512) = ⟨r * a.val + b.val, hab⟩ :=
      Fin.ext (by show (r * (x 1).val + (x 2).val) % 512 = _; rw [h1, h2]; exact Nat.mod_eq_of_lt hab)
    have e2 : (⟨(x 3).val % 512, Nat.mod_lt _ (by decide)⟩ : Fin 512) = o := Fin.ext (by show (x 3).val % 512 = _; omega)
    unfold outV
    rw [eq', e1, e2]
  exact key _ (by show 0 + 1 * a.val = _; omega) (by show 0 + 1 * b.val = _; omega) (by show 512 * q + 1 * o.val = _; omega)

/-- The program of one chunk, for any height and number of its rows' runs. -/
def chunkG {d r : ℕ} (arg9 : Memref sig .tc .vmem S1024x9216 .bf16) (out : Memref sig .tc .vmem ⟨4, ![1, d, r, 3072]⟩ .bf16)
    (sc : FVec F S512x512 .f32 → FVec F S512x512 .f32) (h : FVec F S512x1024 .bf16) (w c : ℕ) (hw : w + 512 ≤ 9216) (hc : c + 512 ≤ 3072)
    (h1 : S512x512.ShapeCasts ⟨3, ![d, r, 512]⟩) (h2 : (⟨3, ![d, r, 512]⟩ : Shape).ShapeCasts ⟨4, ![1, d, r, 512]⟩) (h0 : 0 < (⟨4, ![1, d, r, 512]⟩ : Shape).numel)
    (hx : (out.access (Rect.unit (s := ⟨4, ![1, d, r, 3072]⟩) ![0, 0, 0, c] ![1, d, r, 512] (inbOut hc))).Stores Finset.univ) : P F PUnit := do
  let v : Vec F S1024x512 .bf16 ← Prog.lift (.load arg9 (Rect.unit (s := S1024x9216) ![0, w] S1024x512.size (inb2 (by decide) hw)).toLoadRect (View.loadsAt_vmem h_S1024x512))
  let _ : Vec F ⟨4, ![1, d, r, 512]⟩ .bf16 ← Prog.lift (.load out (Rect.unit (s := ⟨4, ![1, d, r, 3072]⟩) ![0, 0, 0, c] ![1, d, r, 512] (inbOut hc)).toLoadRect (View.loadsAt_vmem h0))
  Prog.lift (.store out (Rect.unit (s := ⟨4, ![1, d, r, 3072]⟩) ![0, 0, 0, c] ![1, d, r, 512] (inbOut hc))
    (shapeCast ⟨4, ![1, d, r, 512]⟩ (truncf .bf16 (shapeCast ⟨3, ![d, r, 512]⟩
      (sc (matmul dot_S512x1024_S1024x512_S512x512_1_0_0_1_n_n none h v (constant S512x512 .f32 0x00000000#32))) h1) bitsLt_bf16_f32) h2)
    Finset.univ hx (.inl rfl))

/-- Product `q` of a group: the queries' two are scaled. -/
def prodV (hq hp : FVec F S512x1024 .bf16) (Wr : S1024x9216.Idx → F .bf16) (off q : ℕ) : FVec F S512x512 .f32 :=
  if q < 2 then scale (matmul dot_S512x1024_S1024x512_S512x512_1_0_0_1_n_n none hq (sub2 1024 512 (by decide) (by decide) Wr 0 (off + 512 * q)) (constant S512x512 .f32 0x00000000#32))
  else matmul dot_S512x1024_S1024x512_S512x512_1_0_0_1_n_n none hp (sub2 1024 512 (by decide) (by decide) Wr 0 (off + 512 * q)) (constant S512x512 .f32 0x00000000#32)

/-- One chunk is written. -/
theorem chunk_runs {d r : ℕ} (hdr : d * r = 512) (c : Dev nD) (arg9 : Memref sig .tc .vmem S1024x9216 .bf16) (out : Memref sig .tc .vmem ⟨4, ![1, d, r, 3072]⟩ .bf16)
    (Wr : S1024x9216.Idx → F .bf16) (Pr : ℕ → FVec F S512x512 .f32) (q : ℕ)
    (sc : FVec F S512x512 .f32 → FVec F S512x512 .f32) (h : FVec F S512x1024 .bf16) (w e : ℕ) (hw : w + 512 ≤ 9216) (hc : e + 512 ≤ 3072) (h1) (h2) (h0) (hx) (he : e = 512 * q)
    (hP : sc (matmul dot_S512x1024_S1024x512_S512x512_1_0_0_1_n_n none h (sub2 1024 512 (by decide) (by decide) Wr 0 w) (constant S512x512 .f32 0x00000000#32)) = Pr q) :
    Runs c iprop(owns (c : Thread nD τ) arg9 fullShare Wr ∗ Known c out (fun x => (x 3).val < e) (outV Pr)) (chunkG arg9 out sc h w e hw hc h1 h2 h0 hx)
      iprop(owns (c : Thread nD τ) arg9 fullShare Wr ∗ Known c out (fun x => (x 3).val < e + 512) (outV Pr)) := by
  subst he
  unfold Runs chunkG
  iintro ⟨HW, HK⟩
  iapply (load_sub2 c arg9 fullShare Wr (by decide) (by decide) 0 w) $$ HW
  iintro HW
  rw [hP]
  iapply (load_known c out (outV Pr) _ _) $$ HK
  iintro %u HK
  iapply (store_known c out (outV Pr) _ (fun x => (x 3).val < 512 * q + 512) _ ?_ ?_) $$ HK
  · exact fun j => chunk_val hdr Pr q _ _ _ j
  · intro x hx
    rw [Rect.mem_set_unit]
    by_cases h1 : (x 3).val < 512 * q
    · exact Or.inr h1
    refine Or.inl fun a => ?_
    match a with
    | ⟨0, _⟩ => exact ⟨Nat.zero_le _, by have := (x 0).isLt; simpa using this⟩
    | ⟨1, _⟩ => exact ⟨Nat.zero_le _, by have := (x 1).isLt; simpa using this⟩
    | ⟨2, _⟩ => exact ⟨Nat.zero_le _, by have := (x 2).isLt; simpa using this⟩
    | ⟨3, _⟩ => exact ⟨Nat.le_of_not_lt h1, hx⟩
  iintro HK
  isplitl [HW]; · iexact HW
  iexact HK

/-- The queries' order of rows in the first group: four residues within each run of 128. -/
def order0 (i : ℕ) : ℕ := (128 * (i / 32 / 4) + i / 32 % 4) + 4 * (i % 32)

/-- The order of rows in the second group. -/
def order1 (i : ℕ) : ℕ := i / 128 + 4 * (i % 128)

/-- The order of rows in the third group. -/
def order2 (i : ℕ) : ℕ := i / 32 + 16 * (i % 32)

section groups

variable (c : Dev nD) (arg8 : Memref sig .tc .vmem S8x512x128 .f32) (arg9 : Memref sig .tc .vmem S1024x9216 .bf16) (X : S8x512x128.Idx → F .f32) (Wr : S1024x9216.Idx → F .bf16)

/-- From six chunks to the block. -/
theorem six_runs {d r : ℕ} (out : Memref sig .tc .vmem ⟨4, ![1, d, r, 3072]⟩ .bf16) (Pr : ℕ → FVec F S512x512 .f32) {p : P F PUnit}
    (h : Runs c iprop(owns (c : Thread nD τ) arg9 fullShare Wr ∗ Known c out (fun x => (x 3).val < 0) (outV (d := d) (r := r) Pr)) p
      iprop(owns (c : Thread nD τ) arg9 fullShare Wr ∗ Known c out (fun x => (x 3).val < 2560 + 512) (outV (d := d) (r := r) Pr))) :
    Runs c iprop(owns (c : Thread nD τ) arg9 fullShare Wr ∗ (∃ f, owns (c : Thread nD τ) out fullShare f)) p
      iprop(owns (c : Thread nD τ) arg9 fullShare Wr ∗ owns (c : Thread nD τ) out fullShare (outV (d := d) (r := r) Pr)) :=
  Runs.conseq (BIClass.sep_mono .rfl (Known.start c out _ _ fun _ => Nat.not_lt_zero _)) (BIClass.sep_mono .rfl (Known.all c out _ _ fun x => (x 3).isLt)) h

/-- The first group's block. -/
theorem group0_runs (arg5 : Memref sig .tc .vmem S1x1x512x3072 .bf16) (harg5 : arg5.IsWhole) :
    Runs c iprop(owns (c : Thread nD τ) arg8 fullShare X ∗ owns (c : Thread nD τ) arg9 fullShare Wr ∗ (∃ f, owns (c : Thread nD τ) arg5 fullShare f))
      (group0 arg5 harg5 arg8 arg9)
      iprop(owns (c : Thread nD τ) arg8 fullShare X ∗ owns (c : Thread nD τ) arg9 fullShare Wr
        ∗ owns (c : Thread nD τ) arg5 fullShare (outV (d := 1) (r := 512) (prodV (wideP X order0) (wideP X fun i => i) Wr 0))) := by
  have chunk := fun q sc h w e hw hc => chunk_runs (d := 1) (r := 512) rfl c arg9 arg5 Wr (prodV (wideP X order0) (wideP X fun i => i) Wr 0) q sc h w e hw hc
    shapeCasts_S512x512_S1x512x512 shapeCasts_S1x512x512_S1x1x512x512 h_S1x1x512x512 (View.stores_vmem h_S1x1x512x512 (harg5.storeExact_slice rfl _ (packedOut (d := 1) (r := 512) _ (by decide))) (fun _ => rfl))
  unfold Runs group0
  iintro ⟨H8, HR⟩
  iapply (wide_reads c arg8 X (fun i => i) _ (fun k hk => slab1_reads c arg8 X k hk) _ _) $$ H8
  iintro H8
  iapply (wide_reads c arg8 X order0 _ (fun k hk => slab16_reads c arg8 X k hk (fun j => 128 * (j / 4) + j % 4) 4 _) _ _) $$ H8
  iintro H8
  iapply (Runs.last (six_runs c arg9 Wr arg5 (prodV (wideP X order0) (wideP X fun i => i) Wr 0) ?_)) $$ HR
  · refine Runs.seq (chunk 0 _ _ _ _ (by decide) (by decide) rfl rfl) ?_
    refine Runs.seq (chunk 1 _ _ _ _ (by decide) (by decide) rfl rfl) ?_
    refine Runs.seq (chunk 2 _ _ _ _ (by decide) (by decide) rfl rfl) ?_
    refine Runs.seq (chunk 3 _ _ _ _ (by decide) (by decide) rfl rfl) ?_
    refine Runs.seq (chunk 4 _ _ _ _ (by decide) (by decide) rfl rfl) ?_
    exact chunk 5 _ _ _ _ (by decide) (by decide) rfl rfl
  iintro HR
  isplitl [H8]; · iexact H8
  iexact HR

/-- The second group's block. -/
theorem group1_runs (arg6 : Memref sig .tc .vmem S1x4x128x3072 .bf16) (harg6 : arg6.IsWhole) :
    Runs c iprop(owns (c : Thread nD τ) arg8 fullShare X ∗ owns (c : Thread nD τ) arg9 fullShare Wr ∗ (∃ f, owns (c : Thread nD τ) arg6 fullShare f))
      (group1 arg6 harg6 arg8 arg9)
      iprop(owns (c : Thread nD τ) arg8 fullShare X ∗ owns (c : Thread nD τ) arg9 fullShare Wr
        ∗ owns (c : Thread nD τ) arg6 fullShare (outV (d := 4) (r := 128) (prodV (wideP X order1) (wideP X order1) Wr 3072))) := by
  have chunk := fun q sc h w e hw hc => chunk_runs (d := 4) (r := 128) rfl c arg9 arg6 Wr (prodV (wideP X order1) (wideP X order1) Wr 3072) q sc h w e hw hc
    shapeCasts_S512x512_S4x128x512 shapeCasts_S4x128x512_S1x4x128x512 h_S1x4x128x512 (View.stores_vmem h_S1x4x128x512 (harg6.storeExact_slice rfl _ (packedOut (d := 4) (r := 128) _ (by decide))) (fun _ => rfl))
  unfold Runs group1
  iintro ⟨H8, HR⟩
  iapply (wide_reads c arg8 X order1 _ (fun k hk => slab4_reads c arg8 X k hk (fun j => j) 4 _) _ _) $$ H8
  iintro H8
  iapply (Runs.last (six_runs c arg9 Wr arg6 (prodV (wideP X order1) (wideP X order1) Wr 3072) ?_)) $$ HR
  · refine Runs.seq (chunk 0 _ _ _ _ (by decide) (by decide) rfl rfl) ?_
    refine Runs.seq (chunk 1 _ _ _ _ (by decide) (by decide) rfl rfl) ?_
    refine Runs.seq (chunk 2 _ _ _ _ (by decide) (by decide) rfl rfl) ?_
    refine Runs.seq (chunk 3 _ _ _ _ (by decide) (by decide) rfl rfl) ?_
    refine Runs.seq (chunk 4 _ _ _ _ (by decide) (by decide) rfl rfl) ?_
    exact chunk 5 _ _ _ _ (by decide) (by decide) rfl rfl
  iintro HR
  isplitl [H8]; · iexact H8
  iexact HR

/-- The third group's block. -/
theorem group2_runs (arg7 : Memref sig .tc .vmem S1x16x32x3072 .bf16) (harg7 : arg7.IsWhole) :
    Runs c iprop(owns (c : Thread nD τ) arg8 fullShare X ∗ owns (c : Thread nD τ) arg9 fullShare Wr ∗ (∃ f, owns (c : Thread nD τ) arg7 fullShare f))
      (group2 arg7 harg7 arg8 arg9)
      iprop(owns (c : Thread nD τ) arg8 fullShare X ∗ owns (c : Thread nD τ) arg9 fullShare Wr
        ∗ owns (c : Thread nD τ) arg7 fullShare (outV (d := 16) (r := 32) (prodV (wideP X order2) (wideP X order2) Wr 6144))) := by
  have chunk := fun q sc h w e hw hc => chunk_runs (d := 16) (r := 32) rfl c arg9 arg7 Wr (prodV (wideP X order2) (wideP X order2) Wr 6144) q sc h w e hw hc
    shapeCasts_S512x512_S16x32x512 shapeCasts_S16x32x512_S1x16x32x512 h_S1x16x32x512 (View.stores_vmem h_S1x16x32x512 (harg7.storeExact_slice rfl _ (packedOut (d := 16) (r := 32) _ (by decide))) (fun _ => rfl))
  unfold Runs group2
  iintro ⟨H8, HR⟩
  iapply (wide_reads c arg8 X order2 _ (fun k hk => slab16_reads c arg8 X k hk (fun j => j) 16 _) _ _) $$ H8
  iintro H8
  iapply (Runs.last (six_runs c arg9 Wr arg7 (prodV (wideP X order2) (wideP X order2) Wr 6144) ?_)) $$ HR
  · refine Runs.seq (chunk 0 _ _ _ _ (by decide) (by decide) rfl rfl) ?_
    refine Runs.seq (chunk 1 _ _ _ _ (by decide) (by decide) rfl rfl) ?_
    refine Runs.seq (chunk 2 _ _ _ _ (by decide) (by decide) rfl rfl) ?_
    refine Runs.seq (chunk 3 _ _ _ _ (by decide) (by decide) rfl rfl) ?_
    refine Runs.seq (chunk 4 _ _ _ _ (by decide) (by decide) rfl rfl) ?_
    exact chunk 5 _ _ _ _ (by decide) (by decide) rfl rfl
  iintro HR
  isplitl [H8]; · iexact H8
  iexact HR

end groups

end Cert.QkvIdeal.Form

end
-- ==== Proof.QkvBody.lean ====
/-
  The body at a point: at the first the weight becomes resident, and at every point the three blocks of the result are
  computed from it and the windows.
-/
module

public import proofs.«01_k».proof.Proof.QkvCompute

@[expose] public section

set_option maxRecDepth 16384

noncomputable section

namespace Cert.QkvIdeal.Form

open Cert.QkvIdeal Cert.QkvIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-! ## The first point -/

/-- Four transfer counters at zero. -/
def Sems (c : Dev nD) (sem : DmaSems sig S4) : sProp 𝕄 :=
  iprop(semVal ((c : Thread nD τ), SemLoc.dma (semAt sem 0 (by decide))) 0 ∗ semVal ((c : Thread nD τ), SemLoc.dma (semAt sem 1 (by decide))) 0
    ∗ semVal ((c : Thread nD τ), SemLoc.dma (semAt sem 2 (by decide))) 0 ∗ semVal ((c : Thread nD τ), SemLoc.dma (semAt sem 3 (by decide))) 0)

section rests

variable {n h w w' : ℕ} (c : Dev nD) (a : Memref sig .tc .hbm ⟨3, ![1, n, w']⟩ .f32) (buf : Memref sig .tc .vmem ⟨3, ![4, h, w]⟩ .f32) (sem : DmaSems sig S4)
    (fs : a.view.ty.Contents (Elt F))

/-- The staging buffer, its counters and the weight are four idle slots. -/
theorem rests_split : (iprop((∃ f, owns (c : Thread nD τ) buf fullShare f) ∗ Sems c sem ∗ Src c a fullShare fs) : sProp 𝕄)
    ⊢ iprop(Rest c a buf sem fs 0 ∗ Rest c a buf sem fs 1 ∗ Rest c a buf sem fs 2 ∗ Rest c a buf sem fs 3) := by
  iintro ⟨HB, HS, HA⟩
  ihave HB' := (slots_split c buf) $$ HB
  ihave HA' := (src_quarters c a fs).1 $$ HA
  unfold Sems
  icases HB' with ⟨B0, B1, B2, B3⟩
  icases HA' with ⟨⟨A0, A1⟩, A2, A3⟩
  icases HS with ⟨S0, S1, S2, S3⟩
  unfold Rest Idle
  isplitl [B0 A0 S0]
  · isplitl [B0]; · iexact B0
    isplitl [S0]; · iexact S0
    iexact A0
  isplitl [B1 A1 S1]
  · isplitl [B1]; · iexact B1
    isplitl [S1]; · iexact S1
    iexact A1
  isplitl [B2 A2 S2]
  · isplitl [B2]; · iexact B2
    isplitl [S2]; · iexact S2
    iexact A2
  isplitl [B3]; · iexact B3
  isplitl [S3]; · iexact S3
  iexact A3

/-- Four idle slots are the staging buffer, its counters and the weight. -/
theorem rests_join : (iprop(Rest c a buf sem fs 0 ∗ Rest c a buf sem fs 1 ∗ Rest c a buf sem fs 2 ∗ Rest c a buf sem fs 3) : sProp 𝕄)
    ⊢ iprop((∃ f, owns (c : Thread nD τ) buf fullShare f) ∗ Sems c sem ∗ Src c a fullShare fs) := by
  unfold Rest Idle Sems
  iintro ⟨⟨B0, S0, A0⟩, ⟨B1, S1, A1⟩, ⟨B2, S2, A2⟩, ⟨B3, S3, A3⟩⟩
  isplitl [B0 B1 B2 B3]
  · iapply (slots_join c buf)
    isplitl [B0]; · iexact B0
    isplitl [B1]; · iexact B1
    isplitl [B2]; · iexact B2
    iexact B3
  isplitl [S0 S1 S2 S3]
  · isplitl [S0]; · iexact S0
    isplitl [S1]; · iexact S1
    isplitl [S2]; · iexact S2
    iexact S3
  iapply (src_quarters c a fs).2
  isplitl [A0 A1]
  · isplitl [A0]; · iexact A0
    iexact A1
  isplitl [A2]; · iexact A2
  iexact A3

end rests

/-- The weight becomes resident, from the buffers as they are. -/
theorem first_W (c : Dev nD) (arg4 : Memref sig .tc .hbm S1x1024x10240 .f32) (arg9 : Memref sig .tc .vmem S1024x9216 .bf16) (harg9 : arg9.IsWhole)
    (arg10 : Memref sig .tc .vmem S4x32x9216 .f32) (arg11 : DmaSems sig S4) (fs : arg4.view.ty.Contents (Elt F)) :
    Runs c iprop((∃ f, owns (c : Thread nD τ) arg9 fullShare f) ∗ ((∃ f, owns (c : Thread nD τ) arg10 fullShare f) ∗ Sems c arg11 ∗ Src c arg4 fullShare fs) ∗ Waited c)
      (fillW arg4 arg9 harg9 arg10 arg11)
      iprop(owns (c : Thread nD τ) arg9 fullShare (resW (arg4.view.read (Elt F) fs)) ∗ ((∃ f, owns (c : Thread nD τ) arg10 fullShare f) ∗ Sems c arg11 ∗ Src c arg4 fullShare fs) ∗ Waited c) := by
  refine Runs.conseq ?_ ?_ (fillW_runs c arg4 arg9 harg9 arg10 arg11 _ fs rfl)
  · iintro ⟨HK, HR, HW⟩
    isplitl [HR]; · iapply (rests_split c arg4 arg10 arg11 fs) $$ HR
    isplitl [HK]
    · iapply (Known.start c arg9 _ _ ?_) $$ HK
      exact fun x => Nat.not_lt_zero _
    iexact HW
  · iintro ⟨HR, HK, HW⟩
    isplitl [HK]
    · iapply (Known.all c arg9 _ _ ?_) $$ HK
      exact fun x => (x 0).isLt
    isplitl [HR]; · iapply (rests_join c arg4 arg10 arg11 fs) $$ HR
    iexact HW

/-! ## Every point -/

/-- The block's rows, scaled. -/
def yV (x : FVec F S1x512x1024 .f32) (g : FVec F S1x1024 .f32) : FVec F S512x1024 .f32 :=
  rms (shapeCast S512x1024 x shapeCasts_S1x512x1024_S512x1024) (shapeCast S1x1024 (sub2 1 1024 (by decide) (by decide) g 0 0) shapeCasts_S1x1024_S1x1024)

/-- A group's block from scaled rows: the queries' rows in the order `σ`, the others' in the order `ρ`. -/
def groupV (d r : ℕ) (y : FVec F S512x1024 .f32) (σ ρ : ℕ → ℕ) (Wr : S1024x9216.Idx → F .bf16) (off : ℕ) : (⟨4, ![1, d, r, 3072]⟩ : Shape).Idx → F .bf16 :=
  outV (d := d) (r := r) (prodV (wideP (slabsV y) σ) (wideP (slabsV y) ρ) Wr off)

/-- The three groups' blocks. -/
def block0 (x : FVec F S1x512x1024 .f32) (g : FVec F S1x1024 .f32) (Wr : S1024x9216.Idx → F .bf16) : S1x1x512x3072.Idx → F .bf16 :=
  groupV 1 512 (yV x g) order0 (fun i => i) Wr 0
def block1 (x : FVec F S1x512x1024 .f32) (g : FVec F S1x1024 .f32) (Wr : S1024x9216.Idx → F .bf16) : S1x4x128x3072.Idx → F .bf16 :=
  groupV 4 128 (yV x g) order1 order1 Wr 3072
def block2 (x : FVec F S1x512x1024 .f32) (g : FVec F S1x1024 .f32) (Wr : S1024x9216.Idx → F .bf16) : S1x16x32x3072.Idx → F .bf16 :=
  groupV 16 32 (yV x g) order2 order2 Wr 6144

/-- A load of the rows' whole window. -/
theorem load_rows (c : Dev nD) {cs : CoreSpace} (b : Memref sig .tc cs S1x512x1024 .f32) (q : PosShare TreeShare) (X : S1x512x1024.Idx → F .f32)
    {hl : b.view.LoadsAt (Rect.unit (s := S1x512x1024) ![0, 0, 0] S1x512x1024.size inb_S1x512x1024_S1x512x1024_0_0_0).toLoadRect} {α : Type}
    {k : (S1x512x1024.Idx → Elt F .f32) → P F α} {K : α → sProp 𝕄} :
    (owns (c : Thread nD τ) b q X : sProp 𝕄)
      ⊢ iprop((owns (c : Thread nD τ) b q X -∗ W c (k X) K)
        -∗ W c (Prog.lift (.load b (Rect.unit (s := S1x512x1024) ![0, 0, 0] S1x512x1024.size inb_S1x512x1024_S1x512x1024_0_0_0).toLoadRect hl) >>= k) K) := by
  have e : (fun j => X ((Rect.unit (s := S1x512x1024) ![0, 0, 0] S1x512x1024.size inb_S1x512x1024_S1x512x1024_0_0_0).emb j)) = X := by
    funext j
    congr 1
    funext a
    apply Fin.ext
    match a with
    | ⟨0, _⟩ => show 0 + 1 * (j 0).val = (j 0).val; omega
    | ⟨1, _⟩ => show 0 + 1 * (j 1).val = (j 1).val; omega
    | ⟨2, _⟩ => show 0 + 1 * (j 2).val = (j 2).val; omega
  have h := load_owns c b q X (Rect.unit (s := S1x512x1024) ![0, 0, 0] S1x512x1024.size inb_S1x512x1024_S1x512x1024_0_0_0) (hl := hl) (k := k) (K := K)
  rw [e] at h
  exact h

section block

variable (c : Dev nD) (arg2 : Memref sig .tc .vmem S1x512x1024 .f32) (arg3 : Memref sig .tc .vmem S1x1024 .f32)
    (arg5 : Memref sig .tc .vmem S1x1x512x3072 .bf16) (harg5 : arg5.IsWhole) (arg6 : Memref sig .tc .vmem S1x4x128x3072 .bf16) (harg6 : arg6.IsWhole)
    (arg7 : Memref sig .tc .vmem S1x16x32x3072 .bf16) (harg7 : arg7.IsWhole) (arg8 : Memref sig .tc .vmem S8x512x128 .f32) (arg9 : Memref sig .tc .vmem S1024x9216 .bf16)
    (x : FVec F S1x512x1024 .f32) (g : FVec F S1x1024 .f32) (Wr : S1024x9216.Idx → F .bf16)

/-- The input windows at a point. -/
def Windows : sProp 𝕄 := iprop(owns (c : Thread nD τ) arg2 fullShare x ∗ owns (c : Thread nD τ) arg3 fullShare g)

/-- The output windows, at anything. -/
def Outs : sProp 𝕄 := iprop((∃ f, owns (c : Thread nD τ) arg5 fullShare f) ∗ (∃ f, owns (c : Thread nD τ) arg6 fullShare f) ∗ (∃ f, owns (c : Thread nD τ) arg7 fullShare f))

/-- The output windows, at their blocks. -/
def Done : sProp 𝕄 := iprop(owns (c : Thread nD τ) arg5 fullShare (block0 x g Wr) ∗ owns (c : Thread nD τ) arg6 fullShare (block1 x g Wr) ∗ owns (c : Thread nD τ) arg7 fullShare (block2 x g Wr))

/-- The blocks are computed. -/
theorem block_runs :
    Runs c iprop(Windows c arg2 arg3 x g ∗ owns (c : Thread nD τ) arg9 fullShare Wr ∗ (∃ f, owns (c : Thread nD τ) arg8 fullShare f) ∗ Outs c arg5 arg6 arg7)
      (block arg2 arg3 arg5 harg5 arg6 harg6 arg7 harg7 arg8 arg9)
      iprop(Windows c arg2 arg3 x g ∗ owns (c : Thread nD τ) arg9 fullShare Wr ∗ (∃ f, owns (c : Thread nD τ) arg8 fullShare f) ∗ Done c arg5 arg6 arg7 x g Wr) := by
  unfold Runs block Windows Outs Done
  iintro ⟨⟨H2, H3⟩, H9, H8, ⟨H5, H6, H7⟩⟩
  iapply (load_rows c arg2 fullShare x) $$ H2
  iintro H2
  iapply (load_sub2 c arg3 fullShare g (by decide) (by decide) 0 0) $$ H3
  iintro H3
  iapply (Runs.use (storeSlabs_runs c arg8 (yV x g))) $$ H8
  iintro H8
  iapply (Runs.use (group0_runs c arg8 arg9 (slabsV (yV x g)) Wr arg5 harg5)) $$ [H8 H9 H5]
  · isplitl [H8]; · iexact H8
    isplitl [H9]; · iexact H9
    iexact H5
  iintro ⟨H8, H9, H5⟩
  iapply (Runs.use (group1_runs c arg8 arg9 (slabsV (yV x g)) Wr arg6 harg6)) $$ [H8 H9 H6]
  · isplitl [H8]; · iexact H8
    isplitl [H9]; · iexact H9
    iexact H6
  iintro ⟨H8, H9, H6⟩
  iapply (Runs.use (group2_runs c arg8 arg9 (slabsV (yV x g)) Wr arg7 harg7)) $$ [H8 H9 H7]
  · isplitl [H8]; · iexact H8
    isplitl [H9]; · iexact H9
    iexact H7
  iintro ⟨H8, H9, H7⟩
  iapply (le_wp_ret (M := 𝕄))
  isplitl [H2 H3]
  · isplitl [H2]; · iexact H2
    iexact H3
  isplitl [H9]; · iexact H9
  isplitl [H8]; · iexists _; iexact H8
  isplitl [H5]; · iexact H5
  isplitl [H6]; · iexact H6
  iexact H7

end block

end Cert.QkvIdeal.Form

end
-- ==== Proof.QkvPoints.lean ====
/-
  The body at each point of the grid, over what is kept between points: before the first point the resident buffer holds
  anything, afterwards it holds the weight.
-/
module

public import proofs.«01_k».proof.Proof.QkvBody

@[expose] public section

set_option maxRecDepth 16384

noncomputable section

namespace Cert.QkvIdeal.Form

open Cert.QkvIdeal Cert.QkvIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- The kernel's own transfer counters. -/
abbrev cells : Fin 4 → SemLoc sig := fun j => (![SemLoc.dma 9, SemLoc.dma 10, SemLoc.dma 11, SemLoc.dma 12] : Fin 4 → SemLoc sig) j

theorem cells_own : Pipeline.OwnSemFacts spec0 cells := by decide

/-- The weight that the kernel copies itself. -/
def weights : Finset (Ref sig .tc) := {main_arg2}

theorem weights_sub : weights ⊆ Pipeline.restRefs sig spec0 := by decide

abbrev b8 : Memref sig .tc .vmem S8x512x128 .f32 := Memref.whole cc0_scratch0
abbrev b9 : Memref sig .tc .vmem S1024x9216 .bf16 := Memref.whole cc0_scratch1
abbrev b10 : Memref sig .tc .vmem S4x32x9216 .f32 := Memref.whole cc0_scratch2
abbrev b4 : Memref sig .tc .hbm S1x1024x10240 .f32 := Memref.whole main_arg2

/-- The resident weight. -/
def WrV (c : Dev nD) : S1024x9216.Idx → F .bf16 := resW (b4.view.read (Elt F) (V m c main_arg2))

/-- What is kept between points besides the resident weight. -/
def Kept (c : Dev nD) : sProp 𝕄 :=
  iprop(((∃ f, owns (c : Thread nD τ) b10 fullShare f) ∗ Sems c cc0_scratch3 ∗ Src c b4 fullShare (V m c main_arg2))
    ∗ (∃ f, owns (c : Thread nD τ) b8 fullShare f) ∗ (∃ r, prngReg c r))

/-- The state before point `n`: before the first the resident buffer holds anything. -/
def State (c : Dev nD) (n : ℕ) : sProp 𝕄 :=
  if n = 0 then iprop((∃ f, owns (c : Thread nD τ) b9 fullShare f) ∗ Kept m c) else iprop(owns (c : Thread nD τ) b9 fullShare (WrV m c) ∗ Kept m c)

/-- The launch's counters, one by one. -/
theorem cells_eq (c : Dev nD) : (Pipeline.ownSems0 (Ix := Unit) (Name := ℕ) (U := Pipeline.UD sig nD τ) (Lvl := ℕ) (Val := Elt F) (τ := τ) cells c : sProp 𝕄)
    = iprop(semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0) := by
  rw [Pipeline.ownSems0_eq_of_list c cells [0, 1, 2, 3] (by decide) (by decide)]; rfl

/-- The weight's array. -/
theorem weights_eq (c : Dev nD) : (bigSep weights (fun b => ((c : Thread nD τ).loc b) ↦{fullShare} V m c b) : sProp 𝕄)
    = Src c b4 fullShare (V m c main_arg2) := by
  unfold Src
  have h4 : b4.view.set = Finset.univ := View.set_whole _
  rw [h4, BI.bigSep_eq_bigSepL_of_eq [main_arg2] (by decide) (by decide)]; rfl

/-- What the launch hands over, one by one. -/
theorem launch_eq (c : Dev nD) : (Pipeline.ΦD cells spec0 weights (V m) c : sProp 𝕄)
    = iprop(iprop((∃ d, owns (c : Thread nD τ) b8 fullShare d) ∗ (∃ d, owns (c : Thread nD τ) b9 fullShare d) ∗ (∃ d, owns (c : Thread nD τ) b10 fullShare d))
      ∗ (∃ r, prngReg c r)
      ∗ iprop(semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0)
      ∗ Src c b4 fullShare (V m c main_arg2)) := by
  rw [Pipeline.ΦD_eq, scopedRest0_eq, cells_eq, weights_eq]; simp only [b8, b9, b10, owns_whole]; try rfl

/-- What the launch hands over is the state before the first point. -/
theorem launch_in (c : Dev nD) : (Pipeline.ΦD cells spec0 weights (V m) c : sProp 𝕄) ⊢ State m c 0 := by
  rw [launch_eq]
  unfold State Kept Sems
  rw [if_pos rfl]
  iintro ⟨⟨H8, H9, H10⟩, Hg, ⟨S0, S1, S2, S3⟩, A4⟩
  isplitl [H9]; · iexact H9
  isplitl [H10 S0 S1 S2 S3 A4]
  · isplitl [H10]; · iexact H10
    isplitl [S0 S1 S2 S3]
    · isplitl [S0]; · iexact S0
      isplitl [S1]; · iexact S1
      isplitl [S2]; · iexact S2
      iexact S3
    iexact A4
  isplitl [H8]; · iexact H8
  iexact Hg

/-- The state before any point gives back what the launch handed over. -/
theorem launch_out (c : Dev nD) (n : ℕ) : (State m c n : sProp 𝕄) ⊢ Pipeline.ΦD cells spec0 weights (V m) c := by
  have fresh : (State m c n : sProp 𝕄) ⊢ iprop((∃ f, owns (c : Thread nD τ) b9 fullShare f) ∗ Kept m c) := by
    unfold State
    split
    · exact .rfl
    · refine BIClass.sep_mono ?_ .rfl
      iintro H
      iexists _; iexact H
  refine fresh.trans ?_
  rw [launch_eq]
  unfold Kept Sems
  iintro ⟨H9, ⟨H10, ⟨S0, S1, S2, S3⟩, A4⟩, H8, Hg⟩
  isplitl [H8 H9 H10]
  · isplitl [H8]; · iexact H8
    isplitl [H9]; · iexact H9
    iexact H10
  isplitl [Hg]; · iexact Hg
  isplitl [S0 S1 S2 S3]
  · isplitl [S0]; · iexact S0
    isplitl [S1]; · iexact S1
    isplitl [S2]; · iexact S2
    iexact S3
  iexact A4

/-! ## One point -/

/-- Each window's buffer at a point. -/
abbrev w0 (t : Fin cfg0.N) : Memref sig .tc .vmem S1x512x1024 .f32 := win0_0.stage (cfg0.slots t 0)
abbrev w1 (t : Fin cfg0.N) : Memref sig .tc .vmem S1x1024 .f32 := win0_1.stage (cfg0.slots t 1)
abbrev w2 (t : Fin cfg0.N) : Memref sig .tc .vmem S1x1x512x3072 .bf16 := win0_2.stage (cfg0.slots t 2)
abbrev w3 (t : Fin cfg0.N) : Memref sig .tc .vmem S1x4x128x3072 .bf16 := win0_3.stage (cfg0.slots t 3)
abbrev w4 (t : Fin cfg0.N) : Memref sig .tc .vmem S1x16x32x3072 .bf16 := win0_4.stage (cfg0.slots t 4)

/-- The structured body at a point. -/
abbrev bodyF (t : Fin cfg0.N) : Prog (TpuEff nD τ sig (Elt F) Λ₀ .tc) PUnit :=
  body (grid0.coords t) (w0 t) (hstage0_0 ((cfg0.slots t 0).cast nbuf0_0)) (w1 t) (hstage0_1 ((cfg0.slots t 1).cast nbuf0_1)) (Memref.whole main_arg2) (Memref.isWhole_whole _) (w2 t) (hstage0_2 ((cfg0.slots t 2).cast nbuf0_2)) (w3 t) (hstage0_3 ((cfg0.slots t 3).cast nbuf0_3)) (w4 t) (hstage0_4 ((cfg0.slots t 4).cast nbuf0_4)) (Memref.whole cc0_scratch0) (Memref.isWhole_whole _) (Memref.whole cc0_scratch1) (Memref.isWhole_whole _) (Memref.whole cc0_scratch2) (Memref.isWhole_whole _) cc0_scratch3

/-- The branch of the body, at a point's coordinates. -/
abbrev atFirst (i : grid0.Coords) : Prop := (Scalar.cmpi .ne (Scalar.extui (Scalar.andi (Scalar.cmpi .eq (BitVec.ofNat 32 (i 0).val) 0#32) (Scalar.cmpi .eq (BitVec.ofNat 32 (i 1).val) 0#32)) : BitVec 32) 0#32) = 1#1

/-- It is taken at the first point only. -/
theorem atFirst_iff (t : Fin cfg0.N) : atFirst (grid0.coords t) ↔ t.val = 0 := by
  have ht : t.val < 32 := Nat.lt_of_lt_of_eq t.isLt N_0
  have e0 : (grid0.coords t 0).val = t.val / 16 % 2 := Pipeline.Grid.coords_val t 0 (by decide) rfl
  have e1 : (grid0.coords t 1).val = t.val / 1 % 16 := Pipeline.Grid.coords_val t 1 (by decide) rfl
  have key : ∀ n < 32, (Scalar.cmpi .ne (Scalar.extui (Scalar.andi (Scalar.cmpi .eq (BitVec.ofNat 32 (n / 16 % 2)) 0#32) (Scalar.cmpi .eq (BitVec.ofNat 32 (n / 1 % 16)) 0#32)) : BitVec 32) 0#32) = 1#1 ↔ n = 0 := by decide
  simp only [atFirst, e0, e1]
  exact key _ ht

/-- The body at a point, over windows that hold their blocks. -/
theorem bodyF_runs (c : Dev nD) (t : Fin cfg0.N) (x : FVec F S1x512x1024 .f32) (g : FVec F S1x1024 .f32) :
    Runs c iprop(State m c t.val ∗ Waited c ∗ Windows c (w0 t) (w1 t) x g ∗ Outs c (w2 t) (w3 t) (w4 t))
      (bodyF t)
      iprop(State m c (t.val + 1) ∗ Waited c ∗ Windows c (w0 t) (w1 t) x g ∗ Done c (w2 t) (w3 t) (w4 t) x g (WrV m c)) := by
  have blk := block_runs c (w0 t) (w1 t) (w2 t) (hstage0_2 ((cfg0.slots t 2).cast nbuf0_2)) (w3 t) (hstage0_3 ((cfg0.slots t 3).cast nbuf0_3)) (w4 t) (hstage0_4 ((cfg0.slots t 4).cast nbuf0_4)) b8 b9 x g (WrV m c)
  unfold State
  rw [if_neg (Nat.succ_ne_zero _)]
  have go : Runs c iprop((owns (c : Thread nD τ) b9 fullShare (WrV m c) ∗ Kept m c) ∗ Waited c ∗ Windows c (w0 t) (w1 t) x g ∗ Outs c (w2 t) (w3 t) (w4 t))
      (block (w0 t) (w1 t) (w2 t) (hstage0_2 ((cfg0.slots t 2).cast nbuf0_2)) (w3 t) (hstage0_3 ((cfg0.slots t 3).cast nbuf0_3)) (w4 t) (hstage0_4 ((cfg0.slots t 4).cast nbuf0_4)) b8 b9)
      iprop((owns (c : Thread nD τ) b9 fullShare (WrV m c) ∗ Kept m c) ∗ Waited c ∗ Windows c (w0 t) (w1 t) x g ∗ Done c (w2 t) (w3 t) (w4 t) x g (WrV m c)) := by
    unfold Runs Kept
    iintro ⟨⟨HR, K1, K8, Kg⟩, HW, Hw, HO⟩
    iapply (Runs.last blk) $$ [HR K8 Hw HO]
    · isplitl [Hw]; · iexact Hw
      isplitl [HR]; · iexact HR
      isplitl [K8]; · iexact K8
      iexact HO
    iintro ⟨Hw, HR, K8, HO⟩
    isplitl [HR K1 K8 Kg]
    · isplitl [HR]; · iexact HR
      isplitl [K1]; · iexact K1
      isplitl [K8]; · iexact K8
      iexact Kg
    isplitl [HW]; · iexact HW
    isplitl [Hw]; · iexact Hw
    iexact HO
  by_cases h0 : t.val = 0
  · rw [if_pos h0]
    unfold bodyF body
    rw [dif_pos ((atFirst_iff t).mpr h0)]
    have one := first_W c b4 b9 (Memref.isWhole_whole _) b10 cc0_scratch3 (V m c main_arg2)
    refine Runs.seq (B := iprop((owns (c : Thread nD τ) b9 fullShare (WrV m c) ∗ Kept m c) ∗ Waited c ∗ Windows c (w0 t) (w1 t) x g ∗ Outs c (w2 t) (w3 t) (w4 t))) ?_ go
    unfold Runs Kept
    iintro ⟨⟨H9, K1, K8, Kg⟩, HW, Hw, HO⟩
    iapply (Runs.last one) $$ [H9 K1 HW]
    · isplitl [H9]; · iexact H9
      isplitl [K1]; · iexact K1
      iexact HW
    iintro ⟨H9, K1, HW⟩
    isplitl [H9 K1 K8 Kg]
    · isplitl [H9]; · iexact H9
      isplitl [K1]; · iexact K1
      isplitl [K8]; · iexact K8
      iexact Kg
    isplitl [HW]; · iexact HW
    isplitl [Hw]; · iexact Hw
    iexact HO
  · rw [if_neg h0]
    unfold bodyF body
    rw [dif_neg (fun h => h0 ((atFirst_iff t).mp h))]
    exact go

end Cert.QkvIdeal.Form

end
-- ==== Proof.QkvRun.lean ====
/-
  The whole launch: from the body at one point to the run of the program, which leaves in each block of the outputs its
  value, every argument unchanged and every counter at zero.  All of it is stated for any values, given that the
  printed body is the structured one.
-/
module

public import proofs.«01_k».proof.Proof.QkvPoints

@[expose] public section

set_option maxRecDepth 16384

noncomputable section

namespace Cert.QkvIdeal.Form

open Cert.QkvIdeal Cert.QkvIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- The program up to its one region. -/
theorem start (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The values of the outputs' blocks at a point. -/
def outBlk2 (c : Dev nD) (t : Fin cfg0.N) : S1x1x512x3072.Idx → F .bf16 := block0 (iblk m c 0 t) (iblk m c 1 t) (WrV m c)
def outBlk3 (c : Dev nD) (t : Fin cfg0.N) : S1x4x128x3072.Idx → F .bf16 := block1 (iblk m c 0 t) (iblk m c 1 t) (WrV m c)
def outBlk4 (c : Dev nD) (t : Fin cfg0.N) : S1x16x32x3072.Idx → F .bf16 := block2 (iblk m c 0 t) (iblk m c 1 t) (WrV m c)

/-- What the launch is proved with: the arrays as the region finds them, each input's block left in place, each output's
    block at its value. -/
def data (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => outBlk2 m c t
    | ⟨3, _⟩ => outBlk3 m c t
    | ⟨4, _⟩ => outBlk4 m c t
  Φ t := State m c t.val
  q _ := fullShare
  owed _ := 0

theorem data_A (c : Dev nD) (w : Fin cfg0.W) : (data m 0 c).A w = V m c (Pipeline.arrRef spec0 w) := by
  dsimp only [data]

theorem after0 (c : Dev nD) (t : Fin cfg0.N) : (data m 0 c).after 0 t = iblk m c 0 t := by dsimp only [data]
theorem after1 (c : Dev nD) (t : Fin cfg0.N) : (data m 0 c).after 1 t = iblk m c 1 t := by dsimp only [data]
theorem after2 (c : Dev nD) (t : Fin cfg0.N) : (data m 0 c).after 2 t = outBlk2 m c t := by dsimp only [data]
theorem after3 (c : Dev nD) (t : Fin cfg0.N) : (data m 0 c).after 3 t = outBlk3 m c t := by dsimp only [data]
theorem after4 (c : Dev nD) (t : Fin cfg0.N) : (data m 0 c).after 4 t = outBlk4 m c t := by dsimp only [data]

/-! An input's window holds its block at every point. -/

theorem before0 (c : Dev nD) (t : Fin cfg0.N) (d) : (data m 0 c).before 0 t d = iblk m c 0 t :=
  ((data m 0 c).before_in_eq_fetched 0 rfl (fun _ => rfl) (fun _ _ _ => rfl) (fun t => by rw [after0]; unfold Dat.blockOf iblk; rw [data_A]; try rfl) t d).trans
    (by unfold Dat.fetched Dat.blockOf iblk; rw [data_A]; try rfl)
theorem before1 (c : Dev nD) (t : Fin cfg0.N) (d) : (data m 0 c).before 1 t d = iblk m c 1 t :=
  ((data m 0 c).before_in_eq_fetched 1 rfl (fun _ => rfl) (fun _ _ _ => rfl) (fun t => by rw [after1]; unfold Dat.blockOf iblk; rw [data_A]; try rfl) t d).trans
    (by unfold Dat.fetched Dat.blockOf iblk; rw [data_A]; try rfl)

/-- What the body is called with at a point. -/
def BodyPre (c : Dev nD) (t : Fin cfg0.N) : sProp 𝕄 :=
  iprop((data m 0 c).Φ t.castSucc ∗ (data m 0 c).owesAt () t.castSucc
    ∗ (∃ d, owns (c : Thread nD τ) (w0 t) fullShare ((data m 0 c).before 0 t d))
    ∗ (∃ d, owns (c : Thread nD τ) (w1 t) fullShare ((data m 0 c).before 1 t d))
    ∗ (∃ d, owns (c : Thread nD τ) (w2 t) fullShare ((data m 0 c).before 2 t d))
    ∗ (∃ d, owns (c : Thread nD τ) (w3 t) fullShare ((data m 0 c).before 3 t d))
    ∗ (∃ d, owns (c : Thread nD τ) (w4 t) fullShare ((data m 0 c).before 4 t d)))

/-- What the body returns. -/
def BodyPost (c : Dev nD) (t : Fin cfg0.N) : sProp 𝕄 :=
  iprop((data m 0 c).Φ t.succ ∗ (data m 0 c).owesAt () t.succ
    ∗ owns (c : Thread nD τ) (w0 t) fullShare ((data m 0 c).after 0 t)
    ∗ owns (c : Thread nD τ) (w1 t) fullShare ((data m 0 c).after 1 t)
    ∗ owns (c : Thread nD τ) (w2 t) fullShare ((data m 0 c).after 2 t)
    ∗ owns (c : Thread nD τ) (w3 t) fullShare ((data m 0 c).after 3 t)
    ∗ owns (c : Thread nD τ) (w4 t) fullShare ((data m 0 c).after 4 t))

/-- The structured body takes the one to the other. -/
theorem bodyF_sound (c : Dev nD) (t : Fin cfg0.N) : Runs c (BodyPre m c t) (bodyF t) (BodyPost m c t) := by
  unfold BodyPre BodyPost
  simp only [before0, before1]
  rw [after0, after1, after2, after3, after4,
    show (data m 0 c).Φ t.castSucc = State m c t.val from rfl, show (data m 0 c).Φ t.succ = State m c (t.val + 1) from rfl]
  unfold Dat.owesAt Pipeline.owesWithin
  rw [show (data m 0 c).owed t.castSucc = 0 from rfl, show (data m 0 c).owed t.succ = 0 from rfl]
  have h := bodyF_runs m c t (iblk m c 0 t) (iblk m c 1 t)
  refine Runs.conseq ?_ ?_ h
  · unfold Windows Waited Outs
    iintro ⟨HS, ⟨%W, -, HW⟩, ⟨%d0, H0⟩, ⟨%d1, H1⟩, ⟨%d2, H2⟩, ⟨%d3, H3⟩, ⟨%d4, H4⟩⟩
    isplitl [HS]; · iexact HS
    isplitl [HW]; · iexists _; iexact HW
    isplitl [H0 H1]
    · isplitl [H0]; · iexact H0
      iexact H1
    isplitl [H2]; · iexists _; iexact H2
    isplitl [H3]; · iexists _; iexact H3
    iexists _; iexact H4
  · unfold Windows Waited Done outBlk2 outBlk3 outBlk4
    iintro ⟨HS, ⟨%W, HW⟩, ⟨H0, H1⟩, H2, H3, H4⟩
    isplitl [HS]; · iexact HS
    isplitl [HW]
    · iexists W; isplitr; · ipureintro; exact fun _ _ => Or.inl trivial
      iexact HW
    isplitl [H0]; · iexact H0
    isplitl [H1]; · iexact H1
    isplitl [H2]; · iexact H2
    isplitl [H3]; · iexact H3
    iexact H4

/-- The table's row at a point is the body there. -/
theorem row (t : Fin cfg0.N) : defs₀ (F := F) .tc cfg0.body (cfg0.bodyArgs t (cfg0.slots t)) = bodyAt0 t := by
  unfold defs₀; rw [Defs.onTc_tc]

variable (hE : ∀ t : Fin cfg0.N, bodyAt0 (F := F) t = bodyF t)
include hE

/-- The printed body meets its obligation at every point. -/
theorem obligation (c : Dev nD) : BodyObligation (data (F := F) m 0 c) (defs₀ (F := F)) Variants.none () Set.univ := fun t => by
  rw [bigSep_W0, bigSep_W0, row, hE]
  exact triple_restated (bodyF_sound m c t) rfl .rfl fun _ => .rfl

/-- The launch's state is handed over and given back. -/
theorem data_in (c : Dev nD) : Pipeline.ΦD cells spec0 weights (V m) c ⊢ (data m 0 c).Φ 0 := launch_in m c

theorem data_out (c : Dev nD) : (data m 0 c).Φ (Fin.last cfg0.N) ⊢ Pipeline.ΦD cells spec0 weights (V m) c := launch_out m c (Fin.last cfg0.N).val

set_option backward.isDefEq.respectTransparency.types false in
/-- The launch: the arrays end at what the points wrote, every other array as the region found it, every counter at zero. -/
theorem run : θ_run defs (onTc (τ := τ) (main (F := F))) (s₀ m ρ) (fun r => Pipeline.FramePost cfgs (data m) 0 (V m) r ∧ r.2.sem = fun _ => 0) :=
  Pipeline.θ_run_frame_dma (Q' := _) cfgs (data m) (0 : Fin 1) launch0 cells defs₀ Variants.none cells_own weights weights_sub m ρ main
    (hbody := fun c => (obligation m hE c).loose) (hshare := fun c => (data m 0 c).share_full fun _ => rfl)
    (howed := fun _ _ => rfl) (V := V m) (hmain := start m Variants.none) (hA := data_A m) (hin := data_in m hE) (hout := data_out m hE)

/-- The arguments end unchanged, the results at what the points wrote, every counter at zero. -/
theorem run_value : θ_run defs (onTc (τ := τ) (main (F := F))) ⟨m, fun _ => 0, ρ⟩ (fun r => (∀ c : Dev nD,
      r.2.mem ((c.tc : Thread nD τ).loc main_v1_0) = (data m 0 c).arrAt 2 cfg0.N
      ∧ r.2.mem ((c.tc : Thread nD τ).loc main_v1_1) = (data m 0 c).arrAt 3 cfg0.N
      ∧ r.2.mem ((c.tc : Thread nD τ).loc main_v1_2) = (data m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  have rest (b : Ref sig .tc) (h : b ∈ Pipeline.restRefs sig spec0) {r : PUnit × MemSt nD τ sig (Elt F)} (hr : Pipeline.FramePost cfgs (data m) 0 (V m) r) (c : Dev nD) :
      r.2.mem ((c.tc : Thread nD τ).loc b) = V m c b := (hr c).2 b h
  (θ_run defs _ _).mono (fun _ h => ⟨fun c => ⟨(h.1 c).1 2, (h.1 c).1 3, (h.1 c).1 4,
    ((h.1 c).1 0).trans (((data m 0 c).arrAt_in 0 rfl _).trans ((data_A m c 0).trans (V_main_arg0 m c))),
    (rest main_arg1 (Pipeline.mem_restRefs_of _ (by decide) (by decide)) h.1 c).trans (V_main_arg1 m c),
    (rest main_arg2 (Pipeline.mem_restRefs_of _ (by decide) (by decide)) h.1 c).trans (V_main_arg2 m c)⟩, h.2⟩) (run m ρ hE)

end Cert.QkvIdeal.Form

end
-- ==== Proof.QkvPlainEq.lean ====
/-
  The structured body read with each named number at its printed word, and the printed body of the kernel as it runs, which
  is that form of it.
-/
module

public import proofs.«01_k».proof.Qkv
public import proofs.«01_k».proof.Proof.QkvForm
public import Idealize.ShloMosaic.PureOps.BitExact

@[expose] public section

set_option maxRecDepth 65536
set_option maxHeartbeats 0

noncomputable section

namespace Cert.QkvIdeal.Form

open Idealize.ShloMosaic Idealize.ShloMosaic.TcCoe Idealize.SL.Sem
open scoped Idealize.ShloMosaic.ProgEq

/-- Each named number at its printed word. -/
@[instance_reducible] def words {F : FTy → Type} [FloatOps F] : Named F := ⟨fun _ _ {φ} b => FloatOps.ofBits φ b⟩

/-- The structured body with each named number at its printed word. -/
def plain {F : FTy → Type} [FloatOps F] [Cert.QkvIdeal.Facts] (i : grid0.Coords) (arg2 : Memref sig .tc .vmem S1x512x1024 .f32) (harg2 : arg2.IsWhole) (arg3 : Memref sig .tc .vmem S1x1024 .f32) (harg3 : arg3.IsWhole) (arg4 : Memref sig .tc .hbm S1x1024x10240 .f32) (harg4 : arg4.IsWhole) (arg5 : Memref sig .tc .vmem S1x1x512x3072 .bf16) (harg5 : arg5.IsWhole) (arg6 : Memref sig .tc .vmem S1x4x128x3072 .bf16) (harg6 : arg6.IsWhole) (arg7 : Memref sig .tc .vmem S1x16x32x3072 .bf16) (harg7 : arg7.IsWhole) (arg8 : Memref sig .tc .vmem S8x512x128 .f32) (harg8 : arg8.IsWhole) (arg9 : Memref sig .tc .vmem S1024x9216 .bf16) (harg9 : arg9.IsWhole) (arg10 : Memref sig .tc .vmem S4x32x9216 .f32) (harg10 : arg10.IsWhole) (arg11 : DmaSems sig S4) :
    Prog (TpuEff nD τ sig (Elt F) Λ₀ .tc) PUnit :=
  @body F _ words _ i arg2 harg2 arg3 harg3 arg4 harg4 arg5 harg5 arg6 harg6 arg7 harg7 arg8 harg8 arg9 harg9 arg10 harg10 arg11

prog_eq qkvPlainEq : Cert.Qkv.cc0_qkv_projection Cert.QkvIdeal.Form.plain from Cert.Qkv to Cert.QkvIdeal at Bits inferInstance by intros; rfl

end Cert.QkvIdeal.Form

end
-- ==== Proof.QkvBitsEq.lean ====
/-
  The printed body is the structured form of it, effect by effect, at the bit model too.
-/
module

public import proofs.«01_k».proof.Proof.QkvForm
public import Idealize.ShloMosaic.PureOps.BitExact

@[expose] public section

set_option maxRecDepth 65536
set_option maxHeartbeats 0

namespace Cert.QkvIdeal.Form

open Idealize.ShloMosaic
open scoped Idealize.ShloMosaic.ProgEq

prog_eq qkvBitsEq : Cert.QkvIdeal.cc0_qkv_projection Cert.QkvIdeal.Form.body from Cert.QkvIdeal to Cert.QkvIdeal at Bits inferInstance by intros; rfl

end Cert.QkvIdeal.Form
-- ==== Proof.QkvFrameP.lean ====
/-
  The kernel as it runs, at the bit model: its body is the structured form with each named number at its printed word, so its
  run is the structured form's run.
-/
module

public import proofs.«01_k».proof.Defs
public import proofs.«01_k».proof.Proof.Gen.Qkv
public import proofs.«01_k».proof.Proof.QkvRun
public import proofs.«01_k».proof.Proof.QkvPlainEq
public import proofs.«01_k».proof.Proof.QkvBitsEq

@[expose] public section

set_option maxRecDepth 65536

noncomputable section

open Idealize.ShloMosaic Idealize.ShloMosaic.TcCoe Idealize.SL.Sem

namespace Cert.QkvIdeal.Form

open Cert.QkvIdeal Cert.QkvIdeal.Gen

/-- The named numbers at their printed words. -/
local instance : Named Bits := words

/-- At a point the printed body is the structured one. -/
theorem same_bits (t : Fin cfg0.N) : bodyAt0 (F := Bits) t = bodyF t := by
  unfold bodyAt0 bodyF; exact qkvBitsEq ..

/-- The two programs' body tables are one. -/
theorem defs₀_eq : Cert.Qkv.defs₀ (F := Bits) = Cert.QkvIdeal.defs₀ (F := Bits) := by
  unfold Cert.Qkv.defs₀ Cert.QkvIdeal.defs₀
  refine congrArg Defs.onTc (funext fun l => funext fun a => ?_)
  match l, a with
  | 0, (t, s) => exact (qkvPlainEq ..).trans (qkvBitsEq ..).symm

/-- The two programs' tables are one. -/
theorem defs_eq : Cert.Qkv.defs (F := Bits) = Cert.QkvIdeal.defs (F := Bits) := by
  unfold Cert.Qkv.defs Cert.QkvIdeal.defs
  exact congrArg (Pipeline.defs _) defs₀_eq

/-- The two programs' entries are one. -/
theorem main_eq' : Cert.Qkv.main (F := Bits) = Cert.QkvIdeal.main (F := Bits) := rfl

theorem frame_p : Cert.quiescent_Qkv := fun m ρ _ => by
  rw [defs_eq, main_eq']
  exact (θ_run Cert.QkvIdeal.defs _ _).mono (fun _ h => ⟨fun c => (h.1 c).2.2.2, h.2⟩) (run_value (F := Bits) m ρ same_bits)

end Cert.QkvIdeal.Form

end
-- ==== Proof.QkvModel.lean ====
/-
  The second layer's queries, keys and values on extended reals, plainly: each row is scaled by its root mean square and
  projected; of each group's 3072 columns the first 1024, the queries, are scaled once more; and each group's rows are
  laid out by their residue.
-/
module

public import proofs.«01_k».proof.Proof.Model

@[expose] public section

noncomputable section

namespace Cert.QkvModel

open Idealize.ShloMosaic

/-- The queries' scale: an eighth, in units of `log 2`. -/
def logit : EReal := (((1 / 8) * (Real.log 2)⁻¹ : ℝ) : EReal)

section

variable (a0 : (⟨3, ![2, 8192, 1024]⟩ : Shape).Idx → EReal) (a1 : (⟨2, ![2, 1024]⟩ : Shape).Idx → EReal)
  (a2 : (⟨3, ![1, 1024, 10240]⟩ : Shape).Idx → EReal)

/-- Column `c` of row `s`'s projection. -/
def proj (b : Fin 2) (s : Fin 8192) (c : Fin 9216) : EReal :=
  ∑ k : Fin 1024, Model.rms (fun k => a0 (ix3 b s k)) (fun k => a1 (ix2 1 k)) k * a2 (ix3 0 k ⟨c.val, by omega⟩)

/-- Column `c` of group `g` at row `s`: the first 1024 columns are the queries. -/
def ent (g : Fin 3) (b : Fin 2) (s : Fin 8192) (c : Fin 3072) : EReal :=
  if c.val < 1024 then proj a0 a1 a2 b s ⟨3072 * g.val + c.val, by omega⟩ * logit else proj a0 a1 a2 b s ⟨3072 * g.val + c.val, by omega⟩

/-- Among each 128 rows, row `32 p + u` of the first group's queries is row `4 u + p`. -/
def shuffle (j : Fin 8192) : Fin 8192 := ⟨128 * (j.val / 128) + j.val / 32 % 4 + 4 * (j.val % 32), by omega⟩

/-- The first group: rows in order, the queries' shuffled among each 128. -/
def out0 : (⟨4, ![2, 1, 8192, 3072]⟩ : Shape).Idx → EReal := fun x =>
  ent a0 a1 a2 0 (x 0 : Fin 2) (if (x 3).val < 1024 then shuffle (x 2 : Fin 8192) else (x 2 : Fin 8192)) (x 3 : Fin 3072)

/-- The second group: rows by their residue modulo 4. -/
def out1 : (⟨4, ![2, 4, 2048, 3072]⟩ : Shape).Idx → EReal := fun x =>
  ent a0 a1 a2 1 (x 0 : Fin 2) ⟨4 * (x 2).val + (x 1).val, by have h2 : (x 2).val < 2048 := (x 2).isLt; have h1 : (x 1).val < 4 := (x 1).isLt; omega⟩ (x 3 : Fin 3072)

/-- The third group: rows by their residue modulo 16. -/
def out2 : (⟨4, ![2, 16, 512, 3072]⟩ : Shape).Idx → EReal := fun x =>
  ent a0 a1 a2 2 (x 0 : Fin 2) ⟨16 * (x 2).val + (x 1).val, by have h2 : (x 2).val < 512 := (x 2).isLt; have h1 : (x 1).val < 16 := (x 1).isLt; omega⟩ (x 3 : Fin 3072)

end

end Cert.QkvModel

end
-- ==== Proof.QkvStages.lean ====
/-
  The kernel's vector values, read at an index: each is the projection's number there.
-/
module

public import proofs.«01_k».proof.Proof.QkvBody
public import proofs.«01_k».proof.Proof.QkvModel
public import Idealize.ShloMosaic.Lib.Pointwise

@[expose] public section

set_option maxRecDepth 16384

noncomputable section

namespace Cert.QkvIdeal.Stages

open Cert.QkvIdeal Cert.QkvIdeal.Gen Cert.QkvIdeal.Form
open Idealize.ShloMosaic

/-- The named scale is the queries' scale. -/
theorem named_eq : (Named.named κ "logit_scale" 0x3E38AA3B#32 : Ideal .f32) = QkvModel.logit := rfl

theorem sub2_at {α : Type} {n m h w : ℕ} (hn : 0 < n) (hm : 0 < m) (X : (⟨2, ![n, m]⟩ : Shape).Idx → α) (r d : ℕ) (i : Fin h) (j : Fin w)
    (a : Fin n) (b : Fin m) (ha : (r + i.val) % n = a.val) (hb : (d + j.val) % m = b.val) :
    sub2 h w hn hm X r d (ix2 i j) = X (ix2 a b) := by
  unfold sub2
  rw [← ix2_eq_valueIdx]
  exact congrArg X (congrArg₂ ix2 (Fin.ext ha) (Fin.ext hb))

/-- One block taken whole. -/
theorem sub2_whole {α : Type} {n m : ℕ} (hn : 0 < n) (hm : 0 < m) (X : (⟨2, ![n, m]⟩ : Shape).Idx → α) : sub2 n m hn hm X 0 0 = X := by
  funext x
  obtain ⟨i, j, rfl⟩ : ∃ i j, x = ix2 i j := ⟨x 0, x 1, by funext a; match a with | ⟨0, _⟩ => rfl | ⟨1, _⟩ => rfl⟩
  exact sub2_at hn hm X 0 0 i j i j (by rw [Nat.zero_add]; exact Nat.mod_eq_of_lt i.isLt) (by rw [Nat.zero_add]; exact Nat.mod_eq_of_lt j.isLt)

theorem rms_at (x : FVec Ideal S512x1024 .f32) (g : FVec Ideal S1x1024 .f32) (r : Fin 512) (d : Fin 1024) :
    rms x g (ix2 r d) = Model.rms (fun k => x (ix2 r k)) (fun k => g (ix2 0 k)) d := by
  unfold Model.rms
  pointwise [rms]
  rfl

/-- The block's rows scaled. -/
theorem y_at (x : FVec Ideal S1x512x1024 .f32) (g : FVec Ideal S1x1024 .f32) (r : Fin 512) (d : Fin 1024) :
    yV x g (ix2 r d) = Model.rms (fun k => x (ix3 0 r k)) (fun k => g (ix2 0 k)) d := by
  unfold yV
  rw [rms_at, sub2_whole, shapeCast_self]
  refine congrArg (fun f => Model.rms f _ d) (funext fun k => ?_)
  pointwise

/-- The slabs' rows in an order are the rows in that order. -/
theorem wide_at (y : FVec Ideal S512x1024 .f32) (σ : ℕ → ℕ) (i : Fin 512) (k : Fin 1024) :
    wideP (F := Ideal) (slabsV y) σ (ix2 i k) = y (ix2 ⟨σ i.val % 512, Nat.mod_lt _ (by decide)⟩ k) := by
  have hk := k.isLt
  unfold wideP slabsV
  rw [Ideal.truncf_def]
  simp only [← ix2_eq_valueIdx]
  refine congrArg y (congrArg₂ ix2 rfl (Fin.ext ?_))
  show (128 * (k.val / 128 % 8) + k.val % 128) % 1024 = k.val
  omega

theorem matmul_at (h : FVec Ideal S512x1024 .bf16) (w : FVec Ideal S1024x512 .bf16) (i j : Fin 512) :
    matmul dot_S512x1024_S1024x512_S512x512_1_0_0_1_n_n none h w (constant S512x512 .f32 0x00000000#32) (ix2 i j) = ∑ k : Fin 1024, h (ix2 i k) * w (ix2 k j) := by
  pointwise

theorem scale_at (v : FVec Ideal S512x512 .f32) (i j : Fin 512) : scale v (ix2 i j) = v (ix2 i j) * QkvModel.logit := by
  rw [← named_eq]
  rfl

theorem prod_at (hq hp : FVec Ideal S512x1024 .bf16) (Wr : S1024x9216.Idx → EReal) (off q : ℕ) (i j : Fin 512) (h : off + 512 * q + 512 ≤ 9216) :
    prodV (F := Ideal) hq hp Wr off q (ix2 i j) = if q < 2 then (∑ k : Fin 1024, hq (ix2 i k) * Wr (ix2 k ⟨off + 512 * q + j.val, by omega⟩)) * QkvModel.logit
      else ∑ k : Fin 1024, hp (ix2 i k) * Wr (ix2 k ⟨off + 512 * q + j.val, by omega⟩) := by
  have key : ∀ k : Fin 1024, sub2 1024 512 (by decide) (by decide) Wr 0 (off + 512 * q) (ix2 k j) = Wr (ix2 k ⟨off + 512 * q + j.val, by omega⟩) := fun k => by
    have hk := k.isLt
    exact sub2_at _ _ Wr _ _ k j k ⟨off + 512 * q + j.val, by omega⟩ (by omega) (by show (off + 512 * q + j.val) % 9216 = off + 512 * q + j.val; omega)
  unfold prodV
  by_cases hq2 : q < 2
  · rw [if_pos hq2, if_pos hq2, scale_at, matmul_at]
    exact congrArg (· * QkvModel.logit) (Finset.sum_congr rfl fun k _ => congrArg (hq (ix2 i k) * ·) (key k))
  · rw [if_neg hq2, if_neg hq2, matmul_at]
    exact Finset.sum_congr rfl fun k _ => congrArg (hp (ix2 i k) * ·) (key k)

/-- A group's block at an index. -/
theorem group_at {d r : ℕ} (y : FVec Ideal S512x1024 .f32) (σ ρ : ℕ → ℕ) (Wr : S1024x9216.Idx → EReal) (off : ℕ) (h : off + 3072 ≤ 9216)
    (z : Fin 1) (a : Fin d) (b : Fin r) (c : Fin 3072) (S : Fin 512)
    (hS : (if c.val < 1024 then σ ((r * a.val + b.val) % 512) else ρ ((r * a.val + b.val) % 512)) % 512 = S.val) :
    groupV (F := Ideal) d r y σ ρ Wr off (ix4 z a b c) = if c.val < 1024 then (∑ k : Fin 1024, y (ix2 S k) * Wr (ix2 k ⟨off + c.val, by omega⟩)) * QkvModel.logit
      else ∑ k : Fin 1024, y (ix2 S k) * Wr (ix2 k ⟨off + c.val, by omega⟩) := by
  have hc := c.isLt
  unfold groupV outV
  rw [Ideal.truncf_def]
  simp only [← ix2_eq_valueIdx]
  refine (prod_at _ _ Wr off (c.val / 512) (⟨(r * a.val + b.val) % 512, Nat.mod_lt _ (by decide)⟩ : Fin 512) (⟨c.val % 512, Nat.mod_lt _ (by decide)⟩ : Fin 512) (by omega)).trans ?_
  have ec : ∀ k : Fin 1024, Wr (ix2 k ⟨off + 512 * (c.val / 512) + c.val % 512, by omega⟩) = Wr (ix2 k ⟨off + c.val, by omega⟩) := fun k =>
    congrArg (fun e => Wr (ix2 k e)) (Fin.ext (by show off + 512 * (c.val / 512) + c.val % 512 = off + c.val; omega))
  by_cases h1 : c.val < 1024
  · rw [if_pos h1] at hS
    rw [if_pos h1, if_pos (show c.val / 512 < 2 by omega)]
    refine congrArg (· * QkvModel.logit) (Finset.sum_congr rfl fun k _ => congrArg₂ (fun p q : EReal => p * q) ?_ (ec k))
    rw [wide_at]
    exact congrArg (fun s => y (ix2 s k)) (Fin.ext hS)
  · rw [if_neg h1] at hS
    rw [if_neg h1, if_neg (show ¬ c.val / 512 < 2 by omega)]
    refine Finset.sum_congr rfl fun k _ => congrArg₂ (fun p q : EReal => p * q) ?_ (ec k)
    rw [wide_at]
    exact congrArg (fun s => y (ix2 s k)) (Fin.ext hS)

/-! ## A block of 512 rows

  Row `r` of the block is row `s₀ + r` of sequence `b`; the resident weight holds the projection's columns. -/

section block

variable (a0 : (⟨3, ![2, 8192, 1024]⟩ : Shape).Idx → EReal) (a1 : (⟨2, ![2, 1024]⟩ : Shape).Idx → EReal)
  (a2 : (⟨3, ![1, 1024, 10240]⟩ : Shape).Idx → EReal) (b : Fin 2) (s₀ : ℕ) (hs : s₀ + 512 ≤ 8192)
  (x : FVec Ideal S1x512x1024 .f32) (g : FVec Ideal S1x1024 .f32) (Wr : S1024x9216.Idx → EReal)

/-- The block, the gain and the resident weight hold the arrays' parts. -/
structure Holds : Prop where
  x : ∀ (r : Fin 512) k, x (ix3 0 r k) = a0 (ix3 b ⟨s₀ + r.val, by omega⟩ k)
  g : ∀ k, g (ix2 0 k) = a1 (ix2 1 k)
  w : ∀ k (c : Fin 9216), Wr (ix2 k c) = a2 (ix3 0 k ⟨c.val, by omega⟩)

variable {a0 a1 a2 b s₀ hs x g Wr}

theorem proj_at (H : Holds a0 a1 a2 b s₀ hs x g Wr) (S : Fin 512) (c : Fin 9216) :
    ∑ k : Fin 1024, yV x g (ix2 S k) * Wr (ix2 k c) = QkvModel.proj a0 a1 a2 b ⟨s₀ + S.val, by omega⟩ c := by
  unfold QkvModel.proj
  refine Finset.sum_congr rfl fun k _ => ?_
  rw [y_at, H.w, show (fun k => g (ix2 0 k)) = fun k => a1 (ix2 1 k) from funext H.g, show (fun k => x (ix3 0 S k)) = fun k => a0 (ix3 b ⟨s₀ + S.val, by omega⟩ k) from funext (H.x S)]

/-- A group's block is the group's part. -/
theorem part_at (H : Holds a0 a1 a2 b s₀ hs x g Wr) {d r : ℕ} (σ ρ : ℕ → ℕ) (gr : Fin 3) (off : ℕ) (ho : off = 3072 * gr.val)
    (z : Fin 1) (a : Fin d) (e : Fin r) (c : Fin 3072) (S : Fin 512)
    (hS : (if c.val < 1024 then σ ((r * a.val + e.val) % 512) else ρ ((r * a.val + e.val) % 512)) % 512 = S.val) :
    groupV (F := Ideal) d r (yV x g) σ ρ Wr off (ix4 z a e c) = QkvModel.ent a0 a1 a2 gr b ⟨s₀ + S.val, by omega⟩ c := by
  subst ho
  have hg := gr.isLt
  rw [group_at (yV x g) σ ρ Wr _ (by omega) z a e c S hS, proj_at H]
  rfl

end block

end Cert.QkvIdeal.Stages

end
-- ==== Proof.QkvArrays.lean ====
/-
  The result arrays of the kernel after its run: the queries, keys and values of the argument arrays, group by group.
-/
module

public import proofs.«01_k».proof.Proof.QkvRun
public import proofs.«01_k».proof.Proof.QkvStages
public import Idealize.ShloMosaic.Lib.Claim

@[expose] public section

set_option maxRecDepth 16384

noncomputable section

namespace Cert.QkvIdeal.Arrays

open Cert.QkvIdeal Cert.QkvIdeal.Gen Cert.QkvIdeal.Form Cert.QkvIdeal.Stages
open Idealize.ShloMosaic Idealize.ShloMosaic.TcCoe Idealize.ShloMosaic.Tactic
open Idealize.SL.Sem
open Idealize.ShloMosaic.Pipeline (Dat Cfg Window)

/-! ## The gain's row, from the arguments -/

section launch

variable {F : FTy → Type} [FloatOps F] [Named F]
variable (m : (ℓ : Loc nD τ sig) → Buf (Elt F) ℓ)

theorem V_v0 (c : Dev nD) : V m c main_v0 = extractStridedSlice S1x1024 ![1, 0] (m ((c : Thread nD τ).loc main_arg1)) slices_S2x1024_S1x1024_1_0 := by
  unfold_abbrev_sides
  after_results_simp <;> rfl

end launch

theorem gain_at (v : Vec Ideal S2x1024 .f32) (d : Fin 1024) : extractStridedSlice S1x1024 ![1, 0] v slices_S2x1024_S1x1024_1_0 (ix2 0 d) = v (ix2 1 d) := by pointwise

/-- The resident weight, at an index. -/
theorem res_at (X : Vec Ideal S1x1024x10240 .f32) (k : Fin 1024) (e : Fin 9216) : resW (F := Ideal) X (ix2 k e) = X (ix3 0 k ⟨e.val, by omega⟩) := by
  have he := e.isLt
  show atRC (F := Ideal) (n := 1024) (w' := 10240) X k.val e.val = _
  unfold atRC
  rw [dif_pos ⟨k.isLt, by omega⟩, ← ix3_eq_valueIdx]

/-! ## The windows' blocks -/

theorem index0 : ∀ t : Fin cfg0.N, win0_0.index t (0 : Fin 3) = t.val / 16 ∧ win0_0.index t (1 : Fin 3) = t.val % 16 ∧ win0_0.index t (2 : Fin 3) = 0 := (by decide +kernel : ∀ t : Fin grid0.N, _)
theorem index1 : ∀ t : Fin cfg0.N, win0_1.index t (0 : Fin 2) = 0 ∧ win0_1.index t (1 : Fin 2) = 0 := (by decide +kernel : ∀ t : Fin grid0.N, _)
theorem index2 : ∀ t : Fin cfg0.N, win0_2.index t (0 : Fin 4) = t.val / 16 ∧ win0_2.index t (1 : Fin 4) = 0 ∧ win0_2.index t (2 : Fin 4) = t.val % 16 ∧ win0_2.index t (3 : Fin 4) = 0 := (by decide +kernel : ∀ t : Fin grid0.N, _)
theorem index3 : ∀ t : Fin cfg0.N, win0_3.index t (0 : Fin 4) = t.val / 16 ∧ win0_3.index t (1 : Fin 4) = 0 ∧ win0_3.index t (2 : Fin 4) = t.val % 16 ∧ win0_3.index t (3 : Fin 4) = 0 := (by decide +kernel : ∀ t : Fin grid0.N, _)
theorem index4 : ∀ t : Fin cfg0.N, win0_4.index t (0 : Fin 4) = t.val / 16 ∧ win0_4.index t (1 : Fin 4) = 0 ∧ win0_4.index t (2 : Fin 4) = t.val % 16 ∧ win0_4.index t (3 : Fin 4) = 0 := (by decide +kernel : ∀ t : Fin grid0.N, _)

/-- The sequence of point `t`'s block, and its first row. -/
def seqOf (t : Fin cfg0.N) : Fin 2 := ⟨t.val / 16, by have h : t.val < 32 := t.isLt; omega⟩
def base (t : Fin cfg0.N) : ℕ := 512 * (t.val % 16)

theorem base_le (t : Fin cfg0.N) : base t + 512 ≤ 8192 := by unfold base; omega

theorem emb0 (t : Fin cfg0.N) (r : Fin 512) (d : Fin 1024) : ((cfg0.win 0).blk t).view.emb (ix3 0 r d) = ix3 (seqOf t) (⟨base t + r.val, by have := base_le t; omega⟩ : Fin 8192) d := by
  obtain ⟨e0, e1, e2⟩ := index0 t
  funext a; apply Fin.ext
  match a with
  | ⟨0, _⟩ => show win0_0.index t (0 : Fin 3) * 1 + 1 * 0 = t.val / 16; omega
  | ⟨1, _⟩ => show win0_0.index t (1 : Fin 3) * 512 + 1 * r.val = 512 * (t.val % 16) + r.val; omega
  | ⟨2, _⟩ => show win0_0.index t (2 : Fin 3) * 1024 + 1 * d.val = d.val; omega

theorem emb1 (t : Fin cfg0.N) (j : S1x1024.Idx) : ((cfg0.win 1).blk t).view.emb j = j := by
  obtain ⟨e0, e1⟩ := index1 t
  funext a; apply Fin.ext
  match a with
  | ⟨0, _⟩ => show win0_1.index t (0 : Fin 2) * 1 + 1 * (j 0).val = (j 0).val; omega
  | ⟨1, _⟩ => show win0_1.index t (1 : Fin 2) * 1024 + 1 * (j 1).val = (j 1).val; omega

theorem emb2 (t : Fin cfg0.N) (z : Fin 1) (a : Fin 1) (e : Fin 512) (c : Fin 3072) :
    ((cfg0.win 2).blk t).view.emb (ix4 z a e c) = ix4 (seqOf t) a (⟨512 * (t.val % 16) + e.val, by omega⟩ : Fin 8192) c := by
  obtain ⟨e0, e1, e2, e3⟩ := index2 t
  have hz := z.isLt
  funext q; apply Fin.ext
  match q with
  | ⟨0, _⟩ => show win0_2.index t (0 : Fin 4) * 1 + 1 * z.val = t.val / 16; omega
  | ⟨1, _⟩ => show win0_2.index t (1 : Fin 4) * 1 + 1 * a.val = a.val; omega
  | ⟨2, _⟩ => show win0_2.index t (2 : Fin 4) * 512 + 1 * e.val = 512 * (t.val % 16) + e.val; omega
  | ⟨3, _⟩ => show win0_2.index t (3 : Fin 4) * 3072 + 1 * c.val = c.val; omega

theorem emb3 (t : Fin cfg0.N) (z : Fin 1) (a : Fin 4) (e : Fin 128) (c : Fin 3072) :
    ((cfg0.win 3).blk t).view.emb (ix4 z a e c) = ix4 (seqOf t) a (⟨128 * (t.val % 16) + e.val, by omega⟩ : Fin 2048) c := by
  obtain ⟨e0, e1, e2, e3⟩ := index3 t
  have hz := z.isLt
  funext q; apply Fin.ext
  match q with
  | ⟨0, _⟩ => show win0_3.index t (0 : Fin 4) * 1 + 1 * z.val = t.val / 16; omega
  | ⟨1, _⟩ => show win0_3.index t (1 : Fin 4) * 4 + 1 * a.val = a.val; omega
  | ⟨2, _⟩ => show win0_3.index t (2 : Fin 4) * 128 + 1 * e.val = 128 * (t.val % 16) + e.val; omega
  | ⟨3, _⟩ => show win0_3.index t (3 : Fin 4) * 3072 + 1 * c.val = c.val; omega

theorem emb4 (t : Fin cfg0.N) (z : Fin 1) (a : Fin 16) (e : Fin 32) (c : Fin 3072) :
    ((cfg0.win 4).blk t).view.emb (ix4 z a e c) = ix4 (seqOf t) a (⟨32 * (t.val % 16) + e.val, by omega⟩ : Fin 512) c := by
  obtain ⟨e0, e1, e2, e3⟩ := index4 t
  have hz := z.isLt
  funext q; apply Fin.ext
  match q with
  | ⟨0, _⟩ => show win0_4.index t (0 : Fin 4) * 1 + 1 * z.val = t.val / 16; omega
  | ⟨1, _⟩ => show win0_4.index t (1 : Fin 4) * 16 + 1 * a.val = a.val; omega
  | ⟨2, _⟩ => show win0_4.index t (2 : Fin 4) * 32 + 1 * e.val = 32 * (t.val % 16) + e.val; omega
  | ⟨3, _⟩ => show win0_4.index t (3 : Fin 4) * 3072 + 1 * c.val = c.val; omega

/-! ## The results -/

variable (m : (ℓ : Loc nD τ sig) → Buf (Elt Ideal) ℓ)

/-- The arguments as launched on device `c`. -/
abbrev A0 (c : Dev nD) : S2x8192x1024.Idx → EReal := m ((c : Thread nD τ).loc main_arg0)
abbrev A1 (c : Dev nD) : S2x1024.Idx → EReal := m ((c : Thread nD τ).loc main_arg1)
abbrev A2 (c : Dev nD) : S1x1024x10240.Idx → EReal := m ((c : Thread nD τ).loc main_arg2)

/-- What the call's result arrays hold in the end. -/
def G0 (c : Dev nD) : S2x1x8192x3072.Idx → EReal := QkvModel.out0 (A0 m c) (A1 m c) (A2 m c)
def G1 (c : Dev nD) : S2x4x2048x3072.Idx → EReal := QkvModel.out1 (A0 m c) (A1 m c) (A2 m c)
def G2 (c : Dev nD) : S2x16x512x3072.Idx → EReal := QkvModel.out2 (A0 m c) (A1 m c) (A2 m c)

/-- The windows and the resident weight hold the arguments' parts. -/
theorem holds (c : Dev nD) (t : Fin cfg0.N) : Holds (A0 m c) (A1 m c) (A2 m c) (seqOf t) (base t) (base_le t) (iblk m c 0 t) (iblk m c 1 t) (WrV m c) where
  x r k := by
    show V m c main_arg0 (((cfg0.win 0).blk t).view.emb (ix3 0 r k)) = _
    rw [emb0, V_main_arg0]
  g k := by
    show V m c main_v0 (((cfg0.win 1).blk t).view.emb (ix2 0 k)) = _
    rw [emb1, V_v0]; exact gain_at _ k
  w k e := by
    show resW (F := Ideal) (V m c main_arg2) (ix2 k e) = _
    rw [V_main_arg2]; exact res_at _ k e

/-- Point `t` leaves its rows of each group. -/
theorem out2_at (c : Dev nD) (t : Fin cfg0.N) (z : Fin 1) (a : Fin 1) (e : Fin 512) (n : Fin 3072) :
    outBlk2 m c t (ix4 z a e n) = G0 m c (ix4 (seqOf t) a (⟨512 * (t.val % 16) + e.val, by omega⟩ : Fin 8192) n) := by
  have ha := a.isLt
  have he := e.isLt
  unfold outBlk2 block0
  show _ = QkvModel.ent (A0 m c) (A1 m c) (A2 m c) 0 (seqOf t)
    (if n.val < 1024 then QkvModel.shuffle ⟨512 * (t.val % 16) + e.val, by omega⟩ else (⟨512 * (t.val % 16) + e.val, by omega⟩ : Fin 8192)) n
  by_cases h : n.val < 1024
  · rw [if_pos h]
    refine (part_at (holds m c t) order0 (fun i => i) 0 0 rfl z a e n ⟨128 * (e.val / 128) + e.val / 32 % 4 + 4 * (e.val % 32), by omega⟩ ?_).trans ?_
    · rw [if_pos h]
      unfold order0
      show (128 * ((512 * a.val + e.val) % 512 / 32 / 4) + (512 * a.val + e.val) % 512 / 32 % 4 + 4 * ((512 * a.val + e.val) % 512 % 32)) % 512 = 128 * (e.val / 128) + e.val / 32 % 4 + 4 * (e.val % 32)
      rw [show (512 * a.val + e.val) % 512 = e.val by omega, show e.val / 32 / 4 = e.val / 128 by omega]
      exact Nat.mod_eq_of_lt (by omega)
    · refine congrArg (fun s => QkvModel.ent (A0 m c) (A1 m c) (A2 m c) 0 (seqOf t) s n) (Fin.ext ?_)
      show 512 * (t.val % 16) + (128 * (e.val / 128) + e.val / 32 % 4 + 4 * (e.val % 32))
        = 128 * ((512 * (t.val % 16) + e.val) / 128) + (512 * (t.val % 16) + e.val) / 32 % 4 + 4 * ((512 * (t.val % 16) + e.val) % 32)
      omega
  · rw [if_neg h]
    refine (part_at (holds m c t) order0 (fun i => i) 0 0 rfl z a e n e ?_).trans rfl
    rw [if_neg h]
    show (512 * a.val + e.val) % 512 % 512 = e.val
    omega

theorem out3_at (c : Dev nD) (t : Fin cfg0.N) (z : Fin 1) (a : Fin 4) (e : Fin 128) (n : Fin 3072) :
    outBlk3 m c t (ix4 z a e n) = G1 m c (ix4 (seqOf t) a (⟨128 * (t.val % 16) + e.val, by omega⟩ : Fin 2048) n) := by
  have ha := a.isLt
  have he := e.isLt
  unfold outBlk3 block1
  refine (part_at (holds m c t) order1 order1 1 3072 rfl z a e n ⟨a.val + 4 * e.val, by omega⟩ ?_).trans ?_
  · rw [ite_self]
    unfold order1
    show ((128 * a.val + e.val) % 512 / 128 + 4 * ((128 * a.val + e.val) % 512 % 128)) % 512 = a.val + 4 * e.val
    rw [show (128 * a.val + e.val) % 512 = 128 * a.val + e.val by omega, show (128 * a.val + e.val) / 128 = a.val by omega,
      show (128 * a.val + e.val) % 128 = e.val by omega]
    exact Nat.mod_eq_of_lt (by omega)
  · refine congrArg (fun s => QkvModel.ent (A0 m c) (A1 m c) (A2 m c) 1 (seqOf t) s n) (Fin.ext ?_)
    show 512 * (t.val % 16) + (a.val + 4 * e.val) = 4 * (128 * (t.val % 16) + e.val) + a.val
    omega

theorem out4_at (c : Dev nD) (t : Fin cfg0.N) (z : Fin 1) (a : Fin 16) (e : Fin 32) (n : Fin 3072) :
    outBlk4 m c t (ix4 z a e n) = G2 m c (ix4 (seqOf t) a (⟨32 * (t.val % 16) + e.val, by omega⟩ : Fin 512) n) := by
  have ha := a.isLt
  have he := e.isLt
  unfold outBlk4 block2
  refine (part_at (holds m c t) order2 order2 2 6144 rfl z a e n ⟨a.val + 16 * e.val, by omega⟩ ?_).trans ?_
  · rw [ite_self]
    unfold order2
    show ((32 * a.val + e.val) % 512 / 32 + 16 * ((32 * a.val + e.val) % 512 % 32)) % 512 = a.val + 16 * e.val
    rw [show (32 * a.val + e.val) % 512 = 32 * a.val + e.val by omega, show (32 * a.val + e.val) / 32 = a.val by omega,
      show (32 * a.val + e.val) % 32 = e.val by omega]
    exact Nat.mod_eq_of_lt (by omega)
  · refine congrArg (fun s => QkvModel.ent (A0 m c) (A1 m c) (A2 m c) 2 (seqOf t) s n) (Fin.ext ?_)
    show 512 * (t.val % 16) + (a.val + 16 * e.val) = 16 * (32 * (t.val % 16) + e.val) + a.val
    omega

theorem flushed2 (c : Dev nD) (t : Fin cfg0.N) : (data m 0 c).flushed 2 t = ((cfg0.win 2).blk t).view.read (Elt Ideal) (G0 m c) := by
  show (cfg0.win 2).cut (cfg0.grid.coords t) ((data m 0 c).after 2 t) = _
  rw [after2]
  funext j
  obtain ⟨z, a, e, n, rfl⟩ : ∃ (z : Fin 1) (a : Fin 1) (e : Fin 512) (n : Fin 3072), j = ix4 z a e n := ⟨j 0, j 1, j 2, j 3, eq_ix4 j⟩
  show outBlk2 m c t (ix4 z a e n) = G0 m c (((cfg0.win 2).blk t).view.emb (ix4 z a e n))
  rw [emb2, out2_at]

theorem flushed3 (c : Dev nD) (t : Fin cfg0.N) : (data m 0 c).flushed 3 t = ((cfg0.win 3).blk t).view.read (Elt Ideal) (G1 m c) := by
  show (cfg0.win 3).cut (cfg0.grid.coords t) ((data m 0 c).after 3 t) = _
  rw [after3]
  funext j
  obtain ⟨z, a, e, n, rfl⟩ : ∃ (z : Fin 1) (a : Fin 4) (e : Fin 128) (n : Fin 3072), j = ix4 z a e n := ⟨j 0, j 1, j 2, j 3, eq_ix4 j⟩
  show outBlk3 m c t (ix4 z a e n) = G1 m c (((cfg0.win 3).blk t).view.emb (ix4 z a e n))
  rw [emb3, out3_at]

theorem flushed4 (c : Dev nD) (t : Fin cfg0.N) : (data m 0 c).flushed 4 t = ((cfg0.win 4).blk t).view.read (Elt Ideal) (G2 m c) := by
  show (cfg0.win 4).cut (cfg0.grid.coords t) ((data m 0 c).after 4 t) = _
  rw [after4]
  funext j
  obtain ⟨z, a, e, n, rfl⟩ : ∃ (z : Fin 1) (a : Fin 16) (e : Fin 32) (n : Fin 3072), j = ix4 z a e n := ⟨j 0, j 1, j 2, j 3, eq_ix4 j⟩
  show outBlk4 m c t (ix4 z a e n) = G2 m c (((cfg0.win 4).blk t).view.emb (ix4 z a e n))
  rw [emb4, out4_at]

/-- The point whose block holds rows `16 i …` of sequence `b`. -/
theorem pointOf (b i : ℕ) (hb : b < 2) (hi : i < 16) : ∃ t : Fin cfg0.N, t.val / 16 = b ∧ t.val % 16 = i :=
  ⟨⟨16 * b + i, by show 16 * b + i < 32; omega⟩, by show (16 * b + i) / 16 = b; omega, by show (16 * b + i) % 16 = i; omega⟩

theorem covered2 (i : S2x1x8192x3072.Idx) : ∃ t : Fin cfg0.N, (cfg0.win 2).flush t = true ∧ i ∈ ((cfg0.win 2).blk t).view.set := by
  have h0 : (i 0).val < 2 := (i 0).isLt
  have h2 : (i 2).val < 8192 := (i 2).isLt
  obtain ⟨t, t0, t1⟩ := pointOf (i 0).val ((i 2).val / 512) h0 (by omega)
  have h := ((cfg0.win 2).blk t).view.emb_mem_set (ix4 (0 : Fin 1) (i 1 : Fin 1) (⟨(i 2).val % 512, Nat.mod_lt _ (by decide)⟩ : Fin 512) (i 3 : Fin 3072))
  have e : ((cfg0.win 2).blk t).view.emb (ix4 (0 : Fin 1) (i 1 : Fin 1) (⟨(i 2).val % 512, Nat.mod_lt _ (by decide)⟩ : Fin 512) (i 3 : Fin 3072)) = i := by
    refine (emb2 t _ _ _ _).trans ?_
    funext a; apply Fin.ext
    match a with
    | ⟨0, _⟩ => exact t0
    | ⟨1, _⟩ => rfl
    | ⟨2, _⟩ => show 512 * (t.val % 16) + (i 2).val % 512 = (i 2).val; omega
    | ⟨3, _⟩ => rfl
  exact ⟨t, flush0_2 t, e ▸ h⟩

theorem covered3 (i : S2x4x2048x3072.Idx) : ∃ t : Fin cfg0.N, (cfg0.win 3).flush t = true ∧ i ∈ ((cfg0.win 3).blk t).view.set := by
  have h0 : (i 0).val < 2 := (i 0).isLt
  have h2 : (i 2).val < 2048 := (i 2).isLt
  obtain ⟨t, t0, t1⟩ := pointOf (i 0).val ((i 2).val / 128) h0 (by omega)
  have h := ((cfg0.win 3).blk t).view.emb_mem_set (ix4 (0 : Fin 1) (i 1 : Fin 4) (⟨(i 2).val % 128, Nat.mod_lt _ (by decide)⟩ : Fin 128) (i 3 : Fin 3072))
  have e : ((cfg0.win 3).blk t).view.emb (ix4 (0 : Fin 1) (i 1 : Fin 4) (⟨(i 2).val % 128, Nat.mod_lt _ (by decide)⟩ : Fin 128) (i 3 : Fin 3072)) = i := by
    refine (emb3 t _ _ _ _).trans ?_
    funext a; apply Fin.ext
    match a with
    | ⟨0, _⟩ => exact t0
    | ⟨1, _⟩ => rfl
    | ⟨2, _⟩ => show 128 * (t.val % 16) + (i 2).val % 128 = (i 2).val; omega
    | ⟨3, _⟩ => rfl
  exact ⟨t, flush0_3 t, e ▸ h⟩

theorem covered4 (i : S2x16x512x3072.Idx) : ∃ t : Fin cfg0.N, (cfg0.win 4).flush t = true ∧ i ∈ ((cfg0.win 4).blk t).view.set := by
  have h0 : (i 0).val < 2 := (i 0).isLt
  have h2 : (i 2).val < 512 := (i 2).isLt
  obtain ⟨t, t0, t1⟩ := pointOf (i 0).val ((i 2).val / 32) h0 (by omega)
  have h := ((cfg0.win 4).blk t).view.emb_mem_set (ix4 (0 : Fin 1) (i 1 : Fin 16) (⟨(i 2).val % 32, Nat.mod_lt _ (by decide)⟩ : Fin 32) (i 3 : Fin 3072))
  have e : ((cfg0.win 4).blk t).view.emb (ix4 (0 : Fin 1) (i 1 : Fin 16) (⟨(i 2).val % 32, Nat.mod_lt _ (by decide)⟩ : Fin 32) (i 3 : Fin 3072)) = i := by
    refine (emb4 t _ _ _ _).trans ?_
    funext a; apply Fin.ext
    match a with
    | ⟨0, _⟩ => exact t0
    | ⟨1, _⟩ => rfl
    | ⟨2, _⟩ => show 32 * (t.val % 16) + (i 2).val % 32 = (i 2).val; omega
    | ⟨3, _⟩ => rfl
  exact ⟨t, flush0_4 t, e ▸ h⟩

/-- The result arrays after the run. -/
theorem final0 (c : Dev nD) : (data m 0 c).arrAt 2 cfg0.N = G0 m c :=
  (data m 0 c).arrAt_eq_of_cover 2 (G0 m c) (fun t _ => flushed2 m c t) covered2
theorem final1 (c : Dev nD) : (data m 0 c).arrAt 3 cfg0.N = G1 m c :=
  (data m 0 c).arrAt_eq_of_cover 3 (G1 m c) (fun t _ => flushed3 m c t) covered3
theorem final2 (c : Dev nD) : (data m 0 c).arrAt 4 cfg0.N = G2 m c :=
  (data m 0 c).arrAt_eq_of_cover 4 (G2 m c) (fun t _ => flushed4 m c t) covered4

end Cert.QkvIdeal.Arrays

end
-- ==== Proof.QkvRefStages.lean ====
/-
  The reference's queries, keys and values, read at an index: each is the projection's number there.
-/
module

public import proofs.«01_k».proof.Proof.Gen.QkvReferenceIdeal.Read
public import proofs.«01_k».proof.Proof.QkvModel
public import Idealize.ShloMosaic.Lib.Pointwise

@[expose] public section

set_option maxRecDepth 16384

noncomputable section

namespace Cert.QkvReferenceIdeal.Stages

open Cert.QkvReferenceIdeal Cert.QkvReferenceIdeal.Gen Cert.QkvReferenceIdeal.Read
open Idealize.ShloMosaic

/-! ## The queries' scale -/

/-- `0.125`. -/
theorem eighth : Ideal.ofBits .f32 0x3E000000#32 = (((1 : ℝ) / 8 : ℝ) : EReal) := by
  simp [Ideal.ofBits, Ideal.ieee, -EReal.coe_mul]; norm_num

/-- `2.0`. -/
theorem two : Ideal.ofBits .f32 0x40000000#32 = ((2 : ℝ) : EReal) := by
  simp [Ideal.ofBits, Ideal.ieee, -EReal.coe_mul]; norm_num

/-- An eighth of a number over the logarithm of two is the number times the queries' scale. -/
theorem scale_eq (x : EReal) : Ideal.div (x * Ideal.ofBits .f32 0x3E000000#32) (Ideal.log (Ideal.ofBits .f32 0x40000000#32)) = x * QkvModel.logit := by
  rw [eighth, two, Ideal.log_coe, if_neg (by norm_num), Ideal.div_coe (Units.log2_pos.ne'), mul_assoc, ← EReal.coe_mul, one_div (Real.log 2)]
  rfl

/-! ## Layouts -/

section layout

variable {α : Type}

/-- Rows laid out by their residue. -/
theorem residue_at {d n : ℕ} (hdn : d * n = 8192) (v : S2x8192x1024.Idx → α) (h1 : S2x8192x1024.ShapeCasts ⟨4, ![2, n, d, 1024]⟩)
    (h2 : (⟨4, ![2, n, d, 1024]⟩ : Shape).Transposes [0, 2, 1, 3] ⟨4, ![2, d, n, 1024]⟩) (b : Fin 2) (a : Fin d) (j : Fin n) (e : Fin 1024)
    (s : Fin 8192) (hs : s.val = d * j.val + a.val) :
    transpose ⟨4, ![2, d, n, 1024]⟩ [0, 2, 1, 3] (shapeCast ⟨4, ![2, n, d, 1024]⟩ v h1) h2 (ix4 b a j e) = v (ix3 b s e) := by
  refine (transpose_apply [0, 2, 1, 3] _ h2 (ix4 b a j e) (ix4 b j a e) (fun q => match q with
    | ⟨0, _⟩ => rfl
    | ⟨1, _⟩ => rfl
    | ⟨2, _⟩ => rfl
    | ⟨3, _⟩ => rfl)).trans ?_
  refine shapeCast_apply _ _ _ _ ?_
  refine (Shape.rowMajor_val_three ..).trans (Eq.trans ?_ (Shape.rowMajor_val_four ..).symm)
  show (b.val * 8192 + s.val) * 1024 + e.val = ((b.val * n + j.val) * d + a.val) * 1024 + e.val
  rw [hs, ← hdn]
  ring

/-- Three arrays side by side. -/
theorem join_at {d n : ℕ} (p q r : (⟨4, ![2, d, n, 1024]⟩ : Shape).Idx → α)
    (h : Shape.Concatenates [(⟨4, ![2, d, n, 1024]⟩ : Shape), ⟨4, ![2, d, n, 1024]⟩, ⟨4, ![2, d, n, 1024]⟩] ⟨4, ![2, d, n, 3072]⟩ 3)
    (b : Fin 2) (a : Fin d) (j : Fin n) (c : Fin 3072) :
    concatenate ⟨4, ![2, d, n, 3072]⟩ 3 [⟨⟨4, ![2, d, n, 1024]⟩, p⟩, ⟨⟨4, ![2, d, n, 1024]⟩, q⟩, ⟨⟨4, ![2, d, n, 1024]⟩, r⟩] h (ix4 b a j c)
      = if h : c.val < 1024 then p (ix4 b a j ⟨c.val, h⟩) else if h : c.val - 1024 < 1024 then q (ix4 b a j ⟨c.val - 1024, h⟩)
        else r (ix4 b a j ⟨c.val - 1024 - 1024, by omega⟩) := by
  pointwise
  by_cases h0 : c.val < 1024
  · rw [dif_pos h0, dif_pos h0]
    exact congrArg p (funext fun x => match x with
      | ⟨0, _⟩ => rfl
      | ⟨1, _⟩ => rfl
      | ⟨2, _⟩ => rfl
      | ⟨3, _⟩ => rfl)
  rw [dif_neg h0, dif_neg h0]
  by_cases h1 : c.val - 1024 < 1024
  · rw [dif_pos h1, dif_pos h1]
    exact congrArg q (funext fun x => match x with
      | ⟨0, _⟩ => rfl
      | ⟨1, _⟩ => rfl
      | ⟨2, _⟩ => rfl
      | ⟨3, _⟩ => rfl)
  · rw [dif_neg h1, dif_neg h1]
    exact congrArg r (funext fun x => match x with
      | ⟨0, _⟩ => rfl
      | ⟨1, _⟩ => rfl
      | ⟨2, _⟩ => rfl
      | ⟨3, _⟩ => rfl)

end layout

/-! ## The projection -/

variable (x0 : FVec Ideal S2x8192x1024 .f32) (x1 : FVec Ideal S2x1024 .f32) (x2 : FVec Ideal S1x1024x10240 .f32)

section project

variable (b : Fin 2) (s : Fin 8192)

theorem gain_at (d : Fin 1024) : val_main_v13 (F := Ideal) x1 (ix3 b s d) = x1 (ix2 1 d) := by
  pointwise [val_main_v13, val_main_v12, val_main_v1, val_main_v0]

theorem rms_at (d : Fin 1024) : val_main_v14 (F := Ideal) x0 x1 (ix3 b s d) = Model.rms (fun k => x0 (ix3 b s k)) (fun k => x1 (ix2 1 k)) d := by
  unfold Model.rms
  pointwise [val_main_v14, gain_at, val_main_v11, val_main_v10, val_main_v9, val_main_v8, val_main_v7, val_main_v6, val_main_v5, val_main_v4, val_main_v3, val_main_v2, val_main_cst, val_main_cst_0, val_main_cst_1]
  rfl

theorem proj_at (c : Fin 9216) : val_main_v17 (F := Ideal) x0 x1 x2 (ix3 b s c) = QkvModel.proj x0 x1 x2 b s c := by
  unfold QkvModel.proj
  pointwise [val_main_v17, val_main_v16, rms_at, val_main_v15]

/-- Part `q` of group `g`, at a column. -/
theorem part_at (g q : ℕ) (hg : g < 3) (hq : q < 3) (hs : S2x8192x3x3x1024.Slices ![0, 0, g, q, 0] S2x8192x1x1x1024) (hc : S2x8192x1x1x1024.ShapeCasts S2x8192x1024)
    (e : Fin 1024) : shapeCast S2x8192x1024 (extractStridedSlice S2x8192x1x1x1024 ![0, 0, g, q, 0] (val_main_v18 (F := Ideal) x0 x1 x2) hs) hc (ix3 b s e)
      = QkvModel.proj x0 x1 x2 b s ⟨3072 * g + (1024 * q + e.val), by omega⟩ := by
  have hb := b.isLt
  have hs' := s.isLt
  have he := e.isLt
  refine (shapeCast_apply _ _ _ (ix5 b s (0 : Fin 1) (0 : Fin 1) e) ?_).trans ?_
  · refine (Shape.rowMajor_val_five ..).trans (Eq.trans ?_ (Shape.rowMajor_val_three ..).symm)
    show (((b.val * 8192 + s.val) * 1 + 0) * 1 + 0) * 1024 + e.val = (b.val * 8192 + s.val) * 1024 + e.val
    omega
  refine (extractStridedSlice_apply _ _ hs _ (ix5 b s (⟨g, hg⟩ : Fin 3) (⟨q, hq⟩ : Fin 3) e) (fun a => match a with
    | ⟨0, _⟩ => by show b.val = 0 + b.val; omega
    | ⟨1, _⟩ => by show s.val = 0 + s.val; omega
    | ⟨2, _⟩ => by show g = g + 0; omega
    | ⟨3, _⟩ => by show q = q + 0; omega
    | ⟨4, _⟩ => by show e.val = 0 + e.val; omega)).trans ?_
  refine (val_main_v18_apply ..).trans ?_
  refine (congrArg (val_main_v17 (F := Ideal) x0 x1 x2) (a₂ := ix3 b s (⟨3072 * g + (1024 * q + e.val), by omega⟩ : Fin 9216)) ?_).trans (proj_at x0 x1 x2 b s _)
  funext a; apply Fin.ext
  match a with
  | ⟨0, _⟩ => show ((((b.val * 8192 + s.val) * 3 + g) * 3 + q) * 1024 + e.val) / 75497472 = b.val; omega
  | ⟨1, _⟩ => show ((((b.val * 8192 + s.val) * 3 + g) * 3 + q) * 1024 + e.val) / 9216 % 8192 = s.val; omega
  | ⟨2, _⟩ => show ((((b.val * 8192 + s.val) * 3 + g) * 3 + q) * 1024 + e.val) % 9216 = 3072 * g + (1024 * q + e.val); omega

end project

/-- A group from its three parts. -/
theorem group_at {d n : ℕ} (p q r : (⟨4, ![2, d, n, 1024]⟩ : Shape).Idx → EReal)
    (h : Shape.Concatenates [(⟨4, ![2, d, n, 1024]⟩ : Shape), ⟨4, ![2, d, n, 1024]⟩, ⟨4, ![2, d, n, 1024]⟩] ⟨4, ![2, d, n, 3072]⟩ 3) (g : ℕ) (hg : g < 3)
    (b : Fin 2) (a : Fin d) (j : Fin n) (c : Fin 3072) (s s' : Fin 8192)
    (hp : ∀ e : Fin 1024, p (ix4 b a j e) = QkvModel.proj x0 x1 x2 b s ⟨3072 * g + (1024 * 0 + e.val), by omega⟩ * QkvModel.logit)
    (hq : ∀ e : Fin 1024, q (ix4 b a j e) = QkvModel.proj x0 x1 x2 b s' ⟨3072 * g + (1024 * 1 + e.val), by omega⟩)
    (hr : ∀ e : Fin 1024, r (ix4 b a j e) = QkvModel.proj x0 x1 x2 b s' ⟨3072 * g + (1024 * 2 + e.val), by omega⟩) :
    concatenate ⟨4, ![2, d, n, 3072]⟩ 3 [⟨⟨4, ![2, d, n, 1024]⟩, p⟩, ⟨⟨4, ![2, d, n, 1024]⟩, q⟩, ⟨⟨4, ![2, d, n, 1024]⟩, r⟩] h (ix4 b a j c)
      = QkvModel.ent x0 x1 x2 ⟨g, hg⟩ b (if c.val < 1024 then s else s') c := by
  have hc := c.isLt
  rw [join_at]
  unfold QkvModel.ent
  by_cases h0 : c.val < 1024
  · rw [dif_pos h0, if_pos h0, if_pos h0, hp]
    exact congrArg (fun e => QkvModel.proj x0 x1 x2 b s e * QkvModel.logit) (Fin.ext (by show 3072 * g + (1024 * 0 + c.val) = 3072 * g + c.val; omega))
  rw [dif_neg h0, if_neg h0, if_neg h0]
  by_cases h1 : c.val - 1024 < 1024
  · rw [dif_pos h1, hq]
    exact congrArg (QkvModel.proj x0 x1 x2 b s') (Fin.ext (by show 3072 * g + (1024 * 1 + (c.val - 1024)) = 3072 * g + c.val; omega))
  · rw [dif_neg h1, hr]
    exact congrArg (QkvModel.proj x0 x1 x2 b s') (Fin.ext (by show 3072 * g + (1024 * 2 + (c.val - 1024 - 1024)) = 3072 * g + c.val; omega))

/-! ## The first group -/

section first

variable (b : Fin 2) (z : Fin 1) (j : Fin 8192) (e : Fin 1024)

/-- The scaled queries before their rows are shuffled. -/
theorem q0_at : val_main_v27 (F := Ideal) x0 x1 x2 (ix4 b z j e) = QkvModel.proj x0 x1 x2 b j ⟨3072 * 0 + (1024 * 0 + e.val), by omega⟩ * QkvModel.logit := by
  exact (congrArg (fun y : EReal => Ideal.div (y * Ideal.ofBits .f32 0x3E000000#32) (Ideal.log (Ideal.ofBits .f32 0x40000000#32)))
    ((residue_at (d := 1) (n := 8192) (by decide) _ shapeCasts_S2x8192x1024_S2x8192x1x1024 transposes_S2x8192x1x1024_S2x1x8192x1024_0_2_1_3 b z j e j (by have := z.isLt; omega)).trans
      (part_at x0 x1 x2 b _ 0 0 (by decide) (by decide) slices_S2x8192x3x3x1024_S2x8192x1x1x1024_0_0_0_0_0 shapeCasts_S2x8192x1x1x1024_S2x8192x1024 e))).trans (scale_eq _)

/-- The shuffle of the queries' rows. -/
theorem shuffled : val_main_v30 (F := Ideal) x0 x1 x2 (ix4 b z j e) = val_main_v27 (F := Ideal) x0 x1 x2 (ix4 b z (QkvModel.shuffle j) e) := by
  have hb := b.isLt
  have hz := z.isLt
  have hj := j.isLt
  have he := e.isLt
  rw [val_main_v30_apply]
  refine (congrArg (val_main_v29 (F := Ideal) x0 x1 x2) (a₂ := ix5 b (⟨j.val / 128, by omega⟩ : Fin 64) (⟨j.val / 32 % 4, by omega⟩ : Fin 4) (⟨j.val % 32, by omega⟩ : Fin 32) e) ?_).trans ?_
  · funext a; apply Fin.ext
    match a with
    | ⟨0, _⟩ => show (((b.val * 1 + z.val) * 8192 + j.val) * 1024 + e.val) / 8388608 = b.val; omega
    | ⟨1, _⟩ => show (((b.val * 1 + z.val) * 8192 + j.val) * 1024 + e.val) / 131072 % 64 = j.val / 128; omega
    | ⟨2, _⟩ => show (((b.val * 1 + z.val) * 8192 + j.val) * 1024 + e.val) / 32768 % 4 = j.val / 32 % 4; omega
    | ⟨3, _⟩ => show (((b.val * 1 + z.val) * 8192 + j.val) * 1024 + e.val) / 1024 % 32 = j.val % 32; omega
    | ⟨4, _⟩ => show (((b.val * 1 + z.val) * 8192 + j.val) * 1024 + e.val) % 1024 = e.val; omega
  rw [val_main_v29_apply, val_main_v28_apply]
  refine congrArg (val_main_v27 (F := Ideal) x0 x1 x2) ?_
  funext a; apply Fin.ext
  match a with
  | ⟨0, _⟩ => show ((((b.val * 64 + j.val / 128) * 32 + j.val % 32) * 4 + j.val / 32 % 4) * 1024 + e.val) / 8388608 = b.val; omega
  | ⟨1, _⟩ => show 0 = z.val; omega
  | ⟨2, _⟩ => show ((((b.val * 64 + j.val / 128) * 32 + j.val % 32) * 4 + j.val / 32 % 4) * 1024 + e.val) / 1024 % 8192 = 128 * (j.val / 128) + j.val / 32 % 4 + 4 * (j.val % 32); omega
  | ⟨3, _⟩ => show ((((b.val * 64 + j.val / 128) * 32 + j.val % 32) * 4 + j.val / 32 % 4) * 1024 + e.val) % 1024 = e.val; omega

theorem k0_at : val_main_v34 (F := Ideal) x0 x1 x2 (ix4 b z j e) = QkvModel.proj x0 x1 x2 b j ⟨3072 * 0 + (1024 * 1 + e.val), by omega⟩ :=
  (residue_at (d := 1) (n := 8192) (by decide) _ shapeCasts_S2x8192x1024_S2x8192x1x1024 transposes_S2x8192x1x1024_S2x1x8192x1024_0_2_1_3 b z j e j (by have := z.isLt; omega)).trans
    (part_at x0 x1 x2 b j 0 1 (by decide) (by decide) _ _ e)

theorem v0_at : val_main_v38 (F := Ideal) x0 x1 x2 (ix4 b z j e) = QkvModel.proj x0 x1 x2 b j ⟨3072 * 0 + (1024 * 2 + e.val), by omega⟩ :=
  (residue_at (d := 1) (n := 8192) (by decide) _ shapeCasts_S2x8192x1024_S2x8192x1x1024 transposes_S2x8192x1x1024_S2x1x8192x1024_0_2_1_3 b z j e j (by have := z.isLt; omega)).trans
    (part_at x0 x1 x2 b j 0 2 (by decide) (by decide) _ _ e)

end first

/-- The first result. -/
theorem result0 : val_main_v40 (F := Ideal) x0 x1 x2 = QkvModel.out0 x0 x1 x2 := by
  funext x
  obtain ⟨b, z, j, c, rfl⟩ : ∃ (b : Fin 2) (z : Fin 1) (j : Fin 8192) (c : Fin 3072), x = ix4 b z j c := ⟨x 0, x 1, x 2, x 3, eq_ix4 x⟩
  exact group_at x0 x1 x2 _ _ _ concatenates_S2x1x8192x1024_S2x1x8192x1024_S2x1x8192x1024_S2x1x8192x3072_d3 0 (by decide) b z j c (QkvModel.shuffle j) j (fun e => (shuffled x0 x1 x2 b z j e).trans (q0_at x0 x1 x2 b z _ e))
    (fun e => k0_at x0 x1 x2 b z j e) (fun e => v0_at x0 x1 x2 b z j e)

/-! ## The second group -/

section second

variable (b : Fin 2) (a : Fin 4) (j : Fin 2048) (e : Fin 1024)

/-- The sequence's row at place `j` of residue `a`. -/
def row1 : Fin 8192 := ⟨4 * j.val + a.val, by omega⟩

theorem q1_at : val_main_v49 (F := Ideal) x0 x1 x2 (ix4 b a j e) = QkvModel.proj x0 x1 x2 b (row1 a j) ⟨3072 * 1 + (1024 * 0 + e.val), by omega⟩ * QkvModel.logit := by
  exact (congrArg (fun y : EReal => Ideal.div (y * Ideal.ofBits .f32 0x3E000000#32) (Ideal.log (Ideal.ofBits .f32 0x40000000#32)))
    ((residue_at (d := 4) (n := 2048) (by decide) _ shapeCasts_S2x8192x1024_S2x2048x4x1024 transposes_S2x2048x4x1024_S2x4x2048x1024_0_2_1_3 b a j e (row1 a j) rfl).trans
      (part_at x0 x1 x2 b _ 1 0 (by decide) (by decide) slices_S2x8192x3x3x1024_S2x8192x1x1x1024_0_0_1_0_0 shapeCasts_S2x8192x1x1x1024_S2x8192x1024 e))).trans (scale_eq _)

theorem k1_at : val_main_v53 (F := Ideal) x0 x1 x2 (ix4 b a j e) = QkvModel.proj x0 x1 x2 b (row1 a j) ⟨3072 * 1 + (1024 * 1 + e.val), by omega⟩ :=
  (residue_at (d := 4) (n := 2048) (by decide) _ shapeCasts_S2x8192x1024_S2x2048x4x1024 transposes_S2x2048x4x1024_S2x4x2048x1024_0_2_1_3 b a j e (row1 a j) rfl).trans
    (part_at x0 x1 x2 b _ 1 1 (by decide) (by decide) _ _ e)

theorem v1_at : val_main_v57 (F := Ideal) x0 x1 x2 (ix4 b a j e) = QkvModel.proj x0 x1 x2 b (row1 a j) ⟨3072 * 1 + (1024 * 2 + e.val), by omega⟩ :=
  (residue_at (d := 4) (n := 2048) (by decide) _ shapeCasts_S2x8192x1024_S2x2048x4x1024 transposes_S2x2048x4x1024_S2x4x2048x1024_0_2_1_3 b a j e (row1 a j) rfl).trans
    (part_at x0 x1 x2 b _ 1 2 (by decide) (by decide) _ _ e)

end second

/-- The second result. -/
theorem result1 : val_main_v59 (F := Ideal) x0 x1 x2 = QkvModel.out1 x0 x1 x2 := by
  funext x
  obtain ⟨b, a, j, c, rfl⟩ : ∃ (b : Fin 2) (a : Fin 4) (j : Fin 2048) (c : Fin 3072), x = ix4 b a j c := ⟨x 0, x 1, x 2, x 3, eq_ix4 x⟩
  refine (group_at x0 x1 x2 _ _ _ concatenates_S2x4x2048x1024_S2x4x2048x1024_S2x4x2048x1024_S2x4x2048x3072_d3 1 (by decide) b a j c (row1 a j) (row1 a j) (fun e => q1_at x0 x1 x2 b a j e)
    (fun e => k1_at x0 x1 x2 b a j e) (fun e => v1_at x0 x1 x2 b a j e)).trans ?_
  rw [ite_self]
  rfl

/-! ## The third group -/

section third

variable (b : Fin 2) (a : Fin 16) (j : Fin 512) (e : Fin 1024)

/-- The sequence's row at place `j` of residue `a`. -/
def row2 : Fin 8192 := ⟨16 * j.val + a.val, by omega⟩

theorem q2_at : val_main_v68 (F := Ideal) x0 x1 x2 (ix4 b a j e) = QkvModel.proj x0 x1 x2 b (row2 a j) ⟨3072 * 2 + (1024 * 0 + e.val), by omega⟩ * QkvModel.logit := by
  exact (congrArg (fun y : EReal => Ideal.div (y * Ideal.ofBits .f32 0x3E000000#32) (Ideal.log (Ideal.ofBits .f32 0x40000000#32)))
    ((residue_at (d := 16) (n := 512) (by decide) _ shapeCasts_S2x8192x1024_S2x512x16x1024 transposes_S2x512x16x1024_S2x16x512x1024_0_2_1_3 b a j e (row2 a j) rfl).trans
      (part_at x0 x1 x2 b _ 2 0 (by decide) (by decide) slices_S2x8192x3x3x1024_S2x8192x1x1x1024_0_0_2_0_0 shapeCasts_S2x8192x1x1x1024_S2x8192x1024 e))).trans (scale_eq _)

theorem k2_at : val_main_v72 (F := Ideal) x0 x1 x2 (ix4 b a j e) = QkvModel.proj x0 x1 x2 b (row2 a j) ⟨3072 * 2 + (1024 * 1 + e.val), by omega⟩ :=
  (residue_at (d := 16) (n := 512) (by decide) _ shapeCasts_S2x8192x1024_S2x512x16x1024 transposes_S2x512x16x1024_S2x16x512x1024_0_2_1_3 b a j e (row2 a j) rfl).trans
    (part_at x0 x1 x2 b _ 2 1 (by decide) (by decide) _ _ e)

theorem v2_at : val_main_v76 (F := Ideal) x0 x1 x2 (ix4 b a j e) = QkvModel.proj x0 x1 x2 b (row2 a j) ⟨3072 * 2 + (1024 * 2 + e.val), by omega⟩ :=
  (residue_at (d := 16) (n := 512) (by decide) _ shapeCasts_S2x8192x1024_S2x512x16x1024 transposes_S2x512x16x1024_S2x16x512x1024_0_2_1_3 b a j e (row2 a j) rfl).trans
    (part_at x0 x1 x2 b _ 2 2 (by decide) (by decide) _ _ e)

end third

/-- The third result. -/
theorem result2 : val_main_v78 (F := Ideal) x0 x1 x2 = QkvModel.out2 x0 x1 x2 := by
  funext x
  obtain ⟨b, a, j, c, rfl⟩ : ∃ (b : Fin 2) (a : Fin 16) (j : Fin 512) (c : Fin 3072), x = ix4 b a j c := ⟨x 0, x 1, x 2, x 3, eq_ix4 x⟩
  refine (group_at x0 x1 x2 _ _ _ concatenates_S2x16x512x1024_S2x16x512x1024_S2x16x512x1024_S2x16x512x3072_d3 2 (by decide) b a j c (row2 a j) (row2 a j) (fun e => q2_at x0 x1 x2 b a j e)
    (fun e => k2_at x0 x1 x2 b a j e) (fun e => v2_at x0 x1 x2 b a j e)).trans ?_
  rw [ite_self]
  rfl

end Cert.QkvReferenceIdeal.Stages

end
-- ==== Proof.QkvFormEq.lean ====
/-
  The printed projection body is the structured form of it, effect by effect.
-/
module

public import proofs.«01_k».proof.Proof.QkvForm
public import Idealize.ShloMosaic.PureOps.Ideal

@[expose] public section

set_option maxRecDepth 65536
set_option maxHeartbeats 0

namespace Cert.QkvIdeal.Form

open Idealize.ShloMosaic
open scoped Idealize.ShloMosaic.ProgEq

prog_eq qkvBodyEq : Cert.QkvIdeal.cc0_qkv_projection Cert.QkvIdeal.Form.body from Cert.QkvIdeal to Cert.QkvIdeal at Ideal inferInstance by intros; rfl

end Cert.QkvIdeal.Form
-- ==== Proof.QkvClaims.lean ====
/-
  The claims about the second layer's queries, keys and values: the idealized call and its reference run and leave their
  arguments as they were, and both end with the same three groups of the same arguments.
-/
module

public import proofs.«01_k».proof.Defs
public import proofs.«01_k».proof.Proof.QkvArrays
public import proofs.«01_k».proof.Proof.QkvRefStages
public import proofs.«01_k».proof.Proof.QkvFormEq
public import Idealize.ShloMosaic.Lib.Quiescent

@[expose] public section

set_option maxRecDepth 16384

noncomputable section

open Idealize.ShloMosaic Idealize.ShloMosaic.TcCoe Idealize.SL.Sem

namespace Cert.QkvIdeal.Arrays

open Cert.QkvIdeal Cert.QkvIdeal.Gen Cert.QkvIdeal.Form

/-- At a point the printed body is the structured one. -/
theorem same (t : Fin cfg0.N) : bodyAt0 (F := Ideal) t = bodyF t := by
  unfold bodyAt0 bodyF; exact qkvBodyEq ..

end Cert.QkvIdeal.Arrays

namespace Cert.Proof.Qkv

theorem frame_pi : Cert.quiescent_QkvIdeal := fun m ρ _ =>
  (θ_run Cert.QkvIdeal.defs _ _).mono (fun _ h => ⟨fun c => (h.1 c).2.2.2, h.2⟩) (Cert.QkvIdeal.Form.run_value (F := Ideal) m ρ Cert.QkvIdeal.Arrays.same)

theorem frame_ri : Cert.quiescent_QkvReferenceIdeal := fun m ρ _ =>
  (θ_run Cert.QkvReferenceIdeal.defs _ _).mono (fun r h => ⟨fun c => (h c).2.2.2, Idealize.ShloMosaic.sem_eq_zero_of_no_sems (by decide) r.2⟩)
    (Cert.QkvReferenceIdeal.Value.run (F := Ideal) m ρ)

/-- The named number is the value its table gives it. -/
theorem preserves : Cert.preserves_Qkv_QkvIdeal :=
  IdealRules.named_const.statement Cert.QkvIdeal.κ "logit_scale" .f32 _ _ rfl

section congr

variable {a0 b0 : (⟨3, ![2, 8192, 1024]⟩ : Shape).Idx → EReal} {a1 b1 : (⟨2, ![2, 1024]⟩ : Shape).Idx → EReal}
  {a2 b2 : (⟨3, ![1, 1024, 10240]⟩ : Shape).Idx → EReal} (h0 : a0 = b0) (h1 : a1 = b1) (h2 : a2 = b2)
include h0 h1 h2

/-! The groups of equal arrays are one. -/

theorem out0_congr : QkvModel.out0 a0 a1 a2 = QkvModel.out0 b0 b1 b2 := by rw [h0, h1, h2]
theorem out1_congr : QkvModel.out1 a0 a1 a2 = QkvModel.out1 b0 b1 b2 := by rw [h0, h1, h2]
theorem out2_congr : QkvModel.out2 a0 a1 a2 = QkvModel.out2 b0 b1 b2 := by rw [h0, h1, h2]

end congr

/-- From memories with the same arguments both programs end with the same three groups. -/
theorem algebraic : Cert.algebraic_QkvIdeal_QkvReferenceIdeal := by
  intro m ρ m' ρ' _ hagree
  refine ⟨fun c => Cert.QkvIdeal.Arrays.G0 m c, fun c => Cert.QkvIdeal.Arrays.G1 m c, fun c => Cert.QkvIdeal.Arrays.G2 m c,
    (θ_run Cert.QkvIdeal.defs _ _).mono (fun _ h c => ⟨(h.1 c).1.trans (Cert.QkvIdeal.Arrays.final0 m c), (h.1 c).2.1.trans (Cert.QkvIdeal.Arrays.final1 m c),
      (h.1 c).2.2.1.trans (Cert.QkvIdeal.Arrays.final2 m c), (h.1 c).2.2.2⟩) (Cert.QkvIdeal.Form.run_value (F := Ideal) m ρ Cert.QkvIdeal.Arrays.same), ?_⟩
  refine (θ_run Cert.QkvReferenceIdeal.defs _ _).mono (fun _ h c => ⟨(h c).1.trans ?_, (h c).2.1.trans ?_, (h c).2.2.1.trans ?_, (h c).2.2.2⟩)
    (Cert.QkvReferenceIdeal.Value.run (F := Ideal) m' ρ')
  · obtain ⟨e0, e1, e2⟩ := hagree c
    refine (Cert.QkvReferenceIdeal.Read.val_main_v40_eq m' c).trans ((Cert.QkvReferenceIdeal.Stages.result0 ..).trans ?_)
    exact out0_congr e0 e1 e2
  · obtain ⟨e0, e1, e2⟩ := hagree c
    refine (Cert.QkvReferenceIdeal.Read.val_main_v59_eq m' c).trans ((Cert.QkvReferenceIdeal.Stages.result1 ..).trans ?_)
    exact out1_congr e0 e1 e2
  · obtain ⟨e0, e1, e2⟩ := hagree c
    refine (Cert.QkvReferenceIdeal.Read.val_main_v78_eq m' c).trans ((Cert.QkvReferenceIdeal.Stages.result2 ..).trans ?_)
    exact out2_congr e0 e1 e2

end Cert.Proof.Qkv

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Qkv
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvReferenceIdeal
public import proofs.«01_k».proof.Proof.Gen.QkvReferenceIdeal.Run
public import proofs.«01_k».proof.Proof.Gen.QkvReferenceIdeal.Read
public import proofs.«01_k».proof.Proof.FrameP
public import proofs.«01_k».proof.Proof.Claims
public import proofs.«01_k».proof.Proof.QkvFrameP
public import proofs.«01_k».proof.Proof.QkvClaims

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Qkv.Gen.facts, Cert.QkvIdeal.Gen.facts, Cert.QkvReferenceIdeal.Gen.facts,
  Cert.KernelIdeal.Form.frame_p, frame_pi, frame_ri, Cert.QkvIdeal.Form.frame_p, Qkv.frame_pi, Qkv.frame_ri,
  preserves, algebraic, Qkv.preserves, Qkv.algebraic⟩

end Cert.Proof

end
